-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_routed.lean ====
abbrev S96 : Shape := ⟨1, ![96]⟩
abbrev S1 : Shape := ⟨1, ![1]⟩
abbrev S196608x128 : Shape := ⟨2, ![196608, 128]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S96 32) (main_arg1 : IVec S96 32) (main_arg2 : IVec S1 32) (main_arg3 : FVec F S196608x128 .f32) (main_arg4 : FVec F S4x16x1024x512 .f32) (main_arg5 : FVec F S4x16x1024x512 .f32) (main_arg6 : FVec F S4x16x512x1024 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 16#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_c_2 : IVec S_ 32 := constantI S_ 32 0#32
  let main_v6 : IVec S96 32 := broadcastInDim S96 ![] bcast_S_S96 main_c_2
  let main_v7 : IVec S96 1 := cmpi .sge main_arg1 main_v6
  let main_c_3 : IVec S_ 32 := constantI S_ 32 16#32
  let main_v8 : IVec S96 32 := broadcastInDim S96 ![] bcast_S_S96 main_c_3
  let main_v9 : IVec S96 1 := cmpi .slt main_arg1 main_v8
  let main_v10 : IVec S96 1 := andi main_v7 main_v9
  let main_c_4 : IVec S_ 1 := constantI S_ 1 1#1
  let main_v11 : IVec S_ 1 := (fun x v => Host.reduce IntOp.andi x v reducesTo_S96_S_d0 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg2 main_v13
  let main_c_6 : IVec S_ 1 := constantI S_ 1 1#1
  let main_v15 : IVec S_ 1 := (fun x v => Host.reduce IntOp.andi x v reducesTo_S1_S_d0 h_S_) main_v14 main_c_6
  fn_part1 (F := F) main_v12 main_v15
-- ==== Kernel.lean ====
abbrev S96 : Shape := ⟨1, ![96]⟩
abbrev S1 : Shape := ⟨1, ![1]⟩
abbrev S196608x128 : Shape := ⟨2, ![196608, 128]⟩
abbrev S4x16x1024x512 : Shape := ⟨4, ![4, 16, 1024, 512]⟩
abbrev S4x16x512x1024 : Shape := ⟨4, ![4, 16, 512, 1024]⟩
abbrev S_ : Shape := ⟨0, ![]⟩
abbrev S96x1 : Shape := ⟨2, ![96, 1]⟩
abbrev S393216x128 : Shape := ⟨2, ![393216, 128]⟩
abbrev S2048x128 : Shape := ⟨2, ![2048, 128]⟩
abbrev S1x1x1024x512 : Shape := ⟨4, ![1, 1, 1024, 512]⟩
abbrev S1x1x512x1024 : Shape := ⟨4, ![1, 1, 512, 1024]⟩
abbrev S4096x128 : Shape := ⟨2, ![4096, 128]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 18
  | .vmem => 16
  | .smem => 3
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S196608x128, .f32⟩
  | .hbm, ⟨3, _⟩ => ⟨S4x16x1024x512, .f32⟩
  | .hbm, ⟨4, _⟩ => ⟨S4x16x1024x512, .f32⟩
  | .hbm, ⟨5, _⟩ => ⟨S4x16x512x1024, .f32⟩
  | .hbm, ⟨6, _⟩ => ⟨S4x16x1024x512, .bf16⟩
  | .hbm, ⟨7, _⟩ => ⟨S4x16x1024x512, .bf16⟩
  | .hbm, ⟨8, _⟩ => ⟨S4x16x512x1024, .bf16⟩
  | .hbm, ⟨9, _⟩ => ⟨S96, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S96, .i32⟩
  | .hbm, ⟨14, _⟩ => ⟨S96, .i32⟩
  | .hbm, ⟨15, _⟩ => ⟨S96x1, .i32⟩
  | .hbm, ⟨16, _⟩ => ⟨S96x1, .i32⟩
  | .hbm, ⟨17, _⟩ => ⟨S393216x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S4096x128, .f32⟩
  | .local _ .vmem, ⟨15, _⟩ => ⟨S4096x128, .f32⟩
  | .local _ .smem, ⟨0, _⟩ => ⟨S96, .i32⟩
  | .local _ .smem, ⟨1, _⟩ => ⟨S96, .i32⟩
  | .local _ .smem, ⟨2, _⟩ => ⟨S1, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v10 : Ref sig .tc := ⟨.hbm, 16, rfl⟩
abbrev main_v12 : Ref sig .tc := ⟨.hbm, 17, rfl⟩
abbrev main_v9 : Ref sig .tc := ⟨.smem, 0, rfl⟩
abbrev main_v11 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![96], ![false]⟩

abbrev pre0 : Pipeline.Prefetch sig := ⟨3, ![main_v9.idx, main_v11.idx, main_arg2.idx], fun | 0 => main_v9.names | 1 => main_v11.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S96 : Shape := ⟨1, ![96]⟩
abbrev S1 : Shape := ⟨1, ![1]⟩
abbrev S196608x128 : Shape := ⟨2, ![196608, 128]⟩
abbrev S4x16x1024x512 : Shape := ⟨4, ![4, 16, 1024, 512]⟩
abbrev S4x16x512x1024 : Shape := ⟨4, ![4, 16, 512, 1024]⟩
abbrev S24576x1024 : Shape := ⟨2, ![24576, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S16x512x24576 : Shape := ⟨3, ![16, 512, 24576]⟩
abbrev S16x24576x512 : Shape := ⟨3, ![16, 24576, 512]⟩
abbrev S_ : Shape := ⟨0, ![]⟩
abbrev S16x24576x1024 : Shape := ⟨3, ![16, 24576, 1024]⟩
abbrev S96x1x1 : Shape := ⟨3, ![96, 1, 1]⟩
abbrev S96x1 : Shape := ⟨2, ![96, 1]⟩
abbrev S96x2 : Shape := ⟨2, ![96, 2]⟩
abbrev S96x2x1 : Shape := ⟨3, ![96, 2, 1]⟩
abbrev S16 : Shape := ⟨1, ![16]⟩
abbrev S1x1x16 : Shape := ⟨3, ![1, 1, 16]⟩
abbrev S96x2x16 : Shape := ⟨3, ![96, 2, 16]⟩
abbrev S96x256x2x16 : Shape := ⟨4, ![96, 256, 2, 16]⟩
abbrev S24576x2x16 : Shape := ⟨3, ![24576, 2, 16]⟩
abbrev S24576x2x1024 : Shape := ⟨3, ![24576, 2, 1024]⟩
abbrev S393216x128 : Shape := ⟨2, ![393216, 128]⟩

abbrev nBuf : Space → Nat
  | .hbm => 54
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S1, .i32⟩
  | .hbm, ⟨3, _⟩ => ⟨S196608x128, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S24576x1024, .f32⟩
  | .hbm, ⟨8, _⟩ => ⟨S1x16x1024x512, .f32⟩
  | .hbm, ⟨9, _⟩ => ⟨S16x1024x512, .f32⟩
  | .hbm, ⟨10, _⟩ => ⟨S1x16x1024x512, .f32⟩
  | .hbm, ⟨11, _⟩ => ⟨S16x1024x512, .f32⟩
  | .hbm, ⟨12, _⟩ => ⟨S1x16x512x1024, .f32⟩
  | .hbm, ⟨13, _⟩ => ⟨S16x512x1024, .f32⟩
  | .hbm, ⟨14, _⟩ => ⟨S16x512x24576, .f32⟩
  | .hbm, ⟨15, _⟩ => ⟨S16x24576x512, .f32⟩
  | .hbm, ⟨16, _⟩ => ⟨S16x24576x512, .f32⟩
  | .hbm, ⟨17, _⟩ => ⟨S16x24576x512, .f32⟩
  | .hbm, ⟨18, _⟩ => ⟨S_, .f32⟩
  | .hbm, ⟨19, _⟩ => ⟨S16x24576x512, .f32⟩
  | .hbm, ⟨20, _⟩ => ⟨S16x24576x512, .f32⟩
  | .hbm, ⟨21, _⟩ => ⟨S_, .f32⟩
  | .hbm, ⟨22, _⟩ => ⟨S16x24576x512, .f32⟩
  | .hbm, ⟨23, _⟩ => ⟨S16x24576x512, .f32⟩
  | .hbm, ⟨24, _⟩ => ⟨S16x24576x512, .f32⟩
  | .hbm, ⟨25, _⟩ => ⟨S16x512x24576, .f32⟩
  | .hbm, ⟨26, _⟩ => ⟨S16x24576x512, .f32⟩
  | .hbm, ⟨27, _⟩ => ⟨S16x24576x512, .f32⟩
  | .hbm, ⟨28, _⟩ => ⟨S16x24576x1024, .f32⟩
  | .hbm, ⟨29, _⟩ => ⟨S96, .i32⟩
  | .hbm, ⟨30, _⟩ => ⟨S_, .i32⟩
  | .hbm, ⟨31, _⟩ => ⟨S96, .i32⟩
  | .hbm, ⟨32, _⟩ => ⟨S96, .i1⟩
  | .hbm, ⟨33, _⟩ => ⟨S96x1x1, .i1⟩
  | .hbm, ⟨34, _⟩ => ⟨S96x1, .i32⟩
  | .hbm, ⟨35, _⟩ => ⟨S96x1, .i32⟩
  | .hbm, ⟨36, _⟩ => ⟨S96x2, .i32⟩
  | .hbm, ⟨37, _⟩ => ⟨S96x2x1, .i32⟩
  | .hbm, ⟨38, _⟩ => ⟨S16, .i32⟩
  | .hbm, ⟨39, _⟩ => ⟨S1x1x16, .i32⟩
  | .hbm, ⟨40, _⟩ => ⟨S96x2x16, .i32⟩
  | .hbm, ⟨41, _⟩ => ⟨S96x2x16, .i32⟩
  | .hbm, ⟨42, _⟩ => ⟨S96x2x16, .i1⟩
  | .hbm, ⟨43, _⟩ => ⟨S96x2x16, .i1⟩
  | .hbm, ⟨44, _⟩ => ⟨S96x2x16, .i1⟩
  | .hbm, ⟨45, _⟩ => ⟨S_, .f32⟩
  | .hbm, ⟨46, _⟩ => ⟨S_, .f32⟩
  | .hbm, ⟨47, _⟩ => ⟨S96x2x16, .f32⟩
  | .hbm, ⟨48, _⟩ => ⟨S96x2x16, .f32⟩
  | .hbm, ⟨49, _⟩ => ⟨S96x2x16, .f32⟩
  | .hbm, ⟨50, _⟩ => ⟨S96x256x2x16, .f32⟩
  | .hbm, ⟨51, _⟩ => ⟨S24576x2x16, .f32⟩
  | .hbm, ⟨52, _⟩ => ⟨S24576x2x1024, .f32⟩
  | .hbm, ⟨53, _⟩ => ⟨S393216x128, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel2.lean ====
abbrev S8x2304x1024 : Shape := ⟨3, ![8, 2304, 1024]⟩
abbrev S1024x12288 : Shape := ⟨2, ![1024, 12288]⟩
abbrev S1024x640 : Shape := ⟨2, ![1024, 640]⟩
abbrev S8x2304x12288 : Shape := ⟨3, ![8, 2304, 12288]⟩
abbrev S8x2304x640 : Shape := ⟨3, ![8, 2304, 640]⟩
abbrev S1x2304x1024 : Shape := ⟨3, ![1, 2304, 1024]⟩
abbrev S1024x1024 : Shape := ⟨2, ![1024, 1024]⟩
abbrev S1x2304x640 : Shape := ⟨3, ![1, 2304, 640]⟩
abbrev S2304x1024 : Shape := ⟨2, ![2304, 1024]⟩
abbrev S2304x640 : Shape := ⟨2, ![2304, 640]⟩

abbrev nBuf : Space → Nat
  | .hbm => 5
  | .vmem => 9
  | .smem => 0
  | _ => 0

abbrev bufTy : (tb : Table) → Fin (tcTables nBuf tb) → BufTy
  | .hbm, ⟨0, _⟩ => ⟨S8x2304x1024, .bf16⟩
  | .hbm, ⟨1, _⟩ => ⟨S1024x12288, .bf16⟩
  | .hbm, ⟨2, _⟩ => ⟨S1024x640, .bf16⟩
  | .hbm, ⟨3, _⟩ => ⟨S8x2304x12288, .bf16⟩
  | .hbm, ⟨4, _⟩ => ⟨S8x2304x640, .f32⟩
  | .local _ .vmem, ⟨0, _⟩ => ⟨S1x2304x1024, .bf16⟩
  | .local _ .vmem, ⟨1, _⟩ => ⟨S1x2304x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x640, .bf16⟩
  | .local _ .vmem, ⟨5, _⟩ => ⟨S1x2304x1024, .bf16⟩
  | .local _ .vmem, ⟨6, _⟩ => ⟨S1x2304x1024, .bf16⟩
  | .local _ .vmem, ⟨7, _⟩ => ⟨S1x2304x640, .f32⟩
  | .local _ .vmem, ⟨8, _⟩ => ⟨S1x2304x640, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2304x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x2304x1024 : Shape := ⟨3, ![8, 2304, 1024]⟩
abbrev S1024x12288 : Shape := ⟨2, ![1024, 12288]⟩
abbrev S1024x640 : Shape := ⟨2, ![1024, 640]⟩
abbrev S8x2304x12288 : Shape := ⟨3, ![8, 2304, 12288]⟩
abbrev S8x2304x640 : Shape := ⟨3, ![8, 2304, 640]⟩

abbrev nBuf : Space → Nat
  | .hbm => 9
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S1024x12288, .bf16⟩
  | .hbm, ⟨2, _⟩ => ⟨S1024x640, .bf16⟩
  | .hbm, ⟨3, _⟩ => ⟨S8x2304x1024, .f32⟩
  | .hbm, ⟨4, _⟩ => ⟨S1024x12288, .f32⟩
  | .hbm, ⟨5, _⟩ => ⟨S1024x640, .f32⟩
  | .hbm, ⟨6, _⟩ => ⟨S8x2304x12288, .f32⟩
  | .hbm, ⟨7, _⟩ => ⟨S8x2304x12288, .bf16⟩
  | .hbm, ⟨8, _⟩ => ⟨S8x2304x640, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8x2304x1024 : Shape := ⟨3, ![8, 2304, 1024]⟩
abbrev S8x256x1024 : Shape := ⟨3, ![8, 256, 1024]⟩
abbrev S8x2048x1024 : Shape := ⟨3, ![8, 2048, 1024]⟩
abbrev S8x2304x2048 : Shape := ⟨3, ![8, 2304, 2048]⟩
abbrev S8x2304x12288 : Shape := ⟨3, ![8, 2304, 12288]⟩
abbrev S8x2x8x1024 : Shape := ⟨4, ![8, 2, 8, 1024]⟩
abbrev S1x1024 : Shape := ⟨2, ![1, 1024]⟩
abbrev S1x2048 : Shape := ⟨2, ![1, 2048]⟩
abbrev S1024x1024 : Shape := ⟨2, ![1024, 1024]⟩
abbrev S2048x1024 : Shape := ⟨2, ![2048, 1024]⟩
abbrev S16x1024 : Shape := ⟨2, ![16, 1024]⟩
abbrev S16x1 : Shape := ⟨2, ![16, 1]⟩
abbrev S147456x128 : Shape := ⟨2, ![147456, 128]⟩
abbrev S8x18432 : Shape := ⟨2, ![8, 18432]⟩
abbrev S18432x128 : Shape := ⟨2, ![18432, 128]⟩
abbrev S32x128 : Shape := ⟨2, ![32, 128]⟩
abbrev S1x256x1024 : Shape := ⟨3, ![1, 256, 1024]⟩
abbrev S1x256x2048 : Shape := ⟨3, ![1, 256, 2048]⟩
abbrev S1x1x8x1024 : Shape := ⟨4, ![1, 1, 8, 1024]⟩
abbrev S2048x128 : Shape := ⟨2, ![2048, 128]⟩
abbrev S8x256 : Shape := ⟨2, ![8, 256]⟩
abbrev S256x128 : Shape := ⟨2, ![256, 128]⟩
abbrev S32x1 : Shape := ⟨2, ![32, 1]⟩
abbrev S8x1024 : Shape := ⟨2, ![8, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S16x256 : Shape := ⟨2, ![16, 256]⟩
abbrev S1x256 : Shape := ⟨2, ![1, 256]⟩
abbrev S32x256 : Shape := ⟨2, ![32, 256]⟩
abbrev S256x256 : Shape := ⟨2, ![256, 256]⟩
abbrev S32 : Shape := ⟨1, ![32]⟩
abbrev S6x256 : Shape := ⟨2, ![6, 256]⟩
abbrev S8x128 : Shape := ⟨2, ![8, 128]⟩

abbrev nBuf : Space → Nat
  | .hbm => 21
  | .vmem => 38
  | .smem => 0
  | _ => 0

abbrev bufTy : (tb : Table) → Fin (tcTables nBuf tb) → BufTy
  | .hbm, ⟨0, _⟩ => ⟨S8x2304x1024, .bf16⟩
  | .hbm, ⟨1, _⟩ => ⟨S8x256x1024, .bf16⟩
  | .hbm, ⟨2, _⟩ => ⟨S8x2048x1024, .bf16⟩
  | .hbm, ⟨3, _⟩ => ⟨S8x2304x2048, .bf16⟩
  | .hbm, ⟨4, _⟩ => ⟨S8x2304x12288, .bf16⟩
  | .hbm, ⟨5, _⟩ => ⟨S8x2304x1024, .f32⟩
  | .hbm, ⟨6, _⟩ => ⟨S8x2x8x1024, .f32⟩
  | .hbm, ⟨7, _⟩ => ⟨S1x1024, .f32⟩
  | .hbm, ⟨8, _⟩ => ⟨S1x2048, .f32⟩
  | .hbm, ⟨9, _⟩ => ⟨S1024x1024, .bf16⟩
  | .hbm, ⟨10, _⟩ => ⟨S1024x1024, .bf16⟩
  | .hbm, ⟨11, _⟩ => ⟨S2048x1024, .bf16⟩
  | .hbm, ⟨12, _⟩ => ⟨S1024x1024, .bf16⟩
  | .hbm, ⟨13, _⟩ => ⟨S16x1024, .f32⟩
  | .hbm, ⟨14, _⟩ => ⟨S16x1, .f32⟩
  | .hbm, ⟨15, _⟩ => ⟨S8x2304x1024, .f32⟩
  | .hbm, ⟨16, _⟩ => ⟨S147456x128, .f32⟩
  | .hbm, ⟨17, _⟩ => ⟨S8x18432, .i32⟩
  | .hbm, ⟨18, _⟩ => ⟨S8x18432, .f32⟩
  | .hbm, ⟨19, _⟩ => ⟨S18432x128, .f32⟩
  | .hbm, ⟨20, _⟩ => ⟨S32x128, .i32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x1x8x1024, .f32⟩
  | .local _ .vmem, ⟨17, _⟩ => ⟨S1x1x8x1024, .f32⟩
  | .local _ .vmem, ⟨18, _⟩ => ⟨S1x1024, .f32⟩
  | .local _ .vmem, ⟨19, _⟩ => ⟨S1x2048, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S1024x1024, .bf16⟩
  | .local _ .vmem, ⟨24, _⟩ => ⟨S16x1024, .f32⟩
  | .local _ .vmem, ⟨25, _⟩ => ⟨S16x1, .f32⟩
  | .local _ .vmem, ⟨26, _⟩ => ⟨S1x256x1024, .f32⟩
  | .local _ .vmem, ⟨27, _⟩ => ⟨S1x256x1024, .f32⟩
  | .local _ .vmem, ⟨28, _⟩ => ⟨S2048x128, .f32⟩
  | .local _ .vmem, ⟨29, _⟩ => ⟨S2048x128, .f32⟩
  | .local _ .vmem, ⟨30, _⟩ => ⟨S8x256, .i32⟩
  | .local _ .vmem, ⟨31, _⟩ => ⟨S8x256, .i32⟩
  | .local _ .vmem, ⟨32, _⟩ => ⟨S8x256, .f32⟩
  | .local _ .vmem, ⟨33, _⟩ => ⟨S8x256, .f32⟩
  | .local _ .vmem, ⟨34, _⟩ => ⟨S256x128, .f32⟩
  | .local _ .vmem, ⟨35, _⟩ => ⟨S256x128, .f32⟩
  | .local _ .vmem, ⟨36, _⟩ => ⟨S32x128, .i32⟩
  | .local _ .vmem, ⟨37, _⟩ => ⟨S32x1, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 1 := Scalar.cmpi .slt v1 c4_i32
  let c2_i32 : BitVec 32 := 2#32
  let v3 : BitVec 32 := Scalar.muli c2_i32 v1
  let c7_i32 : BitVec 32 := 7#32
  let v4 : BitVec 32 := Scalar.subi c7_i32 v1
  let c2_i32_0 : BitVec 32 := 2#32
  let v5 : BitVec 32 := Scalar.muli c2_i32_0 v4
  let c1_i32_1 : BitVec 32 := 1#32
  let v6 : BitVec 32 := Scalar.addi v5 c1_i32_1
  let v7 : BitVec 32 := Scalar.select v2 v3 v6
  let c0_i32_2 : BitVec 32 := 0#32
  let c0_i32_3 : BitVec 32 := 0#32
  ![arg0.toNat, v7.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

def cc0_transform_20 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

def cc0_transform_21 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x256 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S8x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S32x128 .i32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== Reference3Ideal.lean ====
abbrev S8x2304x1024 : Shape := ⟨3, ![8, 2304, 1024]⟩
abbrev S8x256x1024 : Shape := ⟨3, ![8, 256, 1024]⟩
abbrev S8x2048x1024 : Shape := ⟨3, ![8, 2048, 1024]⟩
abbrev S8x2304x2048 : Shape := ⟨3, ![8, 2304, 2048]⟩
abbrev S8x2304x12288 : Shape := ⟨3, ![8, 2304, 12288]⟩
abbrev S8x2x8x1024 : Shape := ⟨4, ![8, 2, 8, 1024]⟩
abbrev S1x1024 : Shape := ⟨2, ![1, 1024]⟩
abbrev S1x2048 : Shape := ⟨2, ![1, 2048]⟩
abbrev S1024x1024 : Shape := ⟨2, ![1024, 1024]⟩
abbrev S2048x1024 : Shape := ⟨2, ![2048, 1024]⟩
abbrev S16x1024 : Shape := ⟨2, ![16, 1024]⟩
abbrev S16x1 : Shape := ⟨2, ![16, 1]⟩
abbrev S8x4x2x256x1024 : Shape := ⟨5, ![8, 4, 2, 256, 1024]⟩
abbrev S8x4x1x256x1024 : Shape := ⟨5, ![8, 4, 1, 256, 1024]⟩
abbrev S8x4x256x1024 : Shape := ⟨4, ![8, 4, 256, 1024]⟩
abbrev S8x1024x1024 : Shape := ⟨3, ![8, 1024, 1024]⟩
abbrev S_ : Shape := ⟨0, ![]⟩
abbrev S8x2304 : Shape := ⟨2, ![8, 2304]⟩
abbrev S8x2304x1 : Shape := ⟨3, ![8, 2304, 1]⟩
abbrev S1x1x2048 : Shape := ⟨3, ![1, 1, 2048]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S147456x128 : Shape := ⟨2, ![147456, 128]⟩

abbrev nBuf : Space → Nat
  | .hbm => 130
  | .vmem => 0
  | .smem => 0
  | _ => 0

abbrev hbmTy0_0 (i : Nat) : BufTy := match i % 128 with
  | 0 => ⟨S8x2304x1024, .bf16⟩
  | 1 => ⟨S8x256x1024, .bf16⟩
  | 2 => ⟨S8x2048x1024, .bf16⟩
  | 3 => ⟨S8x2304x2048, .bf16⟩
  | 4 => ⟨S8x2304x12288, .bf16⟩
  | 5 => ⟨S8x2304x1024, .f32⟩
  | 6 => ⟨S8x2x8x1024, .f32⟩
  | 7 => ⟨S1x1024, .f32⟩
  | 8 => ⟨S1x2048, .f32⟩
  | 9 => ⟨S1024x1024, .bf16⟩
  | 10 => ⟨S1024x1024, .bf16⟩
  | 11 => ⟨S2048x1024, .bf16⟩
  | 12 => ⟨S1024x1024, .bf16⟩
  | 13 => ⟨S16x1024, .f32⟩
  | 14 => ⟨S16x1, .f32⟩
  | 15 => ⟨S8x2304x1024, .f32⟩
  | 16 => ⟨S8x256x1024, .f32⟩
  | 17 => ⟨S8x2048x1024, .f32⟩
  | 18 => ⟨S8x2304x2048, .f32⟩
  | 19 => ⟨S8x2304x12288, .f32⟩
  | 20 => ⟨S1024x1024, .f32⟩
  | 21 => ⟨S1024x1024, .f32⟩
  | 22 => ⟨S2048x1024, .f32⟩
  | 23 => ⟨S1024x1024, .f32⟩
  | 24 => ⟨S8x4x2x256x1024, .f32⟩
  | 25 => ⟨S8x4x1x256x1024, .f32⟩
  | 26 => ⟨S8x4x256x1024, .f32⟩
  | 27 => ⟨S8x1024x1024, .f32⟩
  | 28 => ⟨S8x4x1x256x1024, .f32⟩
  | 29 => ⟨S8x4x1x256x1024, .f32⟩
  | 30 => ⟨S8x4x256x1024, .f32⟩
  | 31 => ⟨S8x1024x1024, .f32⟩
  | 32 => ⟨S8x2304x1024, .f32⟩
  | 33 => ⟨S8x2304x2048, .f32⟩
  | 34 => ⟨S_, .f32⟩
  | 35 => ⟨S8x2304, .f32⟩
  | 36 => ⟨S8x2304x1, .f32⟩
  | 37 => ⟨S_, .f32⟩
  | 38 => ⟨S8x2304x1, .f32⟩
  | 39 => ⟨S8x2304x1, .f32⟩
  | 40 => ⟨S_, .f32⟩
  | 41 => ⟨S8x2304x1, .f32⟩
  | 42 => ⟨S8x2304x1, .f32⟩
  | 43 => ⟨S8x2304x1, .f32⟩
  | 44 => ⟨S8x2304x2048, .f32⟩
  | 45 => ⟨S8x2304x2048, .f32⟩
  | 46 => ⟨S1x1x2048, .f32⟩
  | 47 => ⟨S8x2304x2048, .f32⟩
  | 48 => ⟨S8x2304x2048, .f32⟩
  | 49 => ⟨S8x2304x1024, .f32⟩
  | 50 => ⟨S8x2304x1024, .f32⟩
  | 51 => ⟨S8x2304x1024, .f32⟩
  | 52 => ⟨S_, .f32⟩
  | 53 => ⟨S8x2304x1024, .f32⟩
  | 54 => ⟨S8x2304x1024, .f32⟩
  | 55 => ⟨S_, .f32⟩
  | 56 => ⟨S8x2304x1024, .f32⟩
  | 57 => ⟨S8x2304x1024, .f32⟩
  | 58 => ⟨S8x2304x1024, .f32⟩
  | 59 => ⟨S8x2304x1024, .f32⟩
  | 60 => ⟨S8x2304x1024, .f32⟩
  | 61 => ⟨S8x2304x1024, .f32⟩
  | 62 => ⟨S8x2304x1024, .f32⟩
  | 63 => ⟨S_, .f32⟩
  | 64 => ⟨S8x2304x1024, .f32⟩
  | 65 => ⟨S8x2304x1024, .f32⟩
  | 66 => ⟨S_, .f32⟩
  | 67 => ⟨S8x2304x1024, .f32⟩
  | 68 => ⟨S8x2304x1024, .f32⟩
  | 69 => ⟨S8x2304x1024, .f32⟩
  | 70 => ⟨S8x2304x1024, .f32⟩
  | 71 => ⟨S8x2304x1024, .f32⟩
  | 72 => ⟨S8x2304x1024, .f32⟩
  | 73 => ⟨S8x2304x1024, .f32⟩
  | 74 => ⟨S8x2304x1024, .f32⟩
  | 75 => ⟨S_, .f32⟩
  | 76 => ⟨S8x2304x1024, .f32⟩
  | 77 => ⟨S8x2304x1024, .f32⟩
  | 78 => ⟨S_, .f32⟩
  | 79 => ⟨S8x2304x1024, .f32⟩
  | 80 => ⟨S8x2304x1024, .f32⟩
  | 81 => ⟨S8x2304x1024, .f32⟩
  | 82 => ⟨S8x2304x1024, .f32⟩
  | 83 => ⟨S8x2304x1024, .f32⟩
  | 84 => ⟨S8x1x1x1024, .f32⟩
  | 85 => ⟨S8x1x1024, .f32⟩
  | 86 => ⟨S8x256x1024, .f32⟩
  | 87 => ⟨S8x1x1x1024, .f32⟩
  | 88 => ⟨S8x1x1024, .f32⟩
  | 89 => ⟨S8x2048x1024, .f32⟩
  | 90 => ⟨S8x2304x1024, .f32⟩
  | 91 => ⟨S8x1x1x1024, .f32⟩
  | 92 => ⟨S8x1x1024, .f32⟩
  | 93 => ⟨S8x256x1024, .f32⟩
  | 94 => ⟨S8x1x1x1024, .f32⟩
  | 95 => ⟨S8x1x1024, .f32⟩
  | 96 => ⟨S8x2048x1024, .f32⟩
  | 97 => ⟨S8x2304x1024, .f32⟩
  | 98 => ⟨S8x1x1x1024, .f32⟩
  | 99 => ⟨S8x1x1024, .f32⟩
  | 100 => ⟨S8x256x1024, .f32⟩
  | 101 => ⟨S8x1x1x1024, .f32⟩
  | 102 => ⟨S8x1x1024, .f32⟩
  | 103 => ⟨S8x2048x1024, .f32⟩
  | 104 => ⟨S8x2304x1024, .f32⟩
  | 105 => ⟨S8x2304x1024, .f32⟩
  | 106 => ⟨S8x2304x1024, .f32⟩
  | 107 => ⟨S8x2304x1024, .f32⟩
  | 108 => ⟨S8x2304x1024, .f32⟩
  | 109 => ⟨S_, .f32⟩
  | 110 => ⟨S8x2304, .f32⟩
  | 111 => ⟨S8x2304x1, .f32⟩
  | 112 => ⟨S_, .f32⟩
  | 113 => ⟨S8x2304x1, .f32⟩
  | 114 => ⟨S8x2304x1, .f32⟩
  | 115 => ⟨S_, .f32⟩
  | 116 => ⟨S8x2304x1, .f32⟩
  | 117 => ⟨S8x2304x1, .f32⟩
  | 118 => ⟨S8x2304x1, .f32⟩
  | 119 => ⟨S8x2304x1024, .f32⟩
  | 120 => ⟨S8x2304x1024, .f32⟩
  | 121 => ⟨S1x1x1024, .f32⟩
  | 122 => ⟨S8x2304x1024, .f32⟩
  | 123 => ⟨S8x2304x1024, .f32⟩
  | 124 => ⟨S_, .f32⟩
  | 125 => ⟨S8x2304x1024, .f32⟩
  | 126 => ⟨S8x2304x1024, .f32⟩
  | 127 => ⟨S8x2304x1024, .f32⟩
  | _ => ⟨S8x2304x1024, .bf16⟩

abbrev hbmTy0_1 (i : Nat) : BufTy := match i % 128 with
  | 0 => ⟨S8x2304x1024, .f32⟩
  | 1 => ⟨S147456x128, .f32⟩
  | _ => ⟨S8x2304x1024, .bf16⟩

abbrev hbmTy (i : Nat) : BufTy := match i / 128 with
  | 0 => hbmTy0_0 i
  | 1 => hbmTy0_1 i
  | _ => ⟨S8x2304x1024, .bf16⟩

abbrev bufTy : (tb : Table) → Fin (tcTables nBuf tb) → BufTy
  | .hbm, ⟨i, _⟩ => hbmTy i
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_8 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_cst_10 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_11 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== Kernel4.lean ====
abbrev S16x1024 : Shape := ⟨2, ![16, 1024]⟩
abbrev S4x1024x6144 : Shape := ⟨3, ![4, 1024, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x1x6144, .f32⟩
  | .hbm, ⟨3, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S4x1024x6144 : Shape := ⟨3, ![4, 1024, 6144]⟩
abbrev S4x1x6144 : Shape := ⟨3, ![4, 1, 6144]⟩
abbrev S_ : Shape := ⟨0, ![]⟩
abbrev S4x6144x16 : Shape := ⟨3, ![4, 6144, 16]⟩
abbrev S4x16x6144 : Shape := ⟨3, ![4, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x16x6144, .f32⟩
  | .hbm, ⟨15, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x2304x1024 : Shape := ⟨3, ![8, 2304, 1024]⟩
abbrev S1x1024 : Shape := ⟨2, ![1, 1024]⟩
abbrev S8x2x8x1024 : Shape := ⟨4, ![8, 2, 8, 1024]⟩
abbrev S1x256x1024 : Shape := ⟨3, ![1, 256, 1024]⟩
abbrev S1x1x8x1024 : Shape := ⟨4, ![1, 1, 8, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2304x1024, .f32⟩
  | .hbm, ⟨1, _⟩ => ⟨S1x1024, .f32⟩
  | .hbm, ⟨2, _⟩ => ⟨S8x2x8x1024, .f32⟩
  | .hbm, ⟨3, _⟩ => ⟨S8x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x256x1024, .bf16⟩
  | .local _ .vmem, ⟨6, _⟩ => ⟨S1x256x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x2304x1024 : Shape := ⟨3, ![8, 2304, 1024]⟩
abbrev S1x1024 : Shape := ⟨2, ![1, 1024]⟩
abbrev S8x2x8x1024 : Shape := ⟨4, ![8, 2, 8, 1024]⟩
abbrev S8x1x1x1024 : Shape := ⟨4, ![8, 1, 1, 1024]⟩
abbrev S8x1x1024 : Shape := ⟨3, ![8, 1, 1024]⟩
abbrev S8x256x1024 : Shape := ⟨3, ![8, 256, 1024]⟩
abbrev S8x2048x1024 : Shape := ⟨3, ![8, 2048, 1024]⟩
abbrev S_ : Shape := ⟨0, ![]⟩
abbrev S8x2304 : Shape := ⟨2, ![8, 2304]⟩
abbrev S8x2304x1 : Shape := ⟨3, ![8, 2304, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S1x1024, .f32⟩
  | .hbm, ⟨2, _⟩ => ⟨S8x2x8x1024, .f32⟩
  | .hbm, ⟨3, _⟩ => ⟨S8x1x1x1024, .f32⟩
  | .hbm, ⟨4, _⟩ => ⟨S8x1x1024, .f32⟩
  | .hbm, ⟨5, _⟩ => ⟨S8x256x1024, .f32⟩
  | .hbm, ⟨6, _⟩ => ⟨S8x1x1x1024, .f32⟩
  | .hbm, ⟨7, _⟩ => ⟨S8x1x1024, .f32⟩
  | .hbm, ⟨8, _⟩ => ⟨S8x2048x1024, .f32⟩
  | .hbm, ⟨9, _⟩ => ⟨S8x2304x1024, .f32⟩
  | .hbm, ⟨10, _⟩ => ⟨S8x1x1x1024, .f32⟩
  | .hbm, ⟨11, _⟩ => ⟨S8x1x1024, .f32⟩
  | .hbm, ⟨12, _⟩ => ⟨S8x256x1024, .f32⟩
  | .hbm, ⟨13, _⟩ => ⟨S8x1x1x1024, .f32⟩
  | .hbm, ⟨14, _⟩ => ⟨S8x1x1024, .f32⟩
  | .hbm, ⟨15, _⟩ => ⟨S8x2048x1024, .f32⟩
  | .hbm, ⟨16, _⟩ => ⟨S8x2304x1024, .f32⟩
  | .hbm, ⟨17, _⟩ => ⟨S8x2304x1024, .f32⟩
  | .hbm, ⟨18, _⟩ => ⟨S_, .f32⟩
  | .hbm, ⟨19, _⟩ => ⟨S8x2304, .f32⟩
  | .hbm, ⟨20, _⟩ => ⟨S8x2304x1, .f32⟩
  | .hbm, ⟨21, _⟩ => ⟨S_, .f32⟩
  | .hbm, ⟨22, _⟩ => ⟨S8x2304x1, .f32⟩
  | .hbm, ⟨23, _⟩ => ⟨S8x2304x1, .f32⟩
  | .hbm, ⟨24, _⟩ => ⟨S_, .f32⟩
  | .hbm, ⟨25, _⟩ => ⟨S8x2304x1, .f32⟩
  | .hbm, ⟨26, _⟩ => ⟨S8x2304x1, .f32⟩
  | .hbm, ⟨27, _⟩ => ⟨S8x2304x1, .f32⟩
  | .hbm, ⟨28, _⟩ => ⟨S8x2304x1024, .f32⟩
  | .hbm, ⟨29, _⟩ => ⟨S8x2304x1024, .f32⟩
  | .hbm, ⟨30, _⟩ => ⟨S1x1x1024, .f32⟩
  | .hbm, ⟨31, _⟩ => ⟨S8x2304x1024, .f32⟩
  | .hbm, ⟨32, _⟩ => ⟨S8x2304x1024, .f32⟩
  | .hbm, ⟨33, _⟩ => ⟨S_, .f32⟩
  | .hbm, ⟨34, _⟩ => ⟨S8x2304x1024, .f32⟩
  | .hbm, ⟨35, _⟩ => ⟨S8x2304x1024, .f32⟩
  | .hbm, ⟨36, _⟩ => ⟨S8x2304x1024, .f32⟩
  | .hbm, ⟨37, _⟩ => ⟨S8x2304x1024, .f32⟩
  | .hbm, ⟨38, _⟩ => ⟨S8x2304x1024, .bf16⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proof.MoeTab.lean ====
/-
  The routed experts: what the precondition says of the tables, and what reading a table through a clamped gather
  gives.
-/
module

public import proofs.«01_k».proof.Proof.Gen.Pre_routed
public import Idealize.ShloMosaic.Lib.ReduceAll
public import Idealize.ShloMosaic.Lib.ValueIdxCore
public import Idealize.ShloMosaic.Lib.WordCmp

@[expose] public section

namespace Cert.MoeTab

open Idealize.ShloMosaic Idealize.ShloMosaic.ValueIdx

abbrev T96 : Shape := ⟨1, ![96]⟩
abbrev T1 : Shape := ⟨1, ![1]⟩

/-- What is drawn for the tables: every entry names one of the sixteen experts, and at least one tile is in use. -/
structure Routed (ta tb : IVec T96 32) (nv : IVec T1 32) : Prop where
  a : ∀ i, 0 ≤ (ta i).toInt ∧ (ta i).toInt < 16
  b : ∀ i, 0 ≤ (tb i).toInt ∧ (tb i).toInt < 16
  n : 1 ≤ (nv (ix1 0)).toInt

theorem andi_one (p q : BitVec 1) : IntOp.andi p q = 1#1 ↔ p = 1#1 ∧ q = 1#1 := by
  revert p q; decide

theorem routed_of_pre {F : FTy → Type} [FloatOps F] (ta tb : IVec T96 32) (nv : IVec T1 32) (xs w1 w3 w2)
    (h : Cert.Pre_routed.fn (F := F) ta tb nv xs w1 w3 w2 = fun _ => 1#1) : Routed ta tb nv := by
  have e := congrFun h ix0
  simp only [Cert.Pre_routed.fn, Cert.Pre_routed.fn_part1, andi, andi_one] at e
  haveI : Subsingleton (Cert.Pre_routed.S_).Idx := ⟨fun x y => by funext a; exact a.elim0⟩
  obtain ⟨⟨e1, e2⟩, e3⟩ := e
  have f1 := fun i => (andi_one _ _).mp (Host.reduce_andi_all _ _ _ _ _ e1 i)
  have f2 := fun i => (andi_one _ _).mp (Host.reduce_andi_all _ _ _ _ _ e2 i)
  have f3 := Host.reduce_andi_all _ _ _ _ _ e3 (ix1 0)
  exact ⟨fun i => ⟨IntOp.cmpi_sge.mp (f1 i).1, IntOp.cmpi_slt.mp (f1 i).2⟩,
    fun i => ⟨IntOp.cmpi_sge.mp (f2 i).1, IntOp.cmpi_slt.mp (f2 i).2⟩, IntOp.cmpi_sge.mp f3⟩

/-- The dimension numbers of a table of `N` words read at a column of `N` positions. -/
abbrev pickDims (N : Nat) (wf : GatherDims.WF ⟨1, ![N]⟩ ⟨2, ![N, 1]⟩ ⟨1, ![N]⟩ [] [0] [] [0] [] 1 ![1]) :
    GatherDims ⟨1, ![N]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Such a gather is the table's word at the position, read signed and clamped. -/
theorem pick_apply {α : Type} {N : Nat} (hN : 0 < N)
    (wf : GatherDims.WF ⟨1, ![N]⟩ ⟨2, ![N, 1]⟩ ⟨1, ![N]⟩ [] [0] [] [0] [] 1 ![1])
    (x : (⟨1, ![N]⟩ : Shape).Idx → α) (idx : IVec ⟨2, ![N, 1]⟩ 32) (y : Fin N) :
    Host.gather (pickDims N wf) x idx (ix1 y) = x (ix1 ⟨min (idx (ix2 y 0)).toInt.toNat (N - 1), by omega⟩) := by
  unfold Host.gather
  refine congrArg x (funext fun a => ?_)
  obtain rfl : a = 0 := Subsingleton.elim _ _
  apply Fin.ext
  show (pickDims N wf).start (ix1 y) idx 0 + (pickDims N wf).batchCoord (ix1 y) 0 + (pickDims N wf).offCoord (ix1 y) 0 = _
  have hb : (pickDims N wf).batchCoord (ix1 y) 0 = 0 := GatherDims.batchCoord_eq_zero _ _ _ List.not_mem_nil
  have ho : (pickDims N wf).offCoord (ix1 y) 0 = 0 :=
    GatherDims.offCoord_eq_zero _ _ _ fun h => ((GatherDims.mem_sKept _ _).mp h).1 (List.mem_singleton.mpr rfl)
  have hm : (0 : Fin 1) ∈ (pickDims N wf).startIndexMap := List.mem_singleton.mpr rfl
  rw [hb, ho]
  show (pickDims N wf).start (ix1 y) idx 0 = _
  rw [GatherDims.start, dif_pos hm]
  have hs : (pickDims N wf).siIdx (ix1 y) ⟨List.idxOf (0 : Fin 1) (pickDims N wf).startIndexMap, List.idxOf_lt_length_iff.2 hm⟩
      = ix2 y 0 := by
    funext b
    match b with
    | ⟨0, _⟩ => rfl
    | ⟨1, _⟩ => rfl
  rw [hs]
  rfl

/-! ## The position a tile reads the tables at -/

/-- The tile whose table entries tile `t` uses: itself while it is in use, the last one in use after that. -/
def pos (t : Fin 96) (n : BitVec 32) : Fin 96 := ⟨min t.val (n.toInt.toNat - 1), by omega⟩

/-- The word that the host computes for it. -/
abbrev posWord (t : Fin 96) (n : BitVec 32) : BitVec 32 := IntOp.minsi (BitVec.ofNat 32 t.val) (IntOp.subi n 1#32)

theorem posWord_toInt (t : Fin 96) (n : BitVec 32) (h : 1 ≤ n.toInt) : (posWord t n).toInt = (pos t n).val := by
  have ht : (BitVec.ofNat 32 t.val).toInt = t.val := WordCmp.toInt_ofNat_of_lt (by have := t.isLt; omega)
  have hn : (IntOp.subi n 1#32).toInt = n.toInt - 1 := by
    have hlt := BitVec.toInt_lt (x := n)
    show (n - 1#32).toInt = _
    rw [BitVec.toInt_sub, show (1#32 : BitVec 32).toInt = 1 from rfl, Int.bmod_eq_of_le] <;> omega
  show (if (BitVec.ofNat 32 t.val).slt (IntOp.subi n 1#32) then BitVec.ofNat 32 t.val else IntOp.subi n 1#32).toInt
    = ((min t.val (n.toInt.toNat - 1) : ℕ) : ℤ)
  simp only [BitVec.slt, ht, hn]
  split
  · rename_i hc; rw [ht]; simp only [decide_eq_true_eq] at hc; omega
  · rename_i hc; rw [hn]; simp only [decide_eq_true_eq] at hc; omega

theorem posWord_toNat (t : Fin 96) (n : BitVec 32) (h : 1 ≤ n.toInt) : (posWord t n).toNat = (pos t n).val := by
  have h1 := posWord_toInt t n h
  have h2 := (WordCmp.toInt_nonneg_iff_lt_half (posWord t n)).mp (by omega)
  have h3 := WordCmp.toInt_eq_toNat_of_lt_half h2
  omega

/-- A word that is one of the experts, signed, is one unsigned. -/
theorem toNat_of_range {x : BitVec 32} (h : 0 ≤ x.toInt ∧ x.toInt < 16) : x.toNat < 16 ∧ (x.toNat : ℤ) = x.toInt := by
  have h2 := (WordCmp.toInt_nonneg_iff_lt_half x).mp h.1
  have h3 := WordCmp.toInt_eq_toNat_of_lt_half h2
  omega

theorem one_idx (k : T1.Idx) : k = ix1 0 := by
  funext a
  match a with | ⟨0, _⟩ => exact Subsingleton.elim (α := Fin 1) _ _

/-- One expert's matrix lies in the stack of the four layers' sixteen. -/
theorem block_in (e n k : ℕ) (he : e < 16) (a : Fin 4) :
    ((![0, e, 0, 0] : Fin 4 → ℕ) a + 1) * (![1, 1, n, k] : Fin 4 → ℕ) a ≤ (![4, 16, n, k] : Fin 4 → ℕ) a := by
  match a with
  | ⟨0, _⟩ => show (0 + 1) * 1 ≤ 4; omega
  | ⟨1, _⟩ => show (e + 1) * 1 ≤ 16; omega
  | ⟨2, _⟩ => show (0 + 1) * n ≤ n; omega
  | ⟨3, _⟩ => show (0 + 1) * k ≤ k; omega

end Cert.MoeTab
-- ==== Proof.MoeIBase.lean ====
/-
  The routed experts: what the launch set-up of this program shares. The host operations before the call, the
  arguments they leave alone, the three prefetched tables, the blocks of the eight windows.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The schedule of the result and the body at a point -/

/-- The result's block moves at every point, so it is written back at every point, whatever the tables hold. -/
theorem flush_out (a : (pcfg0 (F := F)).Adm) : ∀ t : Fin (cfg0 a).N, ((cfg0 a).win 7).flush t = true :=
  (fun t => (Pipeline.Window.flushOf_reads cc0_transform_7 reads0_7 hreads0_7 0 (by decide) (by decide)
      (Pipeline.Window.sep_of_coord cc0_transform_7 0 0 (fun _ => rfl) (by decide)) (P := 1) (m := 0) (by decide) rfl t).mpr (Nat.mod_one _) :
    ∀ t : Fin grid0.N, Pipeline.Window.flushOf grid0 true cc0_transform_7 t = true)

/-- The body as the pipeline calls it at point `t`. -/
abbrev bodyAt (a : (pcfg0 (F := F)).Adm) (t : Fin (cfg0 a).N) : Prog (TpuEff nD τ sig (Elt F) Λ₀ .tc) PUnit :=
  cc0_moe_experts (grid0.coords t) (Memref.whole main_v9) (Memref.isWhole_whole _) (Memref.whole main_v11) (Memref.isWhole_whole _) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))

/-! ## The host operations before the call -/

/-- Core `c`'s buffers when the call is reached. -/
abbrev V (c : Dev nD) (b : Ref sig .tc) : Buf (Elt F) ((c : Thread nD τ).loc b) := StableHlo.after hostOps0 (fun b => m (c, b)) b

theorem noFresh : (hostOps0 : List (HloOp τ sig (Elt F))).Forall fun op => op.fresh = ∅ := by
  simp only [List.Forall]; repeat' constructor

set_option maxHeartbeats 800000 in
/-- The main function is those operations, then the call. -/
theorem main_shape (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub noFresh main_chain

/-- A buffer no host operation writes is as launched. -/
theorem V_keeps (c : Dev nD) (r : Ref sig .tc)
    (h : r ∉ ([main_v0, main_v1, main_v2, main_v3, main_v4, main_c, main_v5, main_v6, main_v7, main_v8, main_v9, main_v10, main_v11] : List (Ref sig .tc))) :
    V m c r = m ((c : Thread nD τ).loc r) :=
  StableHlo.after_of_forall_not_mem (b := Proc.devRef .tc r) _ _ (List.forall_iff_forall_mem.mp (by
    simp only [List.mem_cons, List.not_mem_nil, or_false, not_or] at h
    obtain ⟨h0, h1, h2, h3, h4, h5, h6, h7, h8, h9, h10, h11, h12⟩ := h
    simp only [hostOps0, List.Forall, StableHlo.nullary_writes, StableHlo.unary_writes, StableHlo.binary_writes,
      StableHlo.reshape_writes, Finset.mem_singleton]
    repeat' apply And.intro
    all_goals exact StableHlo.devRef_ne_of_ne (by assumption)))

/-! ## The prefetched tables -/

/-- What the tables hold when the call is reached (there is one device). -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every block the tables name lies in its array. -/
abbrev Ok : Prop := ok0 (F := F) (tbl m)
/-- The pipeline at these tables. -/
abbrev adm (hO : Ok m) : (pcfg0 (F := F)).Adm := ⟨tbl m, hO⟩
abbrev cfgM (hO : Ok m) : Pipeline.Cfg sig Λ₀ := cfg0 (adm m hO)

abbrev tabA : Memref sig .tc .smem S96 .i32 := Memref.whole main_v9
abbrev tabB : Memref sig .tc .smem S96 .i32 := Memref.whole main_v11
abbrev tabN : Memref sig .tc .smem S1 .i32 := Memref.whole main_arg2

/-- A table's buffer, and the half of it the body holds. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The halves of the three tables, one by one. -/
theorem halves_eq (c : Dev nD) : (Pipeline.ΦT pre0 (tbl m) c : sProp 𝕄)
    = iprop(tabHalf c tabA (tbl m 0) ∗ tabHalf c tabB (tbl m 1) ∗ tabHalf c tabN (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The count of tiles, as the body reads it off its table. -/
abbrev countOf (c : Dev nD) (tn : TabBuf (F := F) c tabN) : BitVec 32 := View.readAt (Elt F) tabN.view (Rect.unit ![0] ![1] inb_S1_S1_0).toLoadRect tn (Shape.Idx.first (by decide))

/-! ## The blocks of the windows -/

/-- Window `w`'s block at point `t`, off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem staged0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem staged1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem staged2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem staged3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem staged4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem staged5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem staged6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The result's first staging buffer, over which its contents are stated. -/
abbrev outView : View sig .tc .vmem S4096x128 .f32 := (Memref.whole cc0_stg7_0 : Memref sig .tc .vmem S4096x128 .f32).view
abbrev mw0 (hO : Ok m) (t : Fin (cfgM m hO).N) : Memref sig .tc .vmem S2048x128 .f32 := spec0_0.stage ((cfgM m hO).slots t 0)
abbrev hw0 (hO : Ok m) (t : Fin (cfgM m hO).N) : (mw0 m hO t).IsWhole := hstage0_0 (((cfgM m hO).slots t 0).cast nbuf0_0)
abbrev mw1 (hO : Ok m) (t : Fin (cfgM m hO).N) : Memref sig .tc .vmem S1x1x1024x512 .bf16 := spec0_1.stage ((cfgM m hO).slots t 1)
abbrev hw1 (hO : Ok m) (t : Fin (cfgM m hO).N) : (mw1 m hO t).IsWhole := hstage0_1 (((cfgM m hO).slots t 1).cast nbuf0_1)
abbrev mw2 (hO : Ok m) (t : Fin (cfgM m hO).N) : Memref sig .tc .vmem S1x1x1024x512 .bf16 := spec0_2.stage ((cfgM m hO).slots t 2)
abbrev hw2 (hO : Ok m) (t : Fin (cfgM m hO).N) : (mw2 m hO t).IsWhole := hstage0_2 (((cfgM m hO).slots t 2).cast nbuf0_2)
abbrev mw3 (hO : Ok m) (t : Fin (cfgM m hO).N) : Memref sig .tc .vmem S1x1x512x1024 .bf16 := spec0_3.stage ((cfgM m hO).slots t 3)
abbrev hw3 (hO : Ok m) (t : Fin (cfgM m hO).N) : (mw3 m hO t).IsWhole := hstage0_3 (((cfgM m hO).slots t 3).cast nbuf0_3)
abbrev mw4 (hO : Ok m) (t : Fin (cfgM m hO).N) : Memref sig .tc .vmem S1x1x1024x512 .bf16 := spec0_4.stage ((cfgM m hO).slots t 4)
abbrev hw4 (hO : Ok m) (t : Fin (cfgM m hO).N) : (mw4 m hO t).IsWhole := hstage0_4 (((cfgM m hO).slots t 4).cast nbuf0_4)
abbrev mw5 (hO : Ok m) (t : Fin (cfgM m hO).N) : Memref sig .tc .vmem S1x1x1024x512 .bf16 := spec0_5.stage ((cfgM m hO).slots t 5)
abbrev hw5 (hO : Ok m) (t : Fin (cfgM m hO).N) : (mw5 m hO t).IsWhole := hstage0_5 (((cfgM m hO).slots t 5).cast nbuf0_5)
abbrev mw6 (hO : Ok m) (t : Fin (cfgM m hO).N) : Memref sig .tc .vmem S1x1x512x1024 .bf16 := spec0_6.stage ((cfgM m hO).slots t 6)
abbrev hw6 (hO : Ok m) (t : Fin (cfgM m hO).N) : (mw6 m hO t).IsWhole := hstage0_6 (((cfgM m hO).slots t 6).cast nbuf0_6)
abbrev mw7 (hO : Ok m) (t : Fin (cfgM m hO).N) : Memref sig .tc .vmem S4096x128 .f32 := spec0_7.stage ((cfgM m hO).slots t 7)
abbrev hw7 (hO : Ok m) (t : Fin (cfgM m hO).N) : (mw7 m hO t).IsWhole := hstage0_7 (((cfgM m hO).slots t 7).cast nbuf0_7)

end Cert.KernelIdeal.Moe

end
-- ==== Proof.MoeIRunV.lean ====
/-
  The routed experts: the body run once, on any whole staging buffers.
  A tile in use: its id is below the count of tiles. The body stores the two experts' rows, sixteen strided stores.
-/
module

public import proofs.«01_k».proof.Proof.MoeIBase

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body leaves in the result's buffer, with its triple. -/
noncomputable def runV (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (ta : TabBuf (F := F) c tabA) (tb : TabBuf (F := F) c tabB) (tn : TabBuf (F := F) c tabN)
    (hc1 : ¬ k0_cond1 i (countOf c tn) = 1#1) (hc2 : k0_cond2 i (countOf c tn) = 1#1) :
    { L : List (View.Piece (Elt F) S4096x128 .f32) //
      ∀ (E : Set ℕ) (K : PUnit → sProp 𝕄),
        iprop(owns (c : Thread nD τ) r0 fullShare x0 ∗ owns (c : Thread nD τ) r1 fullShare x1 ∗ owns (c : Thread nD τ) r2 fullShare x2 ∗ owns (c : Thread nD τ) r3 fullShare x3 ∗ owns (c : Thread nD τ) r4 fullShare x4 ∗ owns (c : Thread nD τ) r5 fullShare x5 ∗ owns (c : Thread nD τ) r6 fullShare x6 ∗ (∃ d, owns (c : Thread nD τ) r7 fullShare d) ∗ tabHalf c tabA ta ∗ tabHalf c tabB tb ∗ tabHalf c tabN tn
            ∗ (iprop(owns (c : Thread nD τ) r0 fullShare x0 ∗ owns (c : Thread nD τ) r1 fullShare x1 ∗ owns (c : Thread nD τ) r2 fullShare x2 ∗ owns (c : Thread nD τ) r3 fullShare x3 ∗ owns (c : Thread nD τ) r4 fullShare x4 ∗ owns (c : Thread nD τ) r5 fullShare x5 ∗ owns (c : Thread nD τ) r6 fullShare x6 ∗ (∃ f, r7.view.loc (c : Thread nD τ) ↦[r7.view.set]{fullShare} r7.view.writes (Elt F) f L) ∗ tabHalf c tabA ta ∗ tabHalf c tabB tb ∗ tabHalf c tabN tn) -∗ K ⟨⟩))
          ⊢ wp frame (wpE (defs₀ (F := F)) Variants.none c none) E (cc0_moe_experts i tabA (Memref.isWhole_whole _) tabB (Memref.isWhole_whole _) tabN (Memref.isWhole_whole _) r0 h0 r1 h1 r2 h2 r3 h3 r4 h4 r5 h5 r6 h6 r7 h7) K } := by
  refine ⟨?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HA, HB, HN, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HA]; · iexact HA
    isplitl [HB]; · iexact HB
    iexact HN

end Cert.KernelIdeal.Moe

end
-- ==== Proof.MoeIRunZ.lean ====
/-
  The routed experts: the body run once, on any whole staging buffers.
  A tile out of use: its id is at or past the count of tiles. The body stores zeros over the whole block.
-/
module

public import proofs.«01_k».proof.Proof.MoeIRunV

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body leaves in the result's buffer, with its triple. -/
noncomputable def runZ (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (ta : TabBuf (F := F) c tabA) (tb : TabBuf (F := F) c tabB) (tn : TabBuf (F := F) c tabN)
    (hc1 : k0_cond1 i (countOf c tn) = 1#1) (hc2 : ¬ k0_cond2 i (countOf c tn) = 1#1) :
    { L : List (View.Piece (Elt F) S4096x128 .f32) //
      ∀ (E : Set ℕ) (K : PUnit → sProp 𝕄),
        iprop(owns (c : Thread nD τ) r0 fullShare x0 ∗ owns (c : Thread nD τ) r1 fullShare x1 ∗ owns (c : Thread nD τ) r2 fullShare x2 ∗ owns (c : Thread nD τ) r3 fullShare x3 ∗ owns (c : Thread nD τ) r4 fullShare x4 ∗ owns (c : Thread nD τ) r5 fullShare x5 ∗ owns (c : Thread nD τ) r6 fullShare x6 ∗ (∃ d, owns (c : Thread nD τ) r7 fullShare d) ∗ tabHalf c tabA ta ∗ tabHalf c tabB tb ∗ tabHalf c tabN tn
            ∗ (iprop(owns (c : Thread nD τ) r0 fullShare x0 ∗ owns (c : Thread nD τ) r1 fullShare x1 ∗ owns (c : Thread nD τ) r2 fullShare x2 ∗ owns (c : Thread nD τ) r3 fullShare x3 ∗ owns (c : Thread nD τ) r4 fullShare x4 ∗ owns (c : Thread nD τ) r5 fullShare x5 ∗ owns (c : Thread nD τ) r6 fullShare x6 ∗ (∃ f, r7.view.loc (c : Thread nD τ) ↦[r7.view.set]{fullShare} r7.view.writes (Elt F) f L) ∗ tabHalf c tabA ta ∗ tabHalf c tabB tb ∗ tabHalf c tabN tn) -∗ K ⟨⟩))
          ⊢ wp frame (wpE (defs₀ (F := F)) Variants.none c none) E (cc0_moe_experts i tabA (Memref.isWhole_whole _) tabB (Memref.isWhole_whole _) tabN (Memref.isWhole_whole _) r0 h0 r1 h1 r2 h2 r3 h3 r4 h4 r5 h5 r6 h6 r7 h7) K } := by
  refine ⟨?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HA, HB, HN, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HA]; · iexact HA
    isplitl [HB]; · iexact HB
    iexact HN

end Cert.KernelIdeal.Moe

end
-- ==== Proof.MoeIFrame.lean ====
/-
  The routed experts: the frame. What the result's block holds after each point, the pipeline's proof data, the
  body at every point, the run and the unchanged arguments.
-/
module

public import proofs.«01_k».proof.Proof.MoeIRunZ
public import Idealize.ShloMosaic.Lib.Claim
public import Idealize.ShloMosaic.Lib.Pipeline.ValueKit.Tiles

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases are complementary -/

theorem used_or_not (i : grid0.Coords) (w : BitVec 32) : k0_cond1 i w = 1#1 ↔ ¬ k0_cond2 i w = 1#1 := by
  have key : ∀ a : BitVec 32, (Scalar.cmpi .ne (Scalar.extui (Scalar.cmpi .sge a w) : BitVec 32) 0#32 = 1#1)
      ↔ ¬ (Scalar.cmpi .ne (Scalar.extui (Scalar.cmpi .slt a w) : BitVec 32) 0#32 = 1#1) := by
    intro a
    by_cases h : a.slt w <;> simp [Scalar.cmpi, IntOp.cmpi, Scalar.extui, BitVec.sle_eq_not_slt, h]
  exact key _

/-! ## The stores cover the block -/

/-- Every sixteenth row of the block, from row `k`. -/
def rows16 (k : Fin 16) : Rect S4096x128 :=
  ⟨⟨![k.val, 0], S256x128.size, ![16, 1], by
    intro a; right; have := k.isLt
    match a with
    | ⟨0, _⟩ => show k.val + 16 * (256 - 1) < 4096; omega
    | ⟨1, _⟩ => show 0 + 1 * (128 - 1) < 128; omega⟩, by
    intro a
    match a with
    | ⟨0, _⟩ => show 0 < 16; omega
    | ⟨1, _⟩ => show 0 < 1; omega⟩

theorem mem_rows16 (k : Fin 16) (y : S4096x128.Idx) (h : (y 0).val % 16 = k.val) : y ∈ (rows16 k).set := by
  refine (LoadRect.mem_set _).mpr fun a => ?_
  match a with
  | ⟨0, _⟩ =>
    have := (y 0).isLt
    refine ⟨(y 0).val / 16, ?_, ?_⟩
    · show (y 0).val / 16 < 256
      have h2 : (y 0).val < 4096 := (y 0).isLt
      omega
    · show (y 0).val = k.val + 16 * ((y 0).val / 16)
      omega
  | ⟨1, _⟩ => exact ⟨(y 1).val, (y 1).isLt, by show (y 1).val = 0 + 1 * (y 1).val; omega⟩

/-- Sixteen pieces, one per remainder, cover the block. -/
theorem covered (L : List (View.Piece (Elt F) S4096x128 .f32)) (hL : L.map (fun p => p.1) = (List.finRange 16).reverse.map rows16)
    (y : S4096x128.Idx) : ∃ p ∈ L, y ∈ p.1.set := by
  have hm : rows16 ⟨(y 0).val % 16, Nat.mod_lt _ (by decide)⟩ ∈ L.map (fun p => p.1) := by
    rw [hL]; exact List.mem_map_of_mem (List.mem_reverse.mpr (List.mem_finRange _))
  obtain ⟨p, hp, he⟩ := List.mem_map.mp hm
  exact ⟨p, hp, by rw [he]; exact mem_rows16 _ y rfl⟩

theorem coverV (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (ta : TabBuf (F := F) c tabA) (tb : TabBuf (F := F) c tabB) (tn : TabBuf (F := F) c tabN)
    (hc1 : ¬ k0_cond1 i (countOf c tn) = 1#1) (hc2 : k0_cond2 i (countOf c tn) = 1#1) (y : S4096x128.Idx) :
    ∃ p ∈ (runV c i r0 h0 r1 h1 r2 h2 r3 h3 r4 h4 r5 h5 r6 h6 r7 h7 x0 x1 x2 x3 x4 x5 x6 ta tb tn hc1 hc2).1, y ∈ p.1.set :=
  covered _ (by sl_kernel_rfl) y

theorem coverZ (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (ta : TabBuf (F := F) c tabA) (tb : TabBuf (F := F) c tabB) (tn : TabBuf (F := F) c tabN)
    (hc1 : k0_cond1 i (countOf c tn) = 1#1) (hc2 : ¬ k0_cond2 i (countOf c tn) = 1#1) (y : S4096x128.Idx) :
    ∃ p ∈ (runZ c i r0 h0 r1 h1 r2 h2 r3 h3 r4 h4 r5 h5 r6 h6 r7 h7 x0 x1 x2 x3 x4 x5 x6 ta tb tn hc1 hc2).1, y ∈ p.1.set :=
  View.cover_of_tiledL (runZ c i r0 h0 r1 h1 r2 h2 r3 h3 r4 h4 r5 h5 r6 h6 r7 h7 x0 x1 x2 x3 x4 x5 x6 ta tb tn hc1 hc2).1 S4096x128.size (by sl_kernel_rfl) y

/-! ## What the result's block holds after each point -/

/-- Whether point `t`'s tile is in use. -/
abbrev used (t : Fin grid0.N) : Prop := k0_cond2 (grid0.coords t) (countOf (0 : Dev nD) (tbl m 2)) = 1#1

/-- The block left by a tile in use. -/
def blockV (hO : Ok m) (c : Dev nD) (t : Fin (cfgM m hO).N) (h : used m t) : Vec F S4096x128 .f32 :=
  View.canon (runV c (grid0.coords t) (mw0 m hO t) (hw0 m hO t) (mw1 m hO t) (hw1 m hO t) (mw2 m hO t) (hw2 m hO t) (mw3 m hO t) (hw3 m hO t) (mw4 m hO t) (hw4 m hO t) (mw5 m hO t) (hw5 m hO t) (mw6 m hO t) (hw6 m hO t) (mw7 m hO t) (hw7 m hO t) (iblk m hO c 0 t) (iblk m hO c 1 t) (iblk m hO c 2 t) (iblk m hO c 3 t) (iblk m hO c 4 t) (iblk m hO c 5 t) (iblk m hO c 6 t) (tbl m 0) (tbl m 1) (tbl m 2)
    (fun h1 => (used_or_not _ _).mp h1 h) h).1

/-- The block left by a tile out of use. -/
def blockZ (hO : Ok m) (c : Dev nD) (t : Fin (cfgM m hO).N) (h : ¬ used m t) : Vec F S4096x128 .f32 :=
  View.canon (runZ c (grid0.coords t) (mw0 m hO t) (hw0 m hO t) (mw1 m hO t) (hw1 m hO t) (mw2 m hO t) (hw2 m hO t) (mw3 m hO t) (hw3 m hO t) (mw4 m hO t) (hw4 m hO t) (mw5 m hO t) (hw5 m hO t) (mw6 m hO t) (hw6 m hO t) (mw7 m hO t) (hw7 m hO t) (iblk m hO c 0 t) (iblk m hO c 1 t) (iblk m hO c 2 t) (iblk m hO c 3 t) (iblk m hO c 4 t) (iblk m hO c 5 t) (iblk m hO c 6 t) (tbl m 0) (tbl m 1) (tbl m 2)
    ((used_or_not _ _).mpr h) h).1

open Classical in
/-- The result's block after point `t`. -/
def blockAt (hO : Ok m) (c : Dev nD) (t : Fin (cfgM m hO).N) : Vec F S4096x128 .f32 :=
  if h : used m t then blockV m hO c t h else blockZ m hO c t h

/-! ## The proof data -/

/-- The arrays as the call finds them; each input's buffer keeps its block, the result's holds `blockAt`; the tables'
    halves pass through; an array several windows read is held in shares. -/
def data (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => blockAt m hO c t
  Φ _ := iprop(Pipeline.ΦA spec0 c ∗ Pipeline.ΦT pre0 (tbl m) c)
  q w := Pipeline.shareOf spec0 w
  owed _ := 0

theorem data_A (hO : Ok m) (c : Dev nD) (w : Fin (cfgM m hO).W) : (data m hO 0 c).A w = V m c (Pipeline.arrRef spec0 w) := by
  dsimp only [data]

theorem leaves0 (hO : Ok m) (c : Dev nD) (t : Fin (cfgM m hO).N) : (data m hO 0 c).after 0 t = iblk m hO c 0 t := by dsimp only [data]; try rfl
theorem leaves1 (hO : Ok m) (c : Dev nD) (t : Fin (cfgM m hO).N) : (data m hO 0 c).after 1 t = iblk m hO c 1 t := by dsimp only [data]; try rfl
theorem leaves2 (hO : Ok m) (c : Dev nD) (t : Fin (cfgM m hO).N) : (data m hO 0 c).after 2 t = iblk m hO c 2 t := by dsimp only [data]; try rfl
theorem leaves3 (hO : Ok m) (c : Dev nD) (t : Fin (cfgM m hO).N) : (data m hO 0 c).after 3 t = iblk m hO c 3 t := by dsimp only [data]; try rfl
theorem leaves4 (hO : Ok m) (c : Dev nD) (t : Fin (cfgM m hO).N) : (data m hO 0 c).after 4 t = iblk m hO c 4 t := by dsimp only [data]; try rfl
theorem leaves5 (hO : Ok m) (c : Dev nD) (t : Fin (cfgM m hO).N) : (data m hO 0 c).after 5 t = iblk m hO c 5 t := by dsimp only [data]; try rfl
theorem leaves6 (hO : Ok m) (c : Dev nD) (t : Fin (cfgM m hO).N) : (data m hO 0 c).after 6 t = iblk m hO c 6 t := by dsimp only [data]; try rfl
theorem leaves7 (hO : Ok m) (c : Dev nD) (t : Fin (cfgM m hO).N) : (data m hO 0 c).after 7 t = blockAt m hO c t := by dsimp only [data]; try rfl

theorem finds0 (hO : Ok m) (c : Dev nD) (t : Fin (cfgM m hO).N) (d) : (data m hO 0 c).before 0 t d = iblk m hO c 0 t :=
  staged0 m hO (data m hO 0 c) (data_A m hO c 0) (leaves0 m hO c) t d
theorem finds1 (hO : Ok m) (c : Dev nD) (t : Fin (cfgM m hO).N) (d) : (data m hO 0 c).before 1 t d = iblk m hO c 1 t :=
  staged1 m hO (data m hO 0 c) (data_A m hO c 1) (leaves1 m hO c) t d
theorem finds2 (hO : Ok m) (c : Dev nD) (t : Fin (cfgM m hO).N) (d) : (data m hO 0 c).before 2 t d = iblk m hO c 2 t :=
  staged2 m hO (data m hO 0 c) (data_A m hO c 2) (leaves2 m hO c) t d
theorem finds3 (hO : Ok m) (c : Dev nD) (t : Fin (cfgM m hO).N) (d) : (data m hO 0 c).before 3 t d = iblk m hO c 3 t :=
  staged3 m hO (data m hO 0 c) (data_A m hO c 3) (leaves3 m hO c) t d
theorem finds4 (hO : Ok m) (c : Dev nD) (t : Fin (cfgM m hO).N) (d) : (data m hO 0 c).before 4 t d = iblk m hO c 4 t :=
  staged4 m hO (data m hO 0 c) (data_A m hO c 4) (leaves4 m hO c) t d
theorem finds5 (hO : Ok m) (c : Dev nD) (t : Fin (cfgM m hO).N) (d) : (data m hO 0 c).before 5 t d = iblk m hO c 5 t :=
  staged5 m hO (data m hO 0 c) (data_A m hO c 5) (leaves5 m hO c) t d
theorem finds6 (hO : Ok m) (c : Dev nD) (t : Fin (cfgM m hO).N) (d) : (data m hO 0 c).before 6 t d = iblk m hO c 6 t :=
  staged6 m hO (data m hO 0 c) (data_A m hO c 6) (leaves6 m hO c) t d

/-! ## The body at a point -/

/-- What the body is handed, -/
def handed (hO : Ok m) (c : Dev nD) (t : Fin (cfgM m hO).N) : sProp 𝕄 :=
  iprop((data m hO 0 c).Φ t.castSucc ∗ (data m hO 0 c).owesAt () t.castSucc
    ∗ (∃ d, owns (c : Thread nD τ) (mw0 m hO t) fullShare ((data m hO 0 c).before 0 t d))
    ∗ (∃ d, owns (c : Thread nD τ) (mw1 m hO t) fullShare ((data m hO 0 c).before 1 t d))
    ∗ (∃ d, owns (c : Thread nD τ) (mw2 m hO t) fullShare ((data m hO 0 c).before 2 t d))
    ∗ (∃ d, owns (c : Thread nD τ) (mw3 m hO t) fullShare ((data m hO 0 c).before 3 t d))
    ∗ (∃ d, owns (c : Thread nD τ) (mw4 m hO t) fullShare ((data m hO 0 c).before 4 t d))
    ∗ (∃ d, owns (c : Thread nD τ) (mw5 m hO t) fullShare ((data m hO 0 c).before 5 t d))
    ∗ (∃ d, owns (c : Thread nD τ) (mw6 m hO t) fullShare ((data m hO 0 c).before 6 t d))
    ∗ (∃ d, owns (c : Thread nD τ) (mw7 m hO t) fullShare ((data m hO 0 c).before 7 t d)))

/-- and what it hands back. -/
def handsBack (hO : Ok m) (c : Dev nD) (t : Fin (cfgM m hO).N) : sProp 𝕄 :=
  iprop((data m hO 0 c).Φ t.succ ∗ (data m hO 0 c).owesAt () t.succ
    ∗ owns (c : Thread nD τ) (mw0 m hO t) fullShare ((data m hO 0 c).after 0 t)
    ∗ owns (c : Thread nD τ) (mw1 m hO t) fullShare ((data m hO 0 c).after 1 t)
    ∗ owns (c : Thread nD τ) (mw2 m hO t) fullShare ((data m hO 0 c).after 2 t)
    ∗ owns (c : Thread nD τ) (mw3 m hO t) fullShare ((data m hO 0 c).after 3 t)
    ∗ owns (c : Thread nD τ) (mw4 m hO t) fullShare ((data m hO 0 c).after 4 t)
    ∗ owns (c : Thread nD τ) (mw5 m hO t) fullShare ((data m hO 0 c).after 5 t)
    ∗ owns (c : Thread nD τ) (mw6 m hO t) fullShare ((data m hO 0 c).after 6 t)
    ∗ owns (c : Thread nD τ) (mw7 m hO t) fullShare ((data m hO 0 c).after 7 t))

set_option maxHeartbeats 1600000 in
/-- The body keeps its promise at every point, in use or not. -/
theorem body_at (hO : Ok m) (c : Dev nD) (t : Fin (cfgM m hO).N) :
    handed m hO c t ⊢ wp frame (wpE (defs₀ (F := F)) Variants.none c none) Set.univ (bodyAt (adm m hO) t) (fun _ => handsBack m hO c t) := by
  obtain rfl : c = 0 := Subsingleton.elim _ _
  unfold handed handsBack bodyAt
  simp only [finds0, finds1, finds2, finds3, finds4, finds5, finds6]
  rw [show (data m hO 0 0).Φ t.succ = (data m hO 0 0).Φ t.castSucc from rfl,
    show (data m hO 0 0).owesAt () t.succ = (data m hO 0 0).owesAt () t.castSucc from rfl,
    leaves0, leaves1, leaves2, leaves3, leaves4, leaves5, leaves6, leaves7]
  rw [show (data m hO 0 0).Φ t.castSucc = iprop(Pipeline.ΦA spec0 0 ∗ Pipeline.ΦT pre0 (tbl m) 0) from rfl, halves_eq]
  by_cases h : used m t
  · rw [show blockAt m hO 0 t = blockV m hO 0 t h from dif_pos h]
    unfold blockV
    iintro ⟨⟨HΦ, ⟨HA, HB, HN⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runV (0 : Dev nD) (grid0.coords t) _ _ _ _ _ _ _ _ _ _ _ _ _ _ _ _ (iblk m hO 0 0 t) (iblk m hO 0 1 t) (iblk m hO 0 2 t) (iblk m hO 0 3 t) (iblk m hO 0 4 t) (iblk m hO 0 5 t) (iblk m hO 0 6 t) (tbl m 0) (tbl m 1) (tbl m 2) (fun h1 => (used_or_not _ _).mp h1 h) h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HA]; · iexact HA
    isplitl [HB]; · iexact HB
    isplitl [HN]; · iexact HN
    iintro ⟨H0, H1, H2, H3, H4, H5, H6, ⟨%e7, H7⟩, HA, HB, HN⟩
    isplitl [HΦ HA HB HN]
    · isplitl [HΦ]
      · iexact HΦ
      isplitl [HA]; · iexact HA
      isplitl [HB]; · iexact HB
      iexact HN
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_eq_canon _ _ _ (coverV 0 _ _ _ _ _ _ _ _ _ _ _ _ _ _ _ _ _ _ _ _ _ _ _ _ _ _ _ _ _)
  · rw [show blockAt m hO 0 t = blockZ m hO 0 t h from dif_neg h]
    unfold blockZ
    iintro ⟨⟨HΦ, ⟨HA, HB, HN⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runZ (0 : Dev nD) (grid0.coords t) _ _ _ _ _ _ _ _ _ _ _ _ _ _ _ _ (iblk m hO 0 0 t) (iblk m hO 0 1 t) (iblk m hO 0 2 t) (iblk m hO 0 3 t) (iblk m hO 0 4 t) (iblk m hO 0 5 t) (iblk m hO 0 6 t) (tbl m 0) (tbl m 1) (tbl m 2) ((used_or_not _ _).mpr h) h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HA]; · iexact HA
    isplitl [HB]; · iexact HB
    isplitl [HN]; · iexact HN
    iintro ⟨H0, H1, H2, H3, H4, H5, H6, ⟨%e7, H7⟩, HA, HB, HN⟩
    isplitl [HΦ HA HB HN]
    · isplitl [HΦ]
      · iexact HΦ
      isplitl [HA]; · iexact HA
      isplitl [HB]; · iexact HB
      iexact HN
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_eq_canon _ _ _ (coverZ 0 _ _ _ _ _ _ _ _ _ _ _ _ _ _ _ _ _ _ _ _ _ _ _ _ _ _ _ _ _)

theorem row_is_body (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

set_option maxHeartbeats 400000 in
theorem obligation (hO : Ok m) (c : Dev nD) : BodyObligation (data (F := F) m hO 0 c) (defs₀ (F := F)) Variants.none () Set.univ := fun t => by
  rw [bigSep_W0, bigSep_W0, row_is_body m hO]
  refine triple_restated (body_at m hO c t) rfl .rfl fun _ => ?_
  have hf : ((cfgM m hO).win 7).flush t = true := flush_out (adm m hO) t
  · unfold handsBack
    iintro ⟨HΦ, Ho, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    split
    · rename_i h; exact absurd h (by simp)
    · split
      · split
        · rename_i h; exact absurd (h.symm.trans hf) (by decide)
        · iexact H7
      · iexact H7

/-! ## The run -/

set_option backward.isDefEq.respectTransparency.types false in
/-- The program runs, its arrays end as the proof data say, its counters at zero. -/
theorem runs (hO : Ok m) : θ_run defs (onTc (τ := τ) (main (F := F))) (s₀ m ρ)
    (fun r => (Pipeline.FramePost (Pipeline.pin pcfgs fun _ => adm m hO) (data m hO) 0 (V m)) r ∧ r.2.sem = fun _ => 0) :=
  Pipeline.θ_run_frameP_shared (Q' := _) pcfgs (fun _ => adm m hO) (data m hO) (0 : Fin 1) launch₀0 defs₀ Variants.none m ρ main
    (hbody := fun c => (obligation m hO c).loose) (hq := fun _ _ _ => rfl)
    (howed := fun _ _ => rfl) (V := V m) (hmain := main_shape m Variants.none) (hA := data_A m hO) (hpf := V_tbl m)
    (hΦ := fun _ _ => rfl)

/-- The program runs and leaves its arguments as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hr => ⟨fun c => ⟨
      ((hr.1 c).2 main_arg0 (by decide : main_arg0 ∈ Pipeline.restRefs sig spec0)).trans (V_keeps m c main_arg0 (by decide)),
      ((hr.1 c).2 main_arg1 (by decide : main_arg1 ∈ Pipeline.restRefs sig spec0)).trans (V_keeps m c main_arg1 (by decide)),
      ((hr.1 c).2 main_arg2 (by decide : main_arg2 ∈ Pipeline.restRefs sig spec0)).trans (V_keeps m c main_arg2 (by decide)),
      ((hr.1 c).1 0).trans (((data m hO 0 c).arrAt_in 0 rfl _).trans ((data_A m hO c 0).trans (V_keeps m c main_arg3 (by decide)))),
      ((hr.1 c).2 main_arg4 (by decide : main_arg4 ∈ Pipeline.restRefs sig spec0)).trans (V_keeps m c main_arg4 (by decide)),
      ((hr.1 c).2 main_arg5 (by decide : main_arg5 ∈ Pipeline.restRefs sig spec0)).trans (V_keeps m c main_arg5 (by decide)),
      ((hr.1 c).2 main_arg6 (by decide : main_arg6 ∈ Pipeline.restRefs sig spec0)).trans (V_keeps m c main_arg6 (by decide))⟩, hr.2⟩) (runs m ρ hO)

end Cert.KernelIdeal.Moe

end
-- ==== Proof.MoeMath.lean ====
/-
  The routed experts as mathematics over the extended reals: one expert's feed-forward of one token, and the array of
  the chosen experts' outputs that both programs are shown to leave.
-/
module

public import proofs.«01_k».proof.Proof.MoeTab
public import Idealize.ShloMosaic.PureOps.Ideal

@[expose] public section

noncomputable section

namespace Cert.MoeMath

open Idealize.ShloMosaic Idealize.ShloMosaic.ValueIdx Cert.MoeTab
open scoped BigOperators

abbrev one : EReal := Ideal.ofBits .f32 0x3F800000#32

/-- `u · σ(u)`. -/
def silu (u : EReal) : EReal := u * Ideal.div one (one + Ideal.exp (-u))

/-- A token's hidden activation at one of the expert's 512 inner channels. -/
def inner (x : Fin 1024 → EReal) (w1 w3 : Fin 1024 → Fin 512 → EReal) (f : Fin 512) : EReal :=
  silu (∑ k, x k * w1 k f) * ∑ k, x k * w3 k f

/-- An expert's output for a token. -/
def expert (x : Fin 1024 → EReal) (w1 w3 : Fin 1024 → Fin 512 → EReal) (w2 : Fin 512 → Fin 1024 → EReal) (d : Fin 1024) :
    EReal := ∑ f, inner x w1 w3 f * w2 f d

abbrev XS : Shape := ⟨2, ![196608, 128]⟩
abbrev W13 : Shape := ⟨4, ![4, 16, 1024, 512]⟩
abbrev W2 : Shape := ⟨4, ![4, 16, 512, 1024]⟩
abbrev YS : Shape := ⟨2, ![393216, 128]⟩

/-- Channel `d` of token row `R`: the rows of 1024 channels are stored as eight rows of 128. -/
def tok (xs : XS.Idx → EReal) (R : Fin 24576) (d : Fin 1024) : EReal :=
  xs (ix2 ⟨8 * R.val + d.val / 128, by have := R.isLt; have := d.isLt; omega⟩ ⟨d.val % 128, Nat.mod_lt _ (by decide)⟩)

/-- Expert `e`'s output for token row `R`. -/
def out (xs : XS.Idx → EReal) (w1 w3 : W13.Idx → EReal) (w2 : W2.Idx → EReal) (e : Fin 16) (R : Fin 24576) (d : Fin 1024) : EReal :=
  expert (tok xs R) (fun k f => w1 (ix4 0 e k f)) (fun k f => w3 (ix4 0 e k f)) (fun f d => w2 (ix4 0 e f d)) d

/-- The expert that a table names for a tile. -/
def chosen (tab : IVec T96 32) (t : Fin 96) : Fin 16 := ⟨(tab (ix1 t)).toNat % 16, Nat.mod_lt _ (by decide)⟩

/-- Row `16 R + 8 k + s` of the result, lane `l`: channel `128 s + l` of token row `R` under the expert that table `k` names
    for the row's tile; nought for a tile out of use. -/
def moe (ta tb : IVec T96 32) (nv : IVec T1 32) (xs : XS.Idx → EReal) (w1 w3 : W13.Idx → EReal) (w2 : W2.Idx → EReal)
    (y : YS.Idx) : EReal :=
  let t : Fin 96 := ⟨(y 0).val / 4096, by have : (y 0).val < 393216 := (y 0).isLt; omega⟩
  let R : Fin 24576 := ⟨(y 0).val / 16, by have : (y 0).val < 393216 := (y 0).isLt; omega⟩
  let d : Fin 1024 := ⟨128 * ((y 0).val % 8) + (y 1).val, by have : (y 1).val < 128 := (y 1).isLt; omega⟩
  if (t.val : ℤ) < (nv (ix1 0)).toInt then
    if (y 0).val % 16 < 8 then out xs w1 w3 w2 (chosen ta t) R d else out xs w1 w3 w2 (chosen tb t) R d
  else 0

end Cert.MoeMath

end
-- ==== Proof.MoeICast.lean ====
/-
  The routed experts: a weight block with its two leading unit axes dropped.
-/
module

public import proofs.«01_k».proof.Proof.Gen.KernelIdeal
public import Idealize.ShloMosaic.Lib.ValueIdxCore
public import Idealize.ShloMosaic.PureOps.Ideal
import Idealize.ShloMosaic.Lib.Pointwise

@[expose] public section

namespace Cert.KernelIdeal.Moe

open Idealize.ShloMosaic
open Cert.KernelIdeal.Gen

theorem cast13 (w : Vec Ideal S1x1x1024x512 .bf16) (k : Fin 1024) (f : Fin 512) :
    shapeCast S1024x512 w shapeCasts_S1x1x1024x512_S1024x512 (ValueIdx.ix2 k f) = w (ValueIdx.ix4 0 0 k f) := by
  pointwise
  rfl

theorem cast2 (w : Vec Ideal S1x1x512x1024 .bf16) (k : Fin 512) (f : Fin 1024) :
    shapeCast S512x1024 w shapeCasts_S1x1x512x1024_S512x1024 (ValueIdx.ix2 k f) = w (ValueIdx.ix4 0 0 k f) := by
  pointwise
  rfl

end Cert.KernelIdeal.Moe
-- ==== Proof.MoeIPay.lean ====
/-
  The routed experts over the extended reals: what the body leaves in the result's block, as mathematics of the blocks
  that it reads.
-/
module

public import proofs.«01_k».proof.Proof.MoeIFrame
public import proofs.«01_k».proof.Proof.MoeMath
public import Idealize.ShloMosaic.Lib.MatmulPlain
public import Idealize.ShloMosaic.Lib.Pipeline.Value
public import proofs.«01_k».proof.Proof.MoeICast

@[expose] public section

set_option maxRecDepth 16384

noncomputable section

namespace Cert.KernelIdeal.Moe

open Idealize.ShloMosaic Idealize.ShloMosaic.TcCoe Idealize.ShloMosaic.Tactic Idealize.ShloMosaic.ValueIdx
open Cert.KernelIdeal.Gen Cert.MoeMath
open scoped BigOperators

/-! ## The loads -/

/-- Every eighth row of the token block from row `s`: lane chunk `s` of the 256 token rows. -/
abbrev lane (s : Fin 8) : LoadRect S2048x128 :=
  ⟨![s.val, 0], ![256, 128], ![8, 1], by
    intro a; right; have := s.isLt
    match a with
    | ⟨0, _⟩ => show s.val + 8 * (256 - 1) < 2048; omega
    | ⟨1, _⟩ => show 0 + 1 * (128 - 1) < 128; omega⟩

abbrev ldx (r : Memref sig .tc .vmem S2048x128 .f32) (h : r.IsWhole) (x : Vec Ideal S2048x128 .f32) (s : Fin 8) : Vec Ideal S256x128 .f32 :=
  View.readAt (Elt Ideal) r.view (lane s) (h.unread x)
abbrev ldw (r : Memref sig .tc .vmem S1x1x1024x512 .bf16) (h : r.IsWhole) (x : Vec Ideal S1x1x1024x512 .bf16) : Vec Ideal S1x1x1024x512 .bf16 :=
  View.readAt (Elt Ideal) r.view (Rect.unit (s := S1x1x1024x512) ![0, 0, 0, 0] ![1, 1, 1024, 512] inb_S1x1x1024x512_S1x1x1024x512_0_0_0_0).toLoadRect (h.unread x)
abbrev ldv (r : Memref sig .tc .vmem S1x1x512x1024 .bf16) (h : r.IsWhole) (x : Vec Ideal S1x1x512x1024 .bf16) : Vec Ideal S1x1x512x1024 .bf16 :=
  View.readAt (Elt Ideal) r.view (Rect.unit (s := S1x1x512x1024) ![0, 0, 0, 0] ![1, 1, 512, 1024] inb_S1x1x512x1024_S1x1x512x1024_0_0_0_0).toLoadRect (h.unread x)

theorem ldx_apply (r : Memref sig .tc .vmem S2048x128 .f32) (h : r.IsWhole) (x : Vec Ideal S2048x128 .f32) (s : Fin 8) (i : Fin 256) (l : Fin 128) :
    ldx r h x s (ix2 i l) = x (ix2 ⟨8 * i.val + s.val, by have := i.isLt; have := s.isLt; omega⟩ l) := by
  show View.read (Elt Ideal) r.view (h.unread x) _ = _
  rw [h.read_unread]
  refine congrArg x (funext fun a => Fin.ext ?_)
  match a with
  | ⟨0, _⟩ => show s.val + 8 * i.val = 8 * i.val + s.val; omega
  | ⟨1, _⟩ => show 0 + 1 * l.val = l.val; omega

theorem ldw_eq (r : Memref sig .tc .vmem S1x1x1024x512 .bf16) (h : r.IsWhole) (x : Vec Ideal S1x1x1024x512 .bf16) : ldw r h x = x := by
  show View.ld (View.read (Elt Ideal) r.view (h.unread x)) _ = _
  rw [h.read_unread, View.ld_unit_zero]
  funext a; match a with | ⟨0, _⟩ => rfl | ⟨1, _⟩ => rfl | ⟨2, _⟩ => rfl | ⟨3, _⟩ => rfl

theorem ldv_eq (r : Memref sig .tc .vmem S1x1x512x1024 .bf16) (h : r.IsWhole) (x : Vec Ideal S1x1x512x1024 .bf16) : ldv r h x = x := by
  show View.ld (View.read (Elt Ideal) r.view (h.unread x)) _ = _
  rw [h.read_unread, View.ld_unit_zero]
  funext a; match a with | ⟨0, _⟩ => rfl | ⟨1, _⟩ => rfl | ⟨2, _⟩ => rfl | ⟨3, _⟩ => rfl

/-! ## The payloads -/

/-- The token block, its eight lane chunks laid side by side. -/
abbrev rows (g : Fin 8 → Vec Ideal S256x128 .f32) : FVec Ideal S256x1024 .bf16 := k0_pay2 (g 0) (g 1) (g 2) (g 3) (g 4) (g 5) (g 6) (g 7)

/-- The first and the second expert's outputs for the block. -/
abbrev yA (g : Fin 8 → Vec Ideal S256x128 .f32) (w1 w3 : Vec Ideal S1x1x1024x512 .bf16) (w2 : Vec Ideal S1x1x512x1024 .bf16) : FVec Ideal S256x1024 .f32 :=
  k0_pay5 (k0_pay3 (g 0) (g 1) (g 2) (g 3) (g 4) (g 5) (g 6) (g 7) w1 w3) (k0_pay4 w2)
abbrev yB (g : Fin 8 → Vec Ideal S256x128 .f32) (w1 w3 : Vec Ideal S1x1x1024x512 .bf16) (w2 : Vec Ideal S1x1x512x1024 .bf16) : FVec Ideal S256x1024 .f32 :=
  k0_pay17 (rows g) (k0_pay14 (rows g) w1) (k0_pay15 (rows g) w1) k0_pay16 w3 w2

theorem rows_apply (g : Fin 8 → Vec Ideal S256x128 .f32) (i : Fin 256) (d : Fin 1024) :
    rows g (ix2 i d) = g ⟨d.val / 128, by have := d.isLt; omega⟩ (ix2 i ⟨d.val % 128, Nat.mod_lt _ (by decide)⟩) := by
  show concatenate S256x1024 1 (List.ofFn fun n : Fin 8 => (⟨S256x128, g n⟩ : (s : Shape) × (s.Idx → EReal))) concatenates_S256x128_S256x128_S256x128_S256x128_S256x128_S256x128_S256x128_S256x128_S256x1024_d1 (ix2 i d) = _
  refine concatenate_ofFn_apply (t := S256x1024) (s₁ := S256x128) 1 g concatenates_S256x128_S256x128_S256x128_S256x128_S256x128_S256x128_S256x128_S256x128_S256x1024_d1 rfl 128 rfl (ix2 i d) _ rfl _ rfl ?_
  intro b hb
  match b with
  | ⟨0, _⟩ => rfl
  | ⟨1, _⟩ => exact absurd rfl hb

theorem up_apply (v : FVec Ideal S256x1024 .bf16) (w : Vec Ideal S1x1x1024x512 .bf16) (i : Fin 256) (f : Fin 512) :
    k0_pay14 v w (ix2 i f) = ∑ k : Fin 1024, v (ix2 i k) * w (ix4 0 0 k f) := by
  show FloatOps.matmul (DotDims.plain 256 1024 512) none v _ _ (ix2 i f) = _
  rw [Ideal.matmul_plain_apply]
  show Ideal.ofBits .f32 0x00000000#32 + _ = _
  rw [Ideal.ofBits_zero_f32, zero_add]
  exact Finset.sum_congr rfl fun k _ => congrArg (v (ix2 i k) * ·) (cast13 w k f)

theorem down_apply (v : FVec Ideal S256x512 .f32) (w : Vec Ideal S1x1x512x1024 .bf16) (i : Fin 256) (d : Fin 1024) :
    k0_pay5 v (k0_pay4 w) (ix2 i d) = ∑ f : Fin 512, v (ix2 i f) * w (ix4 0 0 f d) := by
  show FloatOps.matmul (DotDims.plain 256 512 1024) none _ _ _ (ix2 i d) = _
  rw [Ideal.matmul_plain_apply]
  show Ideal.ofBits .f32 0x00000000#32 + _ = _
  rw [Ideal.ofBits_zero_f32, zero_add]
  exact Finset.sum_congr rfl fun f _ => congrArg (v (ix2 i f) * ·) (cast2 w f d)

/-- The hidden activations, as the body spells them the first time. -/
theorem hidden_apply (g : Fin 8 → Vec Ideal S256x128 .f32) (w1 w3 : Vec Ideal S1x1x1024x512 .bf16) (i : Fin 256) (f : Fin 512) :
    k0_pay3 (g 0) (g 1) (g 2) (g 3) (g 4) (g 5) (g 6) (g 7) w1 w3 (ix2 i f)
      = inner (fun k => rows g (ix2 i k)) (fun k f => w1 (ix4 0 0 k f)) (fun k f => w3 (ix4 0 0 k f)) f := by
  show k0_pay14 (rows g) w1 (ix2 i f) * Ideal.div one (one + Ideal.exp (Ideal.ofBits .f32 0x00000000#32 - k0_pay14 (rows g) w1 (ix2 i f)))
    * k0_pay14 (rows g) w3 (ix2 i f) = _
  rw [Ideal.ofBits_zero_f32, zero_sub, up_apply, up_apply]
  rfl

/-- The block that both experts' outputs are cut from, at row `i` and channel `d`. -/
abbrev ffn (x0 : Vec Ideal S2048x128 .f32) (w1 w3 : Vec Ideal S1x1x1024x512 .bf16) (w2 : Vec Ideal S1x1x512x1024 .bf16) (i : Fin 256) (d : Fin 1024) : EReal :=
  expert (fun k => x0 (ix2 ⟨8 * i.val + k.val / 128, by have := i.isLt; have := k.isLt; omega⟩ ⟨k.val % 128, Nat.mod_lt _ (by decide)⟩))
    (fun k f => w1 (ix4 0 0 k f)) (fun k f => w3 (ix4 0 0 k f)) (fun f d => w2 (ix4 0 0 f d)) d

theorem yA_apply (r : Memref sig .tc .vmem S2048x128 .f32) (h : r.IsWhole) (x0 : Vec Ideal S2048x128 .f32)
    (w1 w3 : Vec Ideal S1x1x1024x512 .bf16) (w2 : Vec Ideal S1x1x512x1024 .bf16) (i : Fin 256) (d : Fin 1024) :
    yA (ldx r h x0) w1 w3 w2 (ix2 i d) = ffn x0 w1 w3 w2 i d := by
  refine (down_apply _ _ _ _).trans ?_
  refine Finset.sum_congr rfl fun f _ => congrArg (· * w2 (ix4 0 0 f d)) ?_
  rw [hidden_apply]
  simp only [rows_apply, ldx_apply]

theorem yB_eq (g : Fin 8 → Vec Ideal S256x128 .f32) (w1 w3 : Vec Ideal S1x1x1024x512 .bf16) (w2 : Vec Ideal S1x1x512x1024 .bf16) :
    yB g w1 w3 w2 = yA g w1 w3 w2 := rfl

/-! ## The block -/

/-- Lane chunk `s` of the outputs. -/
abbrev cut (s : ℕ) (h : S256x1024.Slices ![0, 128 * s] S256x128) (y : FVec Ideal S256x1024 .f32) : FVec Ideal S256x128 .f32 :=
  extractStridedSlice S256x128 ![0, 128 * s] y h

/-- The result's block: row `16 i + 8 k + s` is lane chunk `s` of row `i` of the `k`th expert's outputs. -/
def blk (x0 : Vec Ideal S2048x128 .f32) (x1 x2 : Vec Ideal S1x1x1024x512 .bf16) (x3 : Vec Ideal S1x1x512x1024 .bf16)
    (x4 x5 : Vec Ideal S1x1x1024x512 .bf16) (x6 : Vec Ideal S1x1x512x1024 .bf16) (y : S4096x128.Idx) : EReal :=
  let i : Fin 256 := ⟨(y 0).val / 16, by have : (y 0).val < 4096 := (y 0).isLt; omega⟩
  let d : Fin 1024 := ⟨128 * ((y 0).val % 8) + (y 1).val, by have : (y 1).val < 128 := (y 1).isLt; omega⟩
  if (y 0).val % 16 < 8 then ffn x0 x1 x2 x3 i d else ffn x0 x4 x5 x6 i d

/-- A piece is the block's part under its rows. -/
theorem piece (x0 : Vec Ideal S2048x128 .f32) (x1 x2 : Vec Ideal S1x1x1024x512 .bf16) (x3 : Vec Ideal S1x1x512x1024 .bf16)
    (x4 x5 : Vec Ideal S1x1x1024x512 .bf16) (x6 : Vec Ideal S1x1x512x1024 .bf16) (r : Memref sig .tc .vmem S2048x128 .f32) (h : r.IsWhole)
    (k : Fin 16) (s : ℕ) (hs : k.val % 8 = s) (hS : S256x1024.Slices ![0, 128 * s] S256x128) (y : FVec Ideal S256x1024 .f32)
    (hy : y = if k.val < 8 then yA (ldx r h x0) x1 x2 x3 else yA (ldx r h x0) x4 x5 x6) (j : S256x128.Idx) :
    cut s hS y j = blk x0 x1 x2 x3 x4 x5 x6 ((rows16 k).emb j) := by
  subst hs
  obtain ⟨i, l, rfl⟩ : ∃ (i : Fin 256) (l : Fin 128), j = ix2 i l :=
    ⟨j 0, j 1, by funext a; match a with | ⟨0, _⟩ => rfl | ⟨1, _⟩ => rfl⟩
  have hk := k.isLt
  have h0 := i.isLt
  have h1 := l.isLt
  have hc : cut (k.val % 8) hS y (ix2 i l) = y (ix2 i ⟨128 * (k.val % 8) + l.val, by omega⟩) := by
    refine extractStridedSlice_apply _ _ _ _ _ fun a => ?_
    match a with
    | ⟨0, _⟩ => show i.val = 0 + i.val; omega
    | ⟨1, _⟩ => rfl
  have hi : (⟨(k.val + 16 * i.val) / 16, by omega⟩ : Fin 256) = i := Fin.ext (by show (k.val + 16 * i.val) / 16 = i.val; omega)
  have hd : (⟨128 * ((k.val + 16 * i.val) % 8) + (0 + 1 * l.val), by omega⟩ : Fin 1024) = ⟨128 * (k.val % 8) + l.val, by omega⟩ :=
    Fin.ext (by show 128 * ((k.val + 16 * i.val) % 8) + (0 + 1 * l.val) = 128 * (k.val % 8) + l.val; omega)
  have hm : (k.val + 16 * i.val) % 16 = k.val := by omega
  rw [hc, hy]
  show _ = if (k.val + 16 * i.val) % 16 < 8 then ffn x0 x1 x2 x3 ⟨(k.val + 16 * i.val) / 16, _⟩ ⟨128 * ((k.val + 16 * i.val) % 8) + (0 + 1 * l.val), _⟩
    else ffn x0 x4 x5 x6 ⟨(k.val + 16 * i.val) / 16, _⟩ ⟨128 * ((k.val + 16 * i.val) % 8) + (0 + 1 * l.val), _⟩
  rw [hi, hd, hm]
  by_cases hlt : k.val < 8
  · rw [if_pos hlt, if_pos hlt]; exact yA_apply r h x0 x1 x2 x3 _ _
  · rw [if_neg hlt, if_neg hlt]; exact yA_apply r h x0 x4 x5 x6 _ _

end Cert.KernelIdeal.Moe

end
-- ==== Proof.MoeIBlock.lean ====
/-
  The routed experts over the extended reals: the pieces that the body writes are those of the block computed.
-/
module

public import proofs.«01_k».proof.Proof.MoeIPay

@[expose] public section

set_option maxRecDepth 16384

noncomputable section

namespace Cert.KernelIdeal.Moe

open Idealize.ShloMosaic Idealize.ShloMosaic.TcCoe Idealize.ShloMosaic.Tactic Idealize.ShloMosaic.ValueIdx
open Cert.KernelIdeal.Gen Cert.MoeMath
open scoped BigOperators

/-- A piece of the first expert's half, and one of the second's. -/
theorem piece_a (x0 : Vec Ideal S2048x128 .f32) (x1 x2 : Vec Ideal S1x1x1024x512 .bf16) (x3 : Vec Ideal S1x1x512x1024 .bf16)
    (x4 x5 : Vec Ideal S1x1x1024x512 .bf16) (x6 : Vec Ideal S1x1x512x1024 .bf16) (r : Memref sig .tc .vmem S2048x128 .f32) (h : r.IsWhole)
    (r1 : Memref sig .tc .vmem S1x1x1024x512 .bf16) (h1 : r1.IsWhole) (r2 : Memref sig .tc .vmem S1x1x1024x512 .bf16) (h2 : r2.IsWhole)
    (r3 : Memref sig .tc .vmem S1x1x512x1024 .bf16) (h3 : r3.IsWhole)
    (k : Fin 16) (s : ℕ) (hs : k.val % 8 = s) (hk : k.val < 8) (hS : S256x1024.Slices ![0, 128 * s] S256x128) (j : S256x128.Idx) :
    cut s hS (yA (ldx r h x0) (ldw r1 h1 x1) (ldw r2 h2 x2) (ldv r3 h3 x3)) j = blk x0 x1 x2 x3 x4 x5 x6 ((rows16 k).emb j) := by
  refine piece x0 x1 x2 x3 x4 x5 x6 r h k s hs hS _ ?_ j
  rw [if_pos hk, ldw_eq, ldw_eq, ldv_eq]

theorem piece_b (x0 : Vec Ideal S2048x128 .f32) (x1 x2 : Vec Ideal S1x1x1024x512 .bf16) (x3 : Vec Ideal S1x1x512x1024 .bf16)
    (x4 x5 : Vec Ideal S1x1x1024x512 .bf16) (x6 : Vec Ideal S1x1x512x1024 .bf16) (r : Memref sig .tc .vmem S2048x128 .f32) (h : r.IsWhole)
    (r1 : Memref sig .tc .vmem S1x1x1024x512 .bf16) (h1 : r1.IsWhole) (r2 : Memref sig .tc .vmem S1x1x1024x512 .bf16) (h2 : r2.IsWhole)
    (r3 : Memref sig .tc .vmem S1x1x512x1024 .bf16) (h3 : r3.IsWhole)
    (k : Fin 16) (s : ℕ) (hs : k.val % 8 = s) (hk : ¬ k.val < 8) (hS : S256x1024.Slices ![0, 128 * s] S256x128) (j : S256x128.Idx) :
    cut s hS (yB (ldx r h x0) (ldw r1 h1 x4) (ldw r2 h2 x5) (ldv r3 h3 x6)) j = blk x0 x1 x2 x3 x4 x5 x6 ((rows16 k).emb j) := by
  refine piece x0 x1 x2 x3 x4 x5 x6 r h k s hs hS _ ?_ j
  rw [if_neg hk, yB_eq, ldw_eq, ldw_eq, ldv_eq]

set_option maxHeartbeats 1000000 in
/-- The pieces that the body leaves are these. -/
theorem pieces_eq (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec Ideal S2048x128 .f32) (x1 : Vec Ideal S1x1x1024x512 .bf16) (x2 : Vec Ideal S1x1x1024x512 .bf16) (x3 : Vec Ideal S1x1x512x1024 .bf16) (x4 : Vec Ideal S1x1x1024x512 .bf16) (x5 : Vec Ideal S1x1x1024x512 .bf16) (x6 : Vec Ideal S1x1x512x1024 .bf16) (ta : TabBuf (F := Ideal) c tabA) (tb : TabBuf (F := Ideal) c tabB) (tn : TabBuf (F := Ideal) c tabN)
    (hc1 : ¬ k0_cond1 i (countOf c tn) = 1#1) (hc2 : k0_cond2 i (countOf c tn) = 1#1) :
    (runV c i r0 h0 r1 h1 r2 h2 r3 h3 r4 h4 r5 h5 r6 h6 r7 h7 x0 x1 x2 x3 x4 x5 x6 ta tb tn hc1 hc2).1 = ([
      ⟨rows16 15, cut 7 slices_S256x1024_o0_896_S256x128 (yB (ldx r0 h0 x0) (ldw r4 h4 x4) (ldw r5 h5 x5) (ldv r6 h6 x6))⟩,
      ⟨rows16 14, cut 6 slices_S256x1024_o0_768_S256x128 (yB (ldx r0 h0 x0) (ldw r4 h4 x4) (ldw r5 h5 x5) (ldv r6 h6 x6))⟩,
      ⟨rows16 13, cut 5 slices_S256x1024_o0_640_S256x128 (yB (ldx r0 h0 x0) (ldw r4 h4 x4) (ldw r5 h5 x5) (ldv r6 h6 x6))⟩,
      ⟨rows16 12, cut 4 slices_S256x1024_o0_512_S256x128 (yB (ldx r0 h0 x0) (ldw r4 h4 x4) (ldw r5 h5 x5) (ldv r6 h6 x6))⟩,
      ⟨rows16 11, cut 3 slices_S256x1024_o0_384_S256x128 (yB (ldx r0 h0 x0) (ldw r4 h4 x4) (ldw r5 h5 x5) (ldv r6 h6 x6))⟩,
      ⟨rows16 10, cut 2 slices_S256x1024_o0_256_S256x128 (yB (ldx r0 h0 x0) (ldw r4 h4 x4) (ldw r5 h5 x5) (ldv r6 h6 x6))⟩,
      ⟨rows16 9, cut 1 slices_S256x1024_o0_128_S256x128 (yB (ldx r0 h0 x0) (ldw r4 h4 x4) (ldw r5 h5 x5) (ldv r6 h6 x6))⟩,
      ⟨rows16 8, cut 0 slices_S256x1024_o0_0_S256x128 (yB (ldx r0 h0 x0) (ldw r4 h4 x4) (ldw r5 h5 x5) (ldv r6 h6 x6))⟩,
      ⟨rows16 7, cut 7 slices_S256x1024_o0_896_S256x128 (yA (ldx r0 h0 x0) (ldw r1 h1 x1) (ldw r2 h2 x2) (ldv r3 h3 x3))⟩,
      ⟨rows16 6, cut 6 slices_S256x1024_o0_768_S256x128 (yA (ldx r0 h0 x0) (ldw r1 h1 x1) (ldw r2 h2 x2) (ldv r3 h3 x3))⟩,
      ⟨rows16 5, cut 5 slices_S256x1024_o0_640_S256x128 (yA (ldx r0 h0 x0) (ldw r1 h1 x1) (ldw r2 h2 x2) (ldv r3 h3 x3))⟩,
      ⟨rows16 4, cut 4 slices_S256x1024_o0_512_S256x128 (yA (ldx r0 h0 x0) (ldw r1 h1 x1) (ldw r2 h2 x2) (ldv r3 h3 x3))⟩,
      ⟨rows16 3, cut 3 slices_S256x1024_o0_384_S256x128 (yA (ldx r0 h0 x0) (ldw r1 h1 x1) (ldw r2 h2 x2) (ldv r3 h3 x3))⟩,
      ⟨rows16 2, cut 2 slices_S256x1024_o0_256_S256x128 (yA (ldx r0 h0 x0) (ldw r1 h1 x1) (ldw r2 h2 x2) (ldv r3 h3 x3))⟩,
      ⟨rows16 1, cut 1 slices_S256x1024_o0_128_S256x128 (yA (ldx r0 h0 x0) (ldw r1 h1 x1) (ldw r2 h2 x2) (ldv r3 h3 x3))⟩,
      ⟨rows16 0, cut 0 slices_S256x1024_o0_0_S256x128 (yA (ldx r0 h0 x0) (ldw r1 h1 x1) (ldw r2 h2 x2) (ldv r3 h3 x3))⟩] : List (View.Piece (Elt Ideal) S4096x128 .f32)) := by
  sl_kernel_rfl

/-- So the block holds `blk` of what was read. -/
theorem canonV (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec Ideal S2048x128 .f32) (x1 : Vec Ideal S1x1x1024x512 .bf16) (x2 : Vec Ideal S1x1x1024x512 .bf16) (x3 : Vec Ideal S1x1x512x1024 .bf16) (x4 : Vec Ideal S1x1x1024x512 .bf16) (x5 : Vec Ideal S1x1x1024x512 .bf16) (x6 : Vec Ideal S1x1x512x1024 .bf16) (ta : TabBuf (F := Ideal) c tabA) (tb : TabBuf (F := Ideal) c tabB) (tn : TabBuf (F := Ideal) c tabN)
    (hc1 : ¬ k0_cond1 i (countOf c tn) = 1#1) (hc2 : k0_cond2 i (countOf c tn) = 1#1) :
    View.canon (runV c i r0 h0 r1 h1 r2 h2 r3 h3 r4 h4 r5 h5 r6 h6 r7 h7 x0 x1 x2 x3 x4 x5 x6 ta tb tn hc1 hc2).1 = blk x0 x1 x2 x3 x4 x5 x6 := by
  funext y
  refine View.canon_apply_of_pieces (blk x0 x1 x2 x3 x4 x5 x6) _ ?_ y (coverV c i r0 h0 r1 h1 r2 h2 r3 h3 r4 h4 r5 h5 r6 h6 r7 h7 x0 x1 x2 x3 x4 x5 x6 ta tb tn hc1 hc2 y)
  rw [pieces_eq]
  refine List.forall_mem_cons.mpr ⟨fun j => piece_b x0 x1 x2 x3 x4 x5 x6 r0 h0 r4 h4 r5 h5 r6 h6 15 7 rfl (by decide) slices_S256x1024_o0_896_S256x128 j, ?_⟩
  refine List.forall_mem_cons.mpr ⟨fun j => piece_b x0 x1 x2 x3 x4 x5 x6 r0 h0 r4 h4 r5 h5 r6 h6 14 6 rfl (by decide) slices_S256x1024_o0_768_S256x128 j, ?_⟩
  refine List.forall_mem_cons.mpr ⟨fun j => piece_b x0 x1 x2 x3 x4 x5 x6 r0 h0 r4 h4 r5 h5 r6 h6 13 5 rfl (by decide) slices_S256x1024_o0_640_S256x128 j, ?_⟩
  refine List.forall_mem_cons.mpr ⟨fun j => piece_b x0 x1 x2 x3 x4 x5 x6 r0 h0 r4 h4 r5 h5 r6 h6 12 4 rfl (by decide) slices_S256x1024_o0_512_S256x128 j, ?_⟩
  refine List.forall_mem_cons.mpr ⟨fun j => piece_b x0 x1 x2 x3 x4 x5 x6 r0 h0 r4 h4 r5 h5 r6 h6 11 3 rfl (by decide) slices_S256x1024_o0_384_S256x128 j, ?_⟩
  refine List.forall_mem_cons.mpr ⟨fun j => piece_b x0 x1 x2 x3 x4 x5 x6 r0 h0 r4 h4 r5 h5 r6 h6 10 2 rfl (by decide) slices_S256x1024_o0_256_S256x128 j, ?_⟩
  refine List.forall_mem_cons.mpr ⟨fun j => piece_b x0 x1 x2 x3 x4 x5 x6 r0 h0 r4 h4 r5 h5 r6 h6 9 1 rfl (by decide) slices_S256x1024_o0_128_S256x128 j, ?_⟩
  refine List.forall_mem_cons.mpr ⟨fun j => piece_b x0 x1 x2 x3 x4 x5 x6 r0 h0 r4 h4 r5 h5 r6 h6 8 0 rfl (by decide) slices_S256x1024_o0_0_S256x128 j, ?_⟩
  refine List.forall_mem_cons.mpr ⟨fun j => piece_a x0 x1 x2 x3 x4 x5 x6 r0 h0 r1 h1 r2 h2 r3 h3 7 7 rfl (by decide) slices_S256x1024_o0_896_S256x128 j, ?_⟩
  refine List.forall_mem_cons.mpr ⟨fun j => piece_a x0 x1 x2 x3 x4 x5 x6 r0 h0 r1 h1 r2 h2 r3 h3 6 6 rfl (by decide) slices_S256x1024_o0_768_S256x128 j, ?_⟩
  refine List.forall_mem_cons.mpr ⟨fun j => piece_a x0 x1 x2 x3 x4 x5 x6 r0 h0 r1 h1 r2 h2 r3 h3 5 5 rfl (by decide) slices_S256x1024_o0_640_S256x128 j, ?_⟩
  refine List.forall_mem_cons.mpr ⟨fun j => piece_a x0 x1 x2 x3 x4 x5 x6 r0 h0 r1 h1 r2 h2 r3 h3 4 4 rfl (by decide) slices_S256x1024_o0_512_S256x128 j, ?_⟩
  refine List.forall_mem_cons.mpr ⟨fun j => piece_a x0 x1 x2 x3 x4 x5 x6 r0 h0 r1 h1 r2 h2 r3 h3 3 3 rfl (by decide) slices_S256x1024_o0_384_S256x128 j, ?_⟩
  refine List.forall_mem_cons.mpr ⟨fun j => piece_a x0 x1 x2 x3 x4 x5 x6 r0 h0 r1 h1 r2 h2 r3 h3 2 2 rfl (by decide) slices_S256x1024_o0_256_S256x128 j, ?_⟩
  refine List.forall_mem_cons.mpr ⟨fun j => piece_a x0 x1 x2 x3 x4 x5 x6 r0 h0 r1 h1 r2 h2 r3 h3 1 1 rfl (by decide) slices_S256x1024_o0_128_S256x128 j, ?_⟩
  refine List.forall_mem_cons.mpr ⟨fun j => piece_a x0 x1 x2 x3 x4 x5 x6 r0 h0 r1 h1 r2 h2 r3 h3 0 0 rfl (by decide) slices_S256x1024_o0_0_S256x128 j, ?_⟩
  exact fun p hp => absurd hp List.not_mem_nil

end Cert.KernelIdeal.Moe

end
-- ==== Proof.MoeIOk.lean ====
/-
  The routed experts: what the prefetched tables hold when the call is reached, and that every block that they name
  lies in its array.
-/
module

public import proofs.«01_k».proof.Proof.MoeIBase
public import proofs.«01_k».proof.Proof.MoeTab

@[expose] public section

noncomputable section

namespace Cert.KernelIdeal.Moe

open Idealize.ShloMosaic Idealize.ShloMosaic.TcCoe Idealize.ShloMosaic.Tactic Idealize.ShloMosaic.ValueIdx
open Cert.KernelIdeal.Gen Cert.MoeTab

variable {F : FTy → Type} [FloatOps F]
variable (m : (ℓ : Loc nD τ sig) → Buf (Elt F) ℓ)

/-- The arguments' tables, on the one device. -/
abbrev argA : IVec T96 32 := m (((0 : Dev nD) : Thread nD τ).loc main_arg0)
abbrev argB : IVec T96 32 := m (((0 : Dev nD) : Thread nD τ).loc main_arg1)
abbrev argN : IVec T1 32 := m (((0 : Dev nD) : Thread nD τ).loc main_arg2)

theorem dims_eq : gather_S96_S96x1_S96_n_0_n_n_0_1_1 = pickDims 96 gather_S96_S96x1_S96_n_0_n_n_0_1_1_wf := rfl

/-- The table that the host makes of one of the arguments'. -/
def picked (x : IVec T96 32) (n : IVec T1 32) : IVec T96 32 :=
    Host.gather gather_S96_S96x1_S96_n_0_n_n_0_1_1 x
      (broadcastInDim S96x1 ![0] bcast_S96_S96x1_0
        (minsi (iotaInDim S96 32 0)
          (broadcastInDim S96 ![] bcast_S_S96
            (subi (fun i => shapeCast main_v4.ty.shape n shapeCasts_S1_S_ i) (constantI S_ 32 1#32)))))

/-- It is the argument's, read at the clamped positions. -/
theorem pick_pos (x : IVec T96 32) (n : IVec T1 32) (hn : 1 ≤ (n (ix1 0)).toInt) (t : Fin 96) :
    picked x n (ix1 t) = x (ix1 (pos t (n (ix1 0)))) := by
  unfold picked
  rw [dims_eq, pick_apply (by decide)]
  refine congrArg x (congrArg ix1 (Fin.ext ?_))
  have hw : (broadcastInDim S96x1 ![0] bcast_S96_S96x1_0
        (minsi (iotaInDim S96 32 0)
          (broadcastInDim S96 ![] bcast_S_S96
            (subi (fun i => shapeCast main_v4.ty.shape n shapeCasts_S1_S_ i) (constantI S_ 32 1#32)))) (ix2 t 0) : BitVec 32)
      = posWord t (n (ix1 0)) := by
    exact congrArg (fun k : T1.Idx => IntOp.minsi (BitVec.ofNat 32 t.val) (IntOp.subi (n k) 1#32)) (one_idx _)
  show min (BitVec.toInt _).toNat (96 - 1) = _
  rw [hw, posWord_toInt _ _ hn]
  have := (pos t (n (ix1 0))).isLt
  show min (Int.toNat _) 95 = _
  rw [Int.toNat_natCast]
  omega

theorem tblA (h : 1 ≤ (argN m (ix1 0)).toInt) (t : Fin 96) :
    (tbl m 0 : IVec T96 32) (ix1 t) = argA m (ix1 (pos t (argN m (ix1 0)))) := by
  have e : (tbl m 0 : IVec T96 32) = picked (argA m) (argN m) := by
    show V m (0 : Dev nD) main_v9 = _
    unfold V hostOps0
    after_results_simp
    rfl
  rw [e]
  exact pick_pos _ _ h t

theorem tblB (h : 1 ≤ (argN m (ix1 0)).toInt) (t : Fin 96) :
    (tbl m 1 : IVec T96 32) (ix1 t) = argB m (ix1 (pos t (argN m (ix1 0)))) := by
  have e : (tbl m 1 : IVec T96 32) = picked (argB m) (argN m) := by
    show V m (0 : Dev nD) main_v11 = _
    unfold V hostOps0
    after_results_simp
    rfl
  rw [e]
  exact pick_pos _ _ h t

theorem tblN : (tbl m 2 : IVec T1 32) = argN m := V_keeps m 0 main_arg2 (by decide)

/-- A table's word, read as the index maps read it. -/
theorem at_a (pf : pre0.Contents (Elt F)) (t : Fin 96) (i : grid0.Coords) (hi : (i 0).val = t.val) (h1) :
    pf.at 0 (Rect.unit (s := S96) ![(Scalar.indexCast (BitVec.ofNat 32 (i 0).val)).toNat] S1.size h1) numel1_S1
      = (pf 0 : IVec T96 32) (ix1 t) := by
  show (pf 0 : IVec T96 32) _ = _
  refine congrArg _ (funext fun a => ?_)
  match a with
  | ⟨0, _⟩ =>
    apply Fin.ext
    have := t.isLt
    show (BitVec.ofNat 32 (i 0).val).toNat + 1 * (0 : ℕ) = t.val
    rw [WordCmp.toNat_ofNat_of_lt] <;> omega

theorem at_b (pf : pre0.Contents (Elt F)) (t : Fin 96) (i : grid0.Coords) (hi : (i 0).val = t.val) (h1) :
    pf.at 1 (Rect.unit (s := S96) ![(Scalar.indexCast (BitVec.ofNat 32 (i 0).val)).toNat] S1.size h1) numel1_S1
      = (pf 1 : IVec T96 32) (ix1 t) := by
  show (pf 1 : IVec T96 32) _ = _
  refine congrArg _ (funext fun a => ?_)
  match a with
  | ⟨0, _⟩ =>
    apply Fin.ext
    have := t.isLt
    show (BitVec.ofNat 32 (i 0).val).toNat + 1 * (0 : ℕ) = t.val
    rw [WordCmp.toNat_ofNat_of_lt] <;> omega

theorem at_n (pf : pre0.Contents (Elt F)) (h1) :
    pf.at 2 (Rect.unit (s := S1) ![0] S1.size h1) numel1_S1 = (pf 2 : IVec T1 32) (ix1 0) := by
  show (pf 2 : IVec T1 32) _ = _
  refine congrArg _ (funext fun a => ?_)
  match a with
  | ⟨0, _⟩ => exact (Subsingleton.elim _ _ : (_ : Fin 1) = _)

variable (hR : Routed (argA m) (argB m) (argN m))
include hR

/-- The blocks of the index maps, in numbers. -/
theorem block_x (t : Fin 96) (i : grid0.Coords) (hi : (i 0).val = t.val) :
    cc0_transform_0 inb_S1_S1_0 numel1_S1 (tbl m) i = ![(pos t (argN m (ix1 0))).val, 0] := by
  have h : (tbl m).at 2 (Rect.unit (s := S1) ![0] S1.size inb_S1_S1_0) numel1_S1 = argN m (ix1 0) :=
    (at_n (tbl m) _).trans (congrFun (tblN m) _)
  have hw : Scalar.minsi (BitVec.ofNat 32 (i 0).val)
      (Scalar.subi ((tbl m).at 2 (Rect.unit (s := S1) ![0] S1.size inb_S1_S1_0) numel1_S1) 1#32) = posWord t (argN m (ix1 0)) := by
    rw [h, hi]; rfl
  exact congrArg (fun k => ![k, 0]) ((congrArg BitVec.toNat hw).trans (posWord_toNat t _ hR.n))

theorem block1 (t : Fin 96) (i : grid0.Coords) (hi : (i 0).val = t.val) :
    cc0_transform_1 k0_off1_inb numel1_S1 (tbl m) i = ![0, (argA m (ix1 (pos t (argN m (ix1 0))))).toNat, 0, 0] := by
  exact congrArg (fun w : BitVec 32 => ![0, w.toNat, 0, 0])
    ((at_a (tbl m) t i hi (k0_off1_inb i)).trans (tblA m hR.n t))

theorem block2 (t : Fin 96) (i : grid0.Coords) (hi : (i 0).val = t.val) :
    cc0_transform_2 k0_off1_inb numel1_S1 (tbl m) i = ![0, (argA m (ix1 (pos t (argN m (ix1 0))))).toNat, 0, 0] := by
  exact congrArg (fun w : BitVec 32 => ![0, w.toNat, 0, 0])
    ((at_a (tbl m) t i hi (k0_off1_inb i)).trans (tblA m hR.n t))

theorem block3 (t : Fin 96) (i : grid0.Coords) (hi : (i 0).val = t.val) :
    cc0_transform_3 k0_off1_inb numel1_S1 (tbl m) i = ![0, (argA m (ix1 (pos t (argN m (ix1 0))))).toNat, 0, 0] := by
  exact congrArg (fun w : BitVec 32 => ![0, w.toNat, 0, 0])
    ((at_a (tbl m) t i hi (k0_off1_inb i)).trans (tblA m hR.n t))

theorem block4 (t : Fin 96) (i : grid0.Coords) (hi : (i 0).val = t.val) :
    cc0_transform_4 k0_off1_inb numel1_S1 (tbl m) i = ![0, (argB m (ix1 (pos t (argN m (ix1 0))))).toNat, 0, 0] := by
  exact congrArg (fun w : BitVec 32 => ![0, w.toNat, 0, 0])
    ((at_b (tbl m) t i hi (k0_off1_inb i)).trans (tblB m hR.n t))

theorem block5 (t : Fin 96) (i : grid0.Coords) (hi : (i 0).val = t.val) :
    cc0_transform_5 k0_off1_inb numel1_S1 (tbl m) i = ![0, (argB m (ix1 (pos t (argN m (ix1 0))))).toNat, 0, 0] := by
  exact congrArg (fun w : BitVec 32 => ![0, w.toNat, 0, 0])
    ((at_b (tbl m) t i hi (k0_off1_inb i)).trans (tblB m hR.n t))

theorem block6 (t : Fin 96) (i : grid0.Coords) (hi : (i 0).val = t.val) :
    cc0_transform_6 k0_off1_inb numel1_S1 (tbl m) i = ![0, (argB m (ix1 (pos t (argN m (ix1 0))))).toNat, 0, 0] := by
  exact congrArg (fun w : BitVec 32 => ![0, w.toNat, 0, 0])
    ((at_b (tbl m) t i hi (k0_off1_inb i)).trans (tblB m hR.n t))

theorem ok_of_routed : Ok m := by
  have inX : ∀ i : grid0.Coords, ∃ h : (∀ a, (cc0_transform_0 inb_S1_S1_0 numel1_S1 (tbl m) i a + 1) * S2048x128.size a ≤ S196608x128.size a),
      EltTy.bits .f32 = 32 ∨ (Rect.block (s := S196608x128) S2048x128.size (cc0_transform_0 inb_S1_S1_0 numel1_S1 (tbl m) i) h).WholeWords (EltTy.packing .f32) := fun i => by
    refine ⟨?_, .inl rfl⟩
    rw [block_x m hR (i 0) i rfl]
    have := (pos (i 0) (argN m (ix1 0))).isLt
    intro a
    match a with
    | ⟨0, _⟩ => show ((pos (i 0) (argN m (ix1 0))).val + 1) * 2048 ≤ 196608; omega
    | ⟨1, _⟩ => show (0 + 1) * 128 ≤ 128; omega
  have in1 : ∀ i : grid0.Coords, ∃ h : (∀ a, (cc0_transform_1 k0_off1_inb numel1_S1 (tbl m) i a + 1) * S1x1x1024x512.size a ≤ S4x16x1024x512.size a),
      EltTy.bits .bf16 = 32 ∨ (Rect.block (s := S4x16x1024x512) S1x1x1024x512.size (cc0_transform_1 k0_off1_inb numel1_S1 (tbl m) i) h).WholeWords (EltTy.packing .bf16) := fun i => by
    refine ⟨?_, .inr (Affine.block_words_dvd (of_decide_eq_true rfl) (by decide))⟩
    rw [block1 m hR (i 0) i rfl]
    exact block_in _ _ _ (toNat_of_range (hR.a (ix1 (pos (i 0) (argN m (ix1 0)))))).1
  have in2 : ∀ i : grid0.Coords, ∃ h : (∀ a, (cc0_transform_2 k0_off1_inb numel1_S1 (tbl m) i a + 1) * S1x1x1024x512.size a ≤ S4x16x1024x512.size a),
      EltTy.bits .bf16 = 32 ∨ (Rect.block (s := S4x16x1024x512) S1x1x1024x512.size (cc0_transform_2 k0_off1_inb numel1_S1 (tbl m) i) h).WholeWords (EltTy.packing .bf16) := fun i => by
    refine ⟨?_, .inr (Affine.block_words_dvd (of_decide_eq_true rfl) (by decide))⟩
    rw [block2 m hR (i 0) i rfl]
    exact block_in _ _ _ (toNat_of_range (hR.a (ix1 (pos (i 0) (argN m (ix1 0)))))).1
  have in3 : ∀ i : grid0.Coords, ∃ h : (∀ a, (cc0_transform_3 k0_off1_inb numel1_S1 (tbl m) i a + 1) * S1x1x512x1024.size a ≤ S4x16x512x1024.size a),
      EltTy.bits .bf16 = 32 ∨ (Rect.block (s := S4x16x512x1024) S1x1x512x1024.size (cc0_transform_3 k0_off1_inb numel1_S1 (tbl m) i) h).WholeWords (EltTy.packing .bf16) := fun i => by
    refine ⟨?_, .inr (Affine.block_words_dvd (of_decide_eq_true rfl) (by decide))⟩
    rw [block3 m hR (i 0) i rfl]
    exact block_in _ _ _ (toNat_of_range (hR.a (ix1 (pos (i 0) (argN m (ix1 0)))))).1
  have in4 : ∀ i : grid0.Coords, ∃ h : (∀ a, (cc0_transform_4 k0_off1_inb numel1_S1 (tbl m) i a + 1) * S1x1x1024x512.size a ≤ S4x16x1024x512.size a),
      EltTy.bits .bf16 = 32 ∨ (Rect.block (s := S4x16x1024x512) S1x1x1024x512.size (cc0_transform_4 k0_off1_inb numel1_S1 (tbl m) i) h).WholeWords (EltTy.packing .bf16) := fun i => by
    refine ⟨?_, .inr (Affine.block_words_dvd (of_decide_eq_true rfl) (by decide))⟩
    rw [block4 m hR (i 0) i rfl]
    exact block_in _ _ _ (toNat_of_range (hR.b (ix1 (pos (i 0) (argN m (ix1 0)))))).1
  have in5 : ∀ i : grid0.Coords, ∃ h : (∀ a, (cc0_transform_5 k0_off1_inb numel1_S1 (tbl m) i a + 1) * S1x1x1024x512.size a ≤ S4x16x1024x512.size a),
      EltTy.bits .bf16 = 32 ∨ (Rect.block (s := S4x16x1024x512) S1x1x1024x512.size (cc0_transform_5 k0_off1_inb numel1_S1 (tbl m) i) h).WholeWords (EltTy.packing .bf16) := fun i => by
    refine ⟨?_, .inr (Affine.block_words_dvd (of_decide_eq_true rfl) (by decide))⟩
    rw [block5 m hR (i 0) i rfl]
    exact block_in _ _ _ (toNat_of_range (hR.b (ix1 (pos (i 0) (argN m (ix1 0)))))).1
  have in6 : ∀ i : grid0.Coords, ∃ h : (∀ a, (cc0_transform_6 k0_off1_inb numel1_S1 (tbl m) i a + 1) * S1x1x512x1024.size a ≤ S4x16x512x1024.size a),
      EltTy.bits .bf16 = 32 ∨ (Rect.block (s := S4x16x512x1024) S1x1x512x1024.size (cc0_transform_6 k0_off1_inb numel1_S1 (tbl m) i) h).WholeWords (EltTy.packing .bf16) := fun i => by
    refine ⟨?_, .inr (Affine.block_words_dvd (of_decide_eq_true rfl) (by decide))⟩
    rw [block6 m hR (i 0) i rfl]
    exact block_in _ _ _ (toNat_of_range (hR.b (ix1 (pos (i 0) (argN m (ix1 0)))))).1
  exact ⟨inX, in1, in2, in3, in4, in5, in6⟩

end Cert.KernelIdeal.Moe

end
-- ==== Proof.MoeIRead.lean ====
/-
  The routed experts over the extended reals: the block that an unused tile leaves, and what the windows' blocks hold
  of the arguments.
-/
module

public import proofs.«01_k».proof.Proof.MoeIBlock
public import proofs.«01_k».proof.Proof.MoeIOk

@[expose] public section

set_option maxRecDepth 16384

noncomputable section

namespace Cert.KernelIdeal.Moe

open Idealize.ShloMosaic Idealize.ShloMosaic.TcCoe Idealize.ShloMosaic.Tactic Idealize.ShloMosaic.ValueIdx
open Cert.KernelIdeal.Gen Cert.MoeMath Cert.MoeTab

/-- An unused tile's block is nought. -/
theorem canonZ (c : Dev nD) (i : grid0.Coords) (r0 : Memref sig .tc .vmem S2048x128 .f32) (h0 : r0.IsWhole) (r1 : Memref sig .tc .vmem S1x1x1024x512 .bf16) (h1 : r1.IsWhole) (r2 : Memref sig .tc .vmem S1x1x1024x512 .bf16) (h2 : r2.IsWhole) (r3 : Memref sig .tc .vmem S1x1x512x1024 .bf16) (h3 : r3.IsWhole) (r4 : Memref sig .tc .vmem S1x1x1024x512 .bf16) (h4 : r4.IsWhole) (r5 : Memref sig .tc .vmem S1x1x1024x512 .bf16) (h5 : r5.IsWhole) (r6 : Memref sig .tc .vmem S1x1x512x1024 .bf16) (h6 : r6.IsWhole) (r7 : Memref sig .tc .vmem S4096x128 .f32) (h7 : r7.IsWhole)
    (x0 : Vec Ideal S2048x128 .f32) (x1 : Vec Ideal S1x1x1024x512 .bf16) (x2 : Vec Ideal S1x1x1024x512 .bf16) (x3 : Vec Ideal S1x1x512x1024 .bf16) (x4 : Vec Ideal S1x1x1024x512 .bf16) (x5 : Vec Ideal S1x1x1024x512 .bf16) (x6 : Vec Ideal S1x1x512x1024 .bf16) (ta : TabBuf (F := Ideal) c tabA) (tb : TabBuf (F := Ideal) c tabB) (tn : TabBuf (F := Ideal) c tabN)
    (hc1 : k0_cond1 i (countOf c tn) = 1#1) (hc2 : ¬ k0_cond2 i (countOf c tn) = 1#1) :
    View.canon (runZ c i r0 h0 r1 h1 r2 h2 r3 h3 r4 h4 r5 h5 r6 h6 r7 h7 x0 x1 x2 x3 x4 x5 x6 ta tb tn hc1 hc2).1 = fun _ => (0 : EReal) := by
  funext y
  refine View.canon_apply_of_pieces (fun _ => (0 : EReal)) _ ?_ y (coverZ c i r0 h0 r1 h1 r2 h2 r3 h3 r4 h4 r5 h5 r6 h6 r7 h7 x0 x1 x2 x3 x4 x5 x6 ta tb tn hc1 hc2 y)
  have e : (runZ c i r0 h0 r1 h1 r2 h2 r3 h3 r4 h4 r5 h5 r6 h6 r7 h7 x0 x1 x2 x3 x4 x5 x6 ta tb tn hc1 hc2).1
      = [⟨Rect.unit (s := S4096x128) ![0, 0] S4096x128.size inb_S4096x128_S4096x128_0_0, k0_pay1 (F := Ideal)⟩] := by
    sl_kernel_rfl
  rw [e]
  refine List.forall_mem_cons.mpr ⟨fun j => ?_, fun p hp => absurd hp List.not_mem_nil⟩
  show Ideal.ofBits .f32 0x00000000#32 = 0
  exact Ideal.ofBits_zero_f32

variable (m : (ℓ : Loc nD τ sig) → Buf (Elt Ideal) ℓ)

/-- The other arguments, on the one device. -/
abbrev argX : XS.Idx → EReal := m (((0 : Dev nD) : Thread nD τ).loc main_arg3)
abbrev argW1 : W13.Idx → EReal := m (((0 : Dev nD) : Thread nD τ).loc main_arg4)
abbrev argW3 : W13.Idx → EReal := m (((0 : Dev nD) : Thread nD τ).loc main_arg5)
abbrev argW2 : W2.Idx → EReal := m (((0 : Dev nD) : Thread nD τ).loc main_arg6)

theorem V_x : (V m (0 : Dev nD) main_arg3 : XS.Idx → EReal) = argX m := V_keeps m 0 main_arg3 (by decide)
theorem V_w1 : (V m (0 : Dev nD) main_v0 : W13.Idx → EReal) = argW1 m := by
  show V m (0 : Dev nD) main_v0 = _
  unfold V hostOps0
  after_results_simp
  rfl
theorem V_w3 : (V m (0 : Dev nD) main_v1 : W13.Idx → EReal) = argW3 m := by
  show V m (0 : Dev nD) main_v1 = _
  unfold V hostOps0
  after_results_simp
  rfl
theorem V_w2 : (V m (0 : Dev nD) main_v2 : W2.Idx → EReal) = argW2 m := by
  show V m (0 : Dev nD) main_v2 = _
  unfold V hostOps0
  after_results_simp
  rfl

theorem coords_val (t : Fin 96) : (grid0.coords t 0).val = t.val := by
  exact (by decide +kernel : ∀ t : Fin grid0.N, (grid0.coords t 0).val = t.val) t

/-- A coordinate of a block, in its array. -/
theorem in_block {k n : ℕ} (s i : ℕ) (h : k = n) : k * s + 1 * i = n * s + i := by rw [h, one_mul]

/-- Where a window's block lies in its array, whatever the tables hold. -/
theorem emb0 (a : (pcfg0 (F := Ideal)).Adm) (t : Fin grid0.N) (y : S2048x128.Idx) (b : Fin 2) :
    (((((cfg0 a).win 0).blk t).view.emb y : XS.Idx) b : ℕ)
      = cc0_transform_0 inb_S1_S1_0 numel1_S1 a.1 (grid0.coords t) b * S2048x128.size b + 1 * (y b : ℕ) := rfl

theorem emb1 (a : (pcfg0 (F := Ideal)).Adm) (t : Fin grid0.N) (y : S1x1x1024x512.Idx) (b : Fin 4) :
    (((((cfg0 a).win 1).blk t).view.emb y : W13.Idx) b : ℕ)
      = cc0_transform_1 k0_off1_inb numel1_S1 a.1 (grid0.coords t) b * S1x1x1024x512.size b + 1 * (y b : ℕ) := rfl

theorem emb2 (a : (pcfg0 (F := Ideal)).Adm) (t : Fin grid0.N) (y : S1x1x1024x512.Idx) (b : Fin 4) :
    (((((cfg0 a).win 2).blk t).view.emb y : W13.Idx) b : ℕ)
      = cc0_transform_2 k0_off1_inb numel1_S1 a.1 (grid0.coords t) b * S1x1x1024x512.size b + 1 * (y b : ℕ) := rfl

theorem emb3 (a : (pcfg0 (F := Ideal)).Adm) (t : Fin grid0.N) (y : S1x1x512x1024.Idx) (b : Fin 4) :
    (((((cfg0 a).win 3).blk t).view.emb y : W2.Idx) b : ℕ)
      = cc0_transform_3 k0_off1_inb numel1_S1 a.1 (grid0.coords t) b * S1x1x512x1024.size b + 1 * (y b : ℕ) := rfl

theorem emb4 (a : (pcfg0 (F := Ideal)).Adm) (t : Fin grid0.N) (y : S1x1x1024x512.Idx) (b : Fin 4) :
    (((((cfg0 a).win 4).blk t).view.emb y : W13.Idx) b : ℕ)
      = cc0_transform_4 k0_off1_inb numel1_S1 a.1 (grid0.coords t) b * S1x1x1024x512.size b + 1 * (y b : ℕ) := rfl

theorem emb5 (a : (pcfg0 (F := Ideal)).Adm) (t : Fin grid0.N) (y : S1x1x1024x512.Idx) (b : Fin 4) :
    (((((cfg0 a).win 5).blk t).view.emb y : W13.Idx) b : ℕ)
      = cc0_transform_5 k0_off1_inb numel1_S1 a.1 (grid0.coords t) b * S1x1x1024x512.size b + 1 * (y b : ℕ) := rfl

theorem emb6 (a : (pcfg0 (F := Ideal)).Adm) (t : Fin grid0.N) (y : S1x1x512x1024.Idx) (b : Fin 4) :
    (((((cfg0 a).win 6).blk t).view.emb y : W2.Idx) b : ℕ)
      = cc0_transform_6 k0_off1_inb numel1_S1 a.1 (grid0.coords t) b * S1x1x512x1024.size b + 1 * (y b : ℕ) := rfl

theorem emb7 (a : (pcfg0 (F := Ideal)).Adm) (t : Fin grid0.N) (y : S4096x128.Idx) (b : Fin 2) :
    (((((cfg0 a).win 7).blk t).view.emb y : YS.Idx) b : ℕ) = cc0_transform_7 (grid0.coords t) b * S4096x128.size b + 1 * (y b : ℕ) := rfl

theorem from_zero (s i : ℕ) : 0 * s + i = i := by rw [Nat.zero_mul, Nat.zero_add]
theorem one_expert (e : ℕ) (h : e < 16) : e * 1 + 0 = e % 16 := by rw [Nat.mod_eq_of_lt h]; omega

variable (hR : Routed (argA m) (argB m) (argN m)) (hO : Ok m)
include hR

/-- The token rows of a tile. -/
theorem read0 (t : Fin 96) (i : Fin 2048) (l : Fin 128) :
    (iblk m hO 0 0 t : S2048x128.Idx → EReal) (ix2 i l)
      = argX m (ix2 ⟨(pos t (argN m (ix1 0))).val * 2048 + i.val, by have := (pos t (argN m (ix1 0))).isLt; have := i.isLt; omega⟩ l) := by
  refine Eq.trans ?_ (congrFun (V_x m) _)
  refine congrArg (V m (0 : Dev nD) main_arg3 : XS.Idx → EReal) (funext fun a => Fin.ext ?_)
  have hb := block_x m hR t (grid0.coords t) (coords_val t)
  refine (emb0 (adm m hO) t _ a).trans ?_
  match a with
  | ⟨0, _⟩ => exact in_block (k := cc0_transform_0 inb_S1_S1_0 numel1_S1 (tbl m) (grid0.coords t) 0) 2048 i.val (congrFun hb 0)
  | ⟨1, _⟩ => exact (in_block (k := cc0_transform_0 inb_S1_S1_0 numel1_S1 (tbl m) (grid0.coords t) 1) 128 l.val (congrFun hb 1)).trans (Nat.zero_add _)

/-! The weights of the experts that a tile's table entries name. -/

theorem read1 (t : Fin 96) (k : Fin 1024) (f : Fin 512) :
    (iblk m hO 0 1 t : S1x1x1024x512.Idx → EReal) (ix4 0 0 k f) = argW1 m (ix4 0 (chosen (argA m) (pos t (argN m (ix1 0)))) k f) := by
  refine Eq.trans ?_ (congrFun (V_w1 m) _)
  refine congrArg (V m (0 : Dev nD) main_v0 : W13.Idx → EReal) (funext fun a => Fin.ext ?_)
  have hb := block1 m hR t (grid0.coords t) (coords_val t)
  refine (emb1 (adm m hO) t _ a).trans ?_
  match a with
  | ⟨0, _⟩ => exact in_block (k := cc0_transform_1 k0_off1_inb numel1_S1 (tbl m) (grid0.coords t) 0) 1 0 (congrFun hb 0)
  | ⟨1, _⟩ =>
    refine (in_block (k := cc0_transform_1 k0_off1_inb numel1_S1 (tbl m) (grid0.coords t) 1) 1 0 (congrFun hb 1)).trans ?_
    exact one_expert _ (toNat_of_range (hR.a (ix1 (pos t (argN m (ix1 0)))))).1
  | ⟨2, _⟩ => exact (in_block (k := cc0_transform_1 k0_off1_inb numel1_S1 (tbl m) (grid0.coords t) 2) 1024 k.val (congrFun hb 2)).trans (from_zero 1024 k.val)
  | ⟨3, _⟩ => exact (in_block (k := cc0_transform_1 k0_off1_inb numel1_S1 (tbl m) (grid0.coords t) 3) 512 f.val (congrFun hb 3)).trans (from_zero 512 f.val)

theorem read2 (t : Fin 96) (k : Fin 1024) (f : Fin 512) :
    (iblk m hO 0 2 t : S1x1x1024x512.Idx → EReal) (ix4 0 0 k f) = argW3 m (ix4 0 (chosen (argA m) (pos t (argN m (ix1 0)))) k f) := by
  refine Eq.trans ?_ (congrFun (V_w3 m) _)
  refine congrArg (V m (0 : Dev nD) main_v1 : W13.Idx → EReal) (funext fun a => Fin.ext ?_)
  have hb := block2 m hR t (grid0.coords t) (coords_val t)
  refine (emb2 (adm m hO) t _ a).trans ?_
  match a with
  | ⟨0, _⟩ => exact in_block (k := cc0_transform_2 k0_off1_inb numel1_S1 (tbl m) (grid0.coords t) 0) 1 0 (congrFun hb 0)
  | ⟨1, _⟩ =>
    refine (in_block (k := cc0_transform_2 k0_off1_inb numel1_S1 (tbl m) (grid0.coords t) 1) 1 0 (congrFun hb 1)).trans ?_
    exact one_expert _ (toNat_of_range (hR.a (ix1 (pos t (argN m (ix1 0)))))).1
  | ⟨2, _⟩ => exact (in_block (k := cc0_transform_2 k0_off1_inb numel1_S1 (tbl m) (grid0.coords t) 2) 1024 k.val (congrFun hb 2)).trans (from_zero 1024 k.val)
  | ⟨3, _⟩ => exact (in_block (k := cc0_transform_2 k0_off1_inb numel1_S1 (tbl m) (grid0.coords t) 3) 512 f.val (congrFun hb 3)).trans (from_zero 512 f.val)

theorem read3 (t : Fin 96) (k : Fin 512) (f : Fin 1024) :
    (iblk m hO 0 3 t : S1x1x512x1024.Idx → EReal) (ix4 0 0 k f) = argW2 m (ix4 0 (chosen (argA m) (pos t (argN m (ix1 0)))) k f) := by
  refine Eq.trans ?_ (congrFun (V_w2 m) _)
  refine congrArg (V m (0 : Dev nD) main_v2 : W2.Idx → EReal) (funext fun a => Fin.ext ?_)
  have hb := block3 m hR t (grid0.coords t) (coords_val t)
  refine (emb3 (adm m hO) t _ a).trans ?_
  match a with
  | ⟨0, _⟩ => exact in_block (k := cc0_transform_3 k0_off1_inb numel1_S1 (tbl m) (grid0.coords t) 0) 1 0 (congrFun hb 0)
  | ⟨1, _⟩ =>
    refine (in_block (k := cc0_transform_3 k0_off1_inb numel1_S1 (tbl m) (grid0.coords t) 1) 1 0 (congrFun hb 1)).trans ?_
    exact one_expert _ (toNat_of_range (hR.a (ix1 (pos t (argN m (ix1 0)))))).1
  | ⟨2, _⟩ => exact (in_block (k := cc0_transform_3 k0_off1_inb numel1_S1 (tbl m) (grid0.coords t) 2) 512 k.val (congrFun hb 2)).trans (from_zero 512 k.val)
  | ⟨3, _⟩ => exact (in_block (k := cc0_transform_3 k0_off1_inb numel1_S1 (tbl m) (grid0.coords t) 3) 1024 f.val (congrFun hb 3)).trans (from_zero 1024 f.val)

theorem read4 (t : Fin 96) (k : Fin 1024) (f : Fin 512) :
    (iblk m hO 0 4 t : S1x1x1024x512.Idx → EReal) (ix4 0 0 k f) = argW1 m (ix4 0 (chosen (argB m) (pos t (argN m (ix1 0)))) k f) := by
  refine Eq.trans ?_ (congrFun (V_w1 m) _)
  refine congrArg (V m (0 : Dev nD) main_v0 : W13.Idx → EReal) (funext fun a => Fin.ext ?_)
  have hb := block4 m hR t (grid0.coords t) (coords_val t)
  refine (emb4 (adm m hO) t _ a).trans ?_
  match a with
  | ⟨0, _⟩ => exact in_block (k := cc0_transform_4 k0_off1_inb numel1_S1 (tbl m) (grid0.coords t) 0) 1 0 (congrFun hb 0)
  | ⟨1, _⟩ =>
    refine (in_block (k := cc0_transform_4 k0_off1_inb numel1_S1 (tbl m) (grid0.coords t) 1) 1 0 (congrFun hb 1)).trans ?_
    exact one_expert _ (toNat_of_range (hR.b (ix1 (pos t (argN m (ix1 0)))))).1
  | ⟨2, _⟩ => exact (in_block (k := cc0_transform_4 k0_off1_inb numel1_S1 (tbl m) (grid0.coords t) 2) 1024 k.val (congrFun hb 2)).trans (from_zero 1024 k.val)
  | ⟨3, _⟩ => exact (in_block (k := cc0_transform_4 k0_off1_inb numel1_S1 (tbl m) (grid0.coords t) 3) 512 f.val (congrFun hb 3)).trans (from_zero 512 f.val)

theorem read5 (t : Fin 96) (k : Fin 1024) (f : Fin 512) :
    (iblk m hO 0 5 t : S1x1x1024x512.Idx → EReal) (ix4 0 0 k f) = argW3 m (ix4 0 (chosen (argB m) (pos t (argN m (ix1 0)))) k f) := by
  refine Eq.trans ?_ (congrFun (V_w3 m) _)
  refine congrArg (V m (0 : Dev nD) main_v1 : W13.Idx → EReal) (funext fun a => Fin.ext ?_)
  have hb := block5 m hR t (grid0.coords t) (coords_val t)
  refine (emb5 (adm m hO) t _ a).trans ?_
  match a with
  | ⟨0, _⟩ => exact in_block (k := cc0_transform_5 k0_off1_inb numel1_S1 (tbl m) (grid0.coords t) 0) 1 0 (congrFun hb 0)
  | ⟨1, _⟩ =>
    refine (in_block (k := cc0_transform_5 k0_off1_inb numel1_S1 (tbl m) (grid0.coords t) 1) 1 0 (congrFun hb 1)).trans ?_
    exact one_expert _ (toNat_of_range (hR.b (ix1 (pos t (argN m (ix1 0)))))).1
  | ⟨2, _⟩ => exact (in_block (k := cc0_transform_5 k0_off1_inb numel1_S1 (tbl m) (grid0.coords t) 2) 1024 k.val (congrFun hb 2)).trans (from_zero 1024 k.val)
  | ⟨3, _⟩ => exact (in_block (k := cc0_transform_5 k0_off1_inb numel1_S1 (tbl m) (grid0.coords t) 3) 512 f.val (congrFun hb 3)).trans (from_zero 512 f.val)

theorem read6 (t : Fin 96) (k : Fin 512) (f : Fin 1024) :
    (iblk m hO 0 6 t : S1x1x512x1024.Idx → EReal) (ix4 0 0 k f) = argW2 m (ix4 0 (chosen (argB m) (pos t (argN m (ix1 0)))) k f) := by
  refine Eq.trans ?_ (congrFun (V_w2 m) _)
  refine congrArg (V m (0 : Dev nD) main_v2 : W2.Idx → EReal) (funext fun a => Fin.ext ?_)
  have hb := block6 m hR t (grid0.coords t) (coords_val t)
  refine (emb6 (adm m hO) t _ a).trans ?_
  match a with
  | ⟨0, _⟩ => exact in_block (k := cc0_transform_6 k0_off1_inb numel1_S1 (tbl m) (grid0.coords t) 0) 1 0 (congrFun hb 0)
  | ⟨1, _⟩ =>
    refine (in_block (k := cc0_transform_6 k0_off1_inb numel1_S1 (tbl m) (grid0.coords t) 1) 1 0 (congrFun hb 1)).trans ?_
    exact one_expert _ (toNat_of_range (hR.b (ix1 (pos t (argN m (ix1 0)))))).1
  | ⟨2, _⟩ => exact (in_block (k := cc0_transform_6 k0_off1_inb numel1_S1 (tbl m) (grid0.coords t) 2) 512 k.val (congrFun hb 2)).trans (from_zero 512 k.val)
  | ⟨3, _⟩ => exact (in_block (k := cc0_transform_6 k0_off1_inb numel1_S1 (tbl m) (grid0.coords t) 3) 1024 f.val (congrFun hb 3)).trans (from_zero 1024 f.val)

end Cert.KernelIdeal.Moe

end
-- ==== Proof.MoeIValue.lean ====
/-
  The routed experts over the extended reals: the array that the call leaves is the chosen experts' outputs, tile by
  tile, and the program's run says so.
-/
module

public import proofs.«01_k».proof.Proof.MoeIRead

@[expose] public section

set_option maxRecDepth 16384

noncomputable section

namespace Cert.KernelIdeal.Moe

open Idealize.ShloMosaic Idealize.ShloMosaic.TcCoe Idealize.ShloMosaic.Tactic Idealize.ShloMosaic.ValueIdx
open Idealize.ShloMosaic.Pipeline
open Cert.KernelIdeal.Gen Cert.MoeMath Cert.MoeTab

variable (m : (ℓ : Loc nD τ sig) → Buf (Elt Ideal) ℓ) (ρ : Dev nD → PrngReg)

/-! ## Which tiles are in use -/

theorem in_use (i : grid0.Coords) (w : BitVec 32) : k0_cond2 i w = 1#1 ↔ (BitVec.ofNat 32 (i 0).val).slt w = true := by
  have key : ∀ a : BitVec 32, (Scalar.cmpi .ne (Scalar.extui (Scalar.cmpi .slt a w) : BitVec 32) 0#32 = 1#1) ↔ a.slt w = true := by
    intro a
    by_cases h : a.slt w <;> simp [Scalar.cmpi, IntOp.cmpi, Scalar.extui, h]
  exact key _

theorem count_eq : countOf (F := Ideal) (0 : Dev nD) (tbl m 2) = argN m (ix1 0) := by
  refine Eq.trans ?_ (congrFun (tblN m) (ix1 0))
  show (tbl m 2 : IVec T1 32) _ = _
  exact congrArg _ (one_idx _)

theorem used_iff (t : Fin 96) : used m t ↔ (t.val : ℤ) < (argN m (ix1 0)).toInt := by
  unfold used
  rw [in_use, count_eq, coords_val]
  have ht : (BitVec.ofNat 32 t.val).toInt = t.val := WordCmp.toInt_ofNat_of_lt (by have := t.isLt; omega)
  simp only [BitVec.slt, ht, decide_eq_true_eq]

theorem pos_of_used (t : Fin 96) (h : (t.val : ℤ) < (argN m (ix1 0)).toInt) : pos t (argN m (ix1 0)) = t := by
  apply Fin.ext
  show min t.val ((argN m (ix1 0)).toInt.toNat - 1) = t.val
  omega

/-! ## A block -/

theorem expert_congr {x x' : Fin 1024 → EReal} {w1 w1' w3 w3' : Fin 1024 → Fin 512 → EReal} {w2 w2' : Fin 512 → Fin 1024 → EReal}
    (hx : ∀ k, x k = x' k) (h1 : ∀ k f, w1 k f = w1' k f) (h3 : ∀ k f, w3 k f = w3' k f) (h2 : ∀ f d, w2 f d = w2' f d)
    (d : Fin 1024) : expert x w1 w3 w2 d = expert x' w1' w3' w2' d := by
  rw [funext hx, funext fun k => funext (h1 k), funext fun k => funext (h3 k), funext fun f => funext (h2 f)]

variable (hR : Routed (argA m) (argB m) (argN m)) (hO : Ok m)

/-- What the result's array is shown to hold. -/
abbrev result : YS.Idx → EReal := moe (argA m) (argB m) (argN m) (argX m) (argW1 m) (argW3 m) (argW2 m)

include hR

theorem row_of (t : Fin 96) (i : Fin 256) (k : Fin 1024) (R : Fin 24576) (hr : R.val = 256 * (pos t (argN m (ix1 0))).val + i.val) :
    (iblk m hO 0 0 t : S2048x128.Idx → EReal) (ix2 ⟨8 * i.val + k.val / 128, by have := i.isLt; have := k.isLt; omega⟩ ⟨k.val % 128, Nat.mod_lt _ (by decide)⟩)
      = tok (argX m) R k := by
  refine (read0 m hR hO t _ _).trans ?_
  refine congrArg (fun r => argX m (ix2 r _)) (Fin.ext ?_)
  show (pos t (argN m (ix1 0))).val * 2048 + (8 * i.val + k.val / 128) = 8 * R.val + k.val / 128
  omega

theorem first_eq (t : Fin 96) (i : Fin 256) (d : Fin 1024) (R : Fin 24576) (hr : R.val = 256 * (pos t (argN m (ix1 0))).val + i.val) :
    ffn (iblk m hO 0 0 t) (iblk m hO 0 1 t) (iblk m hO 0 2 t) (iblk m hO 0 3 t) i d
      = out (argX m) (argW1 m) (argW3 m) (argW2 m) (chosen (argA m) (pos t (argN m (ix1 0)))) R d :=
  expert_congr (fun k => row_of m hR hO t i k R hr) (read1 m hR hO t) (read2 m hR hO t) (read3 m hR hO t) d

theorem second_eq (t : Fin 96) (i : Fin 256) (d : Fin 1024) (R : Fin 24576) (hr : R.val = 256 * (pos t (argN m (ix1 0))).val + i.val) :
    ffn (iblk m hO 0 0 t) (iblk m hO 0 4 t) (iblk m hO 0 5 t) (iblk m hO 0 6 t) i d
      = out (argX m) (argW1 m) (argW3 m) (argW2 m) (chosen (argB m) (pos t (argN m (ix1 0)))) R d :=
  expert_congr (fun k => row_of m hR hO t i k R hr) (read4 m hR hO t) (read5 m hR hO t) (read6 m hR hO t) d

omit hR in
theorem blockV_eq (t : Fin 96) (h : used m t) : blockV m hO 0 t h
    = blk (iblk m hO 0 0 t) (iblk m hO 0 1 t) (iblk m hO 0 2 t) (iblk m hO 0 3 t) (iblk m hO 0 4 t) (iblk m hO 0 5 t) (iblk m hO 0 6 t) := by
  unfold blockV
  exact canonV ..

omit hR in
theorem blockZ_eq (t : Fin 96) (h : ¬ used m t) : blockZ m hO 0 t h = fun _ => (0 : EReal) := by
  unfold blockZ
  exact canonZ ..

/-- After tile `t` the result's block holds the tile's rows. -/
theorem block_eq (t : Fin 96) (y : S4096x128.Idx) :
    blockAt m hO 0 t y = result m (ix2 ⟨4096 * t.val + (y 0).val, by have := t.isLt; have : (y 0).val < 4096 := (y 0).isLt; omega⟩ (y 1)) := by
  have hy : (y 0).val < 4096 := (y 0).isLt
  have ht : (⟨(4096 * t.val + (y 0).val) / 4096, by have := t.isLt; omega⟩ : Fin 96) = t :=
    Fin.ext (by show (4096 * t.val + (y 0).val) / 4096 = t.val; omega)
  have h8 : (4096 * t.val + (y 0).val) % 8 = (y 0).val % 8 := by omega
  have h16 : (4096 * t.val + (y 0).val) % 16 = (y 0).val % 16 := by omega
  show _ = if ((⟨(4096 * t.val + (y 0).val) / 4096, _⟩ : Fin 96).val : ℤ) < (argN m (ix1 0)).toInt then
      if (4096 * t.val + (y 0).val) % 16 < 8 then out _ _ _ _ (chosen (argA m) ⟨(4096 * t.val + (y 0).val) / 4096, _⟩) _ ⟨128 * ((4096 * t.val + (y 0).val) % 8) + (y 1).val, _⟩
      else out _ _ _ _ (chosen (argB m) ⟨(4096 * t.val + (y 0).val) / 4096, _⟩) _ ⟨128 * ((4096 * t.val + (y 0).val) % 8) + (y 1).val, _⟩
    else 0
  have hd : (4096 * t.val + (y 0).val) / 4096 = t.val := by omega
  simp only [ht, h8, h16, hd]
  by_cases hu : used m t
  · have hn := (used_iff m t).mp hu
    have hp := pos_of_used m t hn
    rw [if_pos hn]
    unfold blockAt
    refine (congrFun (dif_pos hu) y).trans ?_
    refine (congrFun (blockV_eq m hO t hu) y).trans ?_
    show (if (y 0).val % 16 < 8 then ffn _ _ _ _ _ _ else ffn _ _ _ _ _ _) = _
    rw [first_eq m hR hO t _ _ ⟨(4096 * t.val + (y 0).val) / 16, by have := t.isLt; omega⟩
        (by rw [hp]; show (4096 * t.val + (y 0).val) / 16 = 256 * t.val + (y 0).val / 16; omega),
      second_eq m hR hO t _ _ ⟨(4096 * t.val + (y 0).val) / 16, by have := t.isLt; omega⟩
        (by rw [hp]; show (4096 * t.val + (y 0).val) / 16 = 256 * t.val + (y 0).val / 16; omega), hp]
  · have hn : ¬ (t.val : ℤ) < (argN m (ix1 0)).toInt := fun h => hu ((used_iff m t).mpr h)
    rw [if_neg hn]
    unfold blockAt
    refine (congrFun (dif_neg hu) y).trans ?_
    exact congrFun (blockZ_eq m hO t hu) y

/-! ## The array -/

theorem flushed_eq (t : Fin 96) :
    (data m hO 0 0).flushed 7 t = (((cfgM m hO).win 7).blk t).view.read (Elt Ideal) (result m) := by
  show ((cfgM m hO).win 7).cut (grid0.coords t) ((data m hO 0 0).after 7 t) = _
  refine (congrArg (((cfgM m hO).win 7).cut (grid0.coords t)) (leaves7 m hO 0 t)).trans ?_
  refine funext fun (y : S4096x128.Idx) => ?_
  refine (block_eq m hR hO t y).trans ?_
  refine congrArg (result m) (funext fun a => Fin.ext ?_)
  refine Eq.trans ?_ (emb7 (adm m hO) t y a).symm
  have hc := coords_val t
  have ht := t.isLt
  match a with
  | ⟨0, _⟩ =>
    show 4096 * t.val + (y 0).val = (BitVec.ofNat 32 (grid0.coords t 0).val).toNat * 4096 + 1 * (y 0).val
    rw [hc, WordCmp.toNat_ofNat_of_lt] <;> omega
  | ⟨1, _⟩ =>
    show (y 1).val = 0 * 128 + 1 * (y 1).val
    omega

omit hR in
theorem rows_covered (i : YS.Idx) :
    ∃ t : Fin (cfgM m hO).N, ((cfgM m hO).win 7).flush t = true ∧ i ∈ (((cfgM m hO).win 7).blk t).view.set := by
  have hi : (i 0).val < 393216 := (i 0).isLt
  let t : Fin 96 := ⟨(i 0).val / 4096, by omega⟩
  let y : S4096x128.Idx := ix2 ⟨(i 0).val % 4096, Nat.mod_lt _ (by decide)⟩ (i 1)
  refine ⟨t, flush_out (adm m hO) t, ?_⟩
  have e : (((cfgM m hO).win 7).blk t).view.emb y = i := by
    refine funext fun a => Fin.ext ?_
    refine (emb7 (adm m hO) t y a).trans ?_
    have hc := coords_val t
    match a with
    | ⟨0, _⟩ =>
      show (BitVec.ofNat 32 (grid0.coords t 0).val).toNat * 4096 + 1 * ((i 0).val % 4096) = (i 0).val
      rw [hc, WordCmp.toNat_ofNat_of_lt (by show (i 0).val / 4096 < _; omega)]
      show (i 0).val / 4096 * 4096 + 1 * ((i 0).val % 4096) = (i 0).val
      omega
    | ⟨1, _⟩ =>
      show 0 * 128 + 1 * (i 1).val = (i 1).val
      omega
  exact e ▸ View.emb_mem_set _ y

theorem final : (data m hO 0 0).arrAt 7 (cfgM m hO).N = result m :=
  (data m hO 0 0).arrAt_eq_of_cover 7 (result m) (fun t _ => flushed_eq m hR hO t) (rows_covered m hO)

include ρ hO in
/-- The program's run: the result is the chosen experts' outputs, and the arguments are as they were. -/
theorem run : θ_run defs (onTc (τ := τ) (main (F := Ideal))) ⟨m, fun _ => 0, ρ⟩ (fun r => ∀ c : Dev nD,
      r.2.mem ((c.tc : Thread nD τ).loc main_v12) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => by
    obtain rfl : c = 0 := Subsingleton.elim _ _
    exact ⟨((hr.1 0).1 7).trans (final m hR hO),
      ((hr.1 0).2 main_arg0 (by decide : main_arg0 ∈ Pipeline.restRefs sig spec0)).trans (V_keeps m 0 main_arg0 (by decide)),
      ((hr.1 0).2 main_arg1 (by decide : main_arg1 ∈ Pipeline.restRefs sig spec0)).trans (V_keeps m 0 main_arg1 (by decide)),
      ((hr.1 0).2 main_arg2 (by decide : main_arg2 ∈ Pipeline.restRefs sig spec0)).trans (V_keeps m 0 main_arg2 (by decide)),
      ((hr.1 0).1 0).trans (((data m hO 0 0).arrAt_in 0 rfl _).trans ((data_A m hO 0 0).trans (V_keeps m 0 main_arg3 (by decide)))),
      ((hr.1 0).2 main_arg4 (by decide : main_arg4 ∈ Pipeline.restRefs sig spec0)).trans (V_keeps m 0 main_arg4 (by decide)),
      ((hr.1 0).2 main_arg5 (by decide : main_arg5 ∈ Pipeline.restRefs sig spec0)).trans (V_keeps m 0 main_arg5 (by decide)),
      ((hr.1 0).2 main_arg6 (by decide : main_arg6 ∈ Pipeline.restRefs sig spec0)).trans (V_keeps m 0 main_arg6 (by decide))⟩) (runs m ρ hO)

end Cert.KernelIdeal.Moe

end
-- ==== Proof.DotRead.lean ====
/-
  The references' contractions read at an index over the extended reals, each a sum over the one contracted
  coordinate; sizes are variables.
-/
module

public import Idealize.ShloMosaic.PureOps.Ideal.Laws
public import Idealize.ShloMosaic.Lib.ValueIdxCore
public import Idealize.ShloMosaic.Lib.TwoAxisContraction

@[expose] public section

namespace Cert.DotRead

open Idealize.ShloMosaic Idealize.ShloMosaic.ValueIdx
open scoped BigOperators

/-- `[e,k,f] · [r,k] → [e,f,r]`. -/
theorem dot_ekf_rk {E K N R : ℕ} {φ₁ φ₂ : FTy}
    (w : DotDims.WF ⟨3, ![E, K, N]⟩ ⟨2, ![R, K]⟩ ⟨3, ![E, N, R]⟩ [1] [1] [0, 2] [0] [] [])
    (prec : Option ContractPrecision) (A : FVec Ideal ⟨3, ![E, K, N]⟩ φ₁) (B : FVec Ideal ⟨2, ![R, K]⟩ φ₂)
    (e : Fin E) (f : Fin N) (r : Fin R) :
    Host.dotGeneral (⟨[1], [1], [0, 2], [0], [], [], w⟩ : DotDims _ _ _) prec A B (ix3 e f r)
      = ∑ k : Fin K, A (ix3 e k f) * B (ix2 r k) := by
  show FloatOps.dotGeneral _ prec _ A B (ix3 e f r) = _
  rw [Ideal.dotGeneral_apply, ← Equiv.sum_comp (contrEquiv1 (⟨[1], [1], [0, 2], [0], [], [], w⟩ : DotDims _ _ _) K rfl rfl).symm]
  refine Finset.sum_congr rfl fun c _ => ?_
  have hc := contrEquiv1_symm_val (⟨[1], [1], [0, 2], [0], [], [], w⟩ : DotDims ⟨3, ![E, K, N]⟩ ⟨2, ![R, K]⟩ ⟨3, ![E, N, R]⟩) K rfl rfl c
  have el : (⟨[1], [1], [0, 2], [0], [], [], w⟩ : DotDims ⟨3, ![E, K, N]⟩ ⟨2, ![R, K]⟩ ⟨3, ![E, N, R]⟩).lhsIdx (ix3 e f r)
      ((contrEquiv1 _ K rfl rfl).symm c) = ix3 e c f := by
    funext a; apply Fin.ext
    match a with
    | ⟨0, _⟩ => rfl
    | ⟨1, _⟩ => exact hc
    | ⟨2, _⟩ => rfl
  have er : (⟨[1], [1], [0, 2], [0], [], [], w⟩ : DotDims ⟨3, ![E, K, N]⟩ ⟨2, ![R, K]⟩ ⟨3, ![E, N, R]⟩).rhsIdx (ix3 e f r)
      ((contrEquiv1 _ K rfl rfl).symm c) = ix2 r c := by
    funext a; apply Fin.ext
    match a with
    | ⟨0, _⟩ => rfl
    | ⟨1, _⟩ => exact hc
  rw [el, er]

/-- `[e,r,f] · [e,f,d] → [e,r,d]`. -/
theorem dot_erf_efd {E K N R : ℕ} {φ₁ φ₂ : FTy}
    (w : DotDims.WF ⟨3, ![E, R, K]⟩ ⟨3, ![E, K, N]⟩ ⟨3, ![E, R, N]⟩ [2] [1] [1] [2] [0] [0])
    (prec : Option ContractPrecision) (A : FVec Ideal ⟨3, ![E, R, K]⟩ φ₁) (B : FVec Ideal ⟨3, ![E, K, N]⟩ φ₂)
    (e : Fin E) (r : Fin R) (d : Fin N) :
    Host.dotGeneral (⟨[2], [1], [1], [2], [0], [0], w⟩ : DotDims _ _ _) prec A B (ix3 e r d)
      = ∑ k : Fin K, A (ix3 e r k) * B (ix3 e k d) := by
  show FloatOps.dotGeneral _ prec _ A B (ix3 e r d) = _
  rw [Ideal.dotGeneral_apply, ← Equiv.sum_comp (contrEquiv1 (⟨[2], [1], [1], [2], [0], [0], w⟩ : DotDims _ _ _) K rfl rfl).symm]
  refine Finset.sum_congr rfl fun c _ => ?_
  have hc := contrEquiv1_symm_val (⟨[2], [1], [1], [2], [0], [0], w⟩ : DotDims ⟨3, ![E, R, K]⟩ ⟨3, ![E, K, N]⟩ ⟨3, ![E, R, N]⟩) K rfl rfl c
  have el : (⟨[2], [1], [1], [2], [0], [0], w⟩ : DotDims ⟨3, ![E, R, K]⟩ ⟨3, ![E, K, N]⟩ ⟨3, ![E, R, N]⟩).lhsIdx (ix3 e r d)
      ((contrEquiv1 _ K rfl rfl).symm c) = ix3 e r c := by
    funext a; apply Fin.ext
    match a with
    | ⟨0, _⟩ => rfl
    | ⟨1, _⟩ => rfl
    | ⟨2, _⟩ => exact hc
  have er : (⟨[2], [1], [1], [2], [0], [0], w⟩ : DotDims ⟨3, ![E, R, K]⟩ ⟨3, ![E, K, N]⟩ ⟨3, ![E, R, N]⟩).rhsIdx (ix3 e r d)
      ((contrEquiv1 _ K rfl rfl).symm c) = ix3 e c d := by
    funext a; apply Fin.ext
    match a with
    | ⟨0, _⟩ => rfl
    | ⟨1, _⟩ => exact hc
    | ⟨2, _⟩ => rfl
  rw [el, er]

/-- `[r,k,e] · [e,r,d] → [r,k,d]`. -/
theorem dot_rke_erd {E K N R : ℕ} {φ₁ φ₂ : FTy}
    (w : DotDims.WF ⟨3, ![R, K, E]⟩ ⟨3, ![E, R, N]⟩ ⟨3, ![R, K, N]⟩ [2] [0] [1] [2] [0] [1])
    (prec : Option ContractPrecision) (A : FVec Ideal ⟨3, ![R, K, E]⟩ φ₁) (B : FVec Ideal ⟨3, ![E, R, N]⟩ φ₂)
    (r : Fin R) (k : Fin K) (d : Fin N) :
    Host.dotGeneral (⟨[2], [0], [1], [2], [0], [1], w⟩ : DotDims _ _ _) prec A B (ix3 r k d)
      = ∑ e : Fin E, A (ix3 r k e) * B (ix3 e r d) := by
  show FloatOps.dotGeneral _ prec _ A B (ix3 r k d) = _
  rw [Ideal.dotGeneral_apply, ← Equiv.sum_comp (contrEquiv1 (⟨[2], [0], [1], [2], [0], [1], w⟩ : DotDims _ _ _) E rfl rfl).symm]
  refine Finset.sum_congr rfl fun c _ => ?_
  have hc := contrEquiv1_symm_val (⟨[2], [0], [1], [2], [0], [1], w⟩ : DotDims ⟨3, ![R, K, E]⟩ ⟨3, ![E, R, N]⟩ ⟨3, ![R, K, N]⟩) E rfl rfl c
  have el : (⟨[2], [0], [1], [2], [0], [1], w⟩ : DotDims ⟨3, ![R, K, E]⟩ ⟨3, ![E, R, N]⟩ ⟨3, ![R, K, N]⟩).lhsIdx (ix3 r k d)
      ((contrEquiv1 _ E rfl rfl).symm c) = ix3 r k c := by
    funext a; apply Fin.ext
    match a with
    | ⟨0, _⟩ => rfl
    | ⟨1, _⟩ => rfl
    | ⟨2, _⟩ => exact hc
  have er : (⟨[2], [0], [1], [2], [0], [1], w⟩ : DotDims ⟨3, ![R, K, E]⟩ ⟨3, ![E, R, N]⟩ ⟨3, ![R, K, N]⟩).rhsIdx (ix3 r k d)
      ((contrEquiv1 _ E rfl rfl).symm c) = ix3 c r d := by
    funext a; apply Fin.ext
    match a with
    | ⟨0, _⟩ => exact hc
    | ⟨1, _⟩ => rfl
    | ⟨2, _⟩ => rfl
  rw [el, er]

/-- `[b,r,k] · [k,n] → [b,r,n]`. -/
theorem dot_brk_kn {E K N R : ℕ} {φ₁ φ₂ : FTy}
    (w : DotDims.WF ⟨3, ![E, R, K]⟩ ⟨2, ![K, N]⟩ ⟨3, ![E, R, N]⟩ [2] [0] [0, 1] [1] [] [])
    (prec : Option ContractPrecision) (A : FVec Ideal ⟨3, ![E, R, K]⟩ φ₁) (B : FVec Ideal ⟨2, ![K, N]⟩ φ₂)
    (b : Fin E) (r : Fin R) (n : Fin N) :
    Host.dotGeneral (⟨[2], [0], [0, 1], [1], [], [], w⟩ : DotDims _ _ _) prec A B (ix3 b r n)
      = ∑ k : Fin K, A (ix3 b r k) * B (ix2 k n) := by
  show FloatOps.dotGeneral _ prec _ A B (ix3 b r n) = _
  rw [Ideal.dotGeneral_apply, ← Equiv.sum_comp (contrEquiv1 (⟨[2], [0], [0, 1], [1], [], [], w⟩ : DotDims _ _ _) K rfl rfl).symm]
  refine Finset.sum_congr rfl fun c _ => ?_
  have hc := contrEquiv1_symm_val (⟨[2], [0], [0, 1], [1], [], [], w⟩ : DotDims ⟨3, ![E, R, K]⟩ ⟨2, ![K, N]⟩ ⟨3, ![E, R, N]⟩) K rfl rfl c
  have el : (⟨[2], [0], [0, 1], [1], [], [], w⟩ : DotDims ⟨3, ![E, R, K]⟩ ⟨2, ![K, N]⟩ ⟨3, ![E, R, N]⟩).lhsIdx (ix3 b r n)
      ((contrEquiv1 _ K rfl rfl).symm c) = ix3 b r c := by
    funext a; apply Fin.ext
    match a with
    | ⟨0, _⟩ => rfl
    | ⟨1, _⟩ => rfl
    | ⟨2, _⟩ => exact hc
  have er : (⟨[2], [0], [0, 1], [1], [], [], w⟩ : DotDims ⟨3, ![E, R, K]⟩ ⟨2, ![K, N]⟩ ⟨3, ![E, R, N]⟩).rhsIdx (ix3 b r n)
      ((contrEquiv1 _ K rfl rfl).symm c) = ix2 c n := by
    funext a; apply Fin.ext
    match a with
    | ⟨0, _⟩ => exact hc
    | ⟨1, _⟩ => rfl
  rw [el, er]

end Cert.DotRead
-- ==== Proof.MoeRef.lean ====
/-
  The reference of the routed experts over the extended reals: all sixteen experts on every token, summed under a gate
  that is one at the chosen expert and nought elsewhere, is the chosen expert's output.
-/
module

public import proofs.«01_k».proof.Proof.Gen.ReferenceIdeal
public import proofs.«01_k».proof.Proof.MoeMath
public import proofs.«01_k».proof.Proof.DotRead
public import Idealize.ShloMosaic.Lib.Pipeline.Value
public import Idealize.ShloMosaic.Lib.ValueLayout
public import Idealize.ShloMosaic.Lib.IdealHost

@[expose] public section

set_option maxRecDepth 8192

noncomputable section

namespace Cert.ReferenceIdeal.Moe

open Cert.ReferenceIdeal Cert.ReferenceIdeal.Gen Idealize.ShloMosaic Idealize.ShloMosaic.ValueIdx
open Cert.MoeMath Cert.MoeTab Cert.DotRead
open scoped BigOperators

/-! ## The experts -/

abbrev tokens (xs : XS.Idx → EReal) : S24576x1024.Idx → EReal := shapeCast _ xs shapeCasts_S196608x128_S24576x1024

theorem tokens_apply (xs : XS.Idx → EReal) (R : Fin 24576) (k : Fin 1024) : tokens xs (ix2 R k) = tok xs R k := by
  refine shapeCast_apply _ _ _ _ ?_
  rw [Shape.rowMajor_val_two, Shape.rowMajor_val_two]
  show (8 * R.val + k.val / 128) * 128 + k.val % 128 = R.val * 1024 + k.val
  omega

abbrev up (w : W13.Idx → EReal) : S16x1024x512.Idx → EReal :=
  shapeCast _ (extractStridedSlice S1x16x1024x512 ![0, 0, 0, 0] w slices_S4x16x1024x512_S1x16x1024x512_0_0_0_0) shapeCasts_S1x16x1024x512_S16x1024x512

theorem up_apply (w : W13.Idx → EReal) (e : Fin 16) (k : Fin 1024) (f : Fin 512) : up w (ix3 e k f) = w (ix4 0 e k f) := by
  refine (shapeCast_1abc_abc_apply _ _ e k f).trans ?_
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

abbrev down (w : W2.Idx → EReal) : S16x512x1024.Idx → EReal :=
  shapeCast _ (extractStridedSlice S1x16x512x1024 ![0, 0, 0, 0] w slices_S4x16x512x1024_S1x16x512x1024_0_0_0_0) shapeCasts_S1x16x512x1024_S16x512x1024

theorem down_apply (w : W2.Idx → EReal) (e : Fin 16) (f : Fin 512) (d : Fin 1024) : down w (ix3 e f d) = w (ix4 0 e f d) := by
  refine (shapeCast_1abc_abc_apply _ _ e f d).trans ?_
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- A token's product with an expert's in-projection. -/
abbrev proj (xs : XS.Idx → EReal) (w : W13.Idx → EReal) : FVec Ideal S16x24576x512 .f32 :=
  transpose S16x24576x512 [0, 2, 1] (Host.dotGeneral (F := Ideal) (φ₁ := .f32) (φ₂ := .f32) dot_S16x1024x512_S24576x1024_S16x512x24576_1_1_02_0_n_n none (up w) (tokens xs)) transposes_S16x512x24576_S16x24576x512_0_2_1

theorem proj_apply (xs : XS.Idx → EReal) (w : W13.Idx → EReal) (e : Fin 16) (R : Fin 24576) (f : Fin 512) :
    proj xs w (ix3 e R f) = ∑ k, tok xs R k * w (ix4 0 e k f) := by
  refine (transpose_ix3_021_apply _ _ e R f).trans ?_
  refine (dot_ekf_rk _ none _ _ e f R).trans ?_
  refine Finset.sum_congr rfl fun k _ => ?_
  rw [up_apply, tokens_apply, mul_comm]

abbrev ones : FVec Ideal S16x24576x512 .f32 := broadcastInDim S16x24576x512 ![] bcast_S_S16x24576x512 (constant S_ .f32 0x3F800000#32)

/-- Every expert's hidden activations of every token. -/
abbrev hidden (xs : XS.Idx → EReal) (w1 w3 : W13.Idx → EReal) : FVec Ideal S16x24576x512 .f32 :=
  mulf (mulf (proj xs w1) (Host.divf ones (addf ones (Host.exp (Host.negf (proj xs w1)))))) (proj xs w3)

theorem hidden_apply (xs : XS.Idx → EReal) (w1 w3 : W13.Idx → EReal) (e : Fin 16) (R : Fin 24576) (f : Fin 512) :
    hidden xs w1 w3 (ix3 e R f) = inner (tok xs R) (fun k f => w1 (ix4 0 e k f)) (fun k f => w3 (ix4 0 e k f)) f := by
  show proj xs w1 (ix3 e R f) * Ideal.div one (one + Ideal.exp (- proj xs w1 (ix3 e R f))) * proj xs w3 (ix3 e R f) = _
  rw [proj_apply, proj_apply]
  rfl

/-- Every expert's output for every token. -/
abbrev outs (xs : XS.Idx → EReal) (w1 w3 : W13.Idx → EReal) (w2 : W2.Idx → EReal) : FVec Ideal S16x24576x1024 .f32 :=
  Host.dotGeneral (F := Ideal) (φ₁ := .f32) (φ₂ := .f32) dot_S16x24576x512_S16x512x1024_S16x24576x1024_2_1_1_2_0_0 none (hidden xs w1 w3) (down w2)

theorem outs_apply (xs : XS.Idx → EReal) (w1 w3 : W13.Idx → EReal) (w2 : W2.Idx → EReal) (e : Fin 16) (R : Fin 24576) (d : Fin 1024) :
    outs xs w1 w3 w2 (ix3 e R d) = out xs w1 w3 w2 e R d := by
  refine (dot_erf_efd _ none _ _ e R d).trans ?_
  unfold out expert
  refine Finset.sum_congr rfl fun f _ => ?_
  rw [hidden_apply, down_apply]

/-! ## The gate -/

/-- Table `0` or `1`. -/
abbrev tabOf (ta tb : IVec T96 32) (k : Fin 2) : IVec T96 32 := if k.val = 0 then ta else tb

/-- The two tables side by side. -/
abbrev pair (ta tb : IVec T96 32) : IVec S96x2 32 :=
  concatenate S96x2 1 [⟨S96x1, (broadcastInDim S96x1 ![0] bcast_S96_S96x1_0 ta)⟩, ⟨S96x1, (broadcastInDim S96x1 ![0] bcast_S96_S96x1_0 tb)⟩] concatenates_S96x1_S96x1_S96x2_d1

theorem column_apply (tab : IVec T96 32) (t : Fin 96) :
    broadcastInDim S96x1 ![0] bcast_S96_S96x1_0 tab (ix2 t 0) = tab (ix1 t) :=
  broadcastInDim_apply _ _ _ _ _ fun a => match a with | ⟨0, _⟩ => rfl

theorem pair_apply (ta tb : IVec T96 32) (t : Fin 96) (k : Fin 2) : pair ta tb (ix2 t k) = tabOf ta tb k (ix1 t) := by
  match k with
  | ⟨0, _⟩ =>
    refine (concatenate_pair_apply_left (t := S96x2) (s₁ := S96x1) (s₂ := S96x1) 1 _ _ _ (ix2 t 0) rfl (ix2 t 0) fun b => ?_).trans (column_apply ta t)
    match b with
    | ⟨0, _⟩ => rfl
    | ⟨1, _⟩ => rfl
  | ⟨1, _⟩ =>
    refine (concatenate_pair_apply_right (t := S96x2) (s₁ := S96x1) (s₂ := S96x1) 1 _ _ _ (ix2 t 1) rfl rfl (ix2 t 0) (fun b hb => ?_) rfl).trans (column_apply tb t)
    match b with
    | ⟨0, _⟩ => rfl
    | ⟨1, _⟩ => exact absurd rfl hb

/-- Whether a tile is in use, at every choice and expert. -/
abbrev used (nv : IVec T1 32) : IVec S96x2x16 1 :=
  broadcastInDim S96x2x16 ![0, 1, 2] bcast_S96x1x1_S96x2x16_0_1_2 (broadcastInDim S96x1x1 ![0] bcast_S96_S96x1x1_0 (cmpi .slt (iotaInDim S96 32 0) (broadcastInDim S96 ![] bcast_S_S96 (shapeCast _ nv shapeCasts_S1_S_))))

theorem used_apply (nv : IVec T1 32) (t : Fin 96) (k : Fin 2) (e : Fin 16) :
    used nv (ix3 t k e) = IntOp.cmpi .slt (BitVec.ofNat 32 t.val) (nv (ix1 0)) := by
  refine (broadcastInDim_apply _ _ _ (ix3 t k e) (ix3 t 0 0) fun a => match a with | ⟨0, _⟩ => rfl | ⟨1, _⟩ => rfl | ⟨2, _⟩ => rfl).trans ?_
  refine (broadcastInDim_apply _ _ _ (ix3 t 0 0) (ix1 t) fun a => match a with | ⟨0, _⟩ => rfl).trans ?_
  show IntOp.cmpi .slt (BitVec.ofNat 32 t.val) _ = _
  refine congrArg _ ?_
  exact congrArg nv (one_idx _)

/-- Whether a choice names an expert. -/
abbrev named (ta tb : IVec T96 32) : IVec S96x2x16 1 :=
  cmpi .eq (broadcastInDim S96x2x16 ![0, 1, 2] bcast_S96x2x1_S96x2x16_0_1_2 (broadcastInDim S96x2x1 ![0, 1] bcast_S96x2_S96x2x1_0_1 (pair ta tb))) (broadcastInDim S96x2x16 ![0, 1, 2] bcast_S1x1x16_S96x2x16_0_1_2 (broadcastInDim S1x1x16 ![2] bcast_S16_S1x1x16_2 (iotaInDim S16 32 0)))

theorem named_apply (ta tb : IVec T96 32) (t : Fin 96) (k : Fin 2) (e : Fin 16) :
    named ta tb (ix3 t k e) = IntOp.cmpi .eq (tabOf ta tb k (ix1 t)) (BitVec.ofNat 32 e.val) := by
  show IntOp.cmpi .eq _ _ = _
  refine congrArg₂ _ ?_ ?_
  · refine (broadcastInDim_apply _ _ _ (ix3 t k e) (ix3 t k 0) fun a => match a with | ⟨0, _⟩ => rfl | ⟨1, _⟩ => rfl | ⟨2, _⟩ => rfl).trans ?_
    refine (broadcastInDim_apply _ _ _ (ix3 t k 0) (ix2 t k) fun a => match a with | ⟨0, _⟩ => rfl | ⟨1, _⟩ => rfl).trans ?_
    exact pair_apply ta tb t k
  · refine (broadcastInDim_apply _ _ _ (ix3 t k e) (ix3 0 0 e) fun a => match a with | ⟨0, _⟩ => rfl | ⟨1, _⟩ => rfl | ⟨2, _⟩ => rfl).trans ?_
    exact broadcastInDim_apply _ _ _ (ix3 0 0 e) (ix1 e) fun a => match a with | ⟨0, _⟩ => rfl

/-- The gate of a tile. -/
abbrev gate (ta tb : IVec T96 32) (nv : IVec T1 32) : FVec Ideal S96x2x16 .f32 :=
  select (andi (used nv) (named ta tb)) (broadcastInDim S96x2x16 ![] bcast_S_S96x2x16 (constant S_ .f32 0x3F800000#32)) (broadcastInDim S96x2x16 ![] bcast_S_S96x2x16 (constant S_ .f32 0x00000000#32))

theorem gate_apply (ta tb : IVec T96 32) (nv : IVec T1 32) (hR : Routed ta tb nv) (t : Fin 96) (k : Fin 2) (e : Fin 16) :
    gate ta tb nv (ix3 t k e) = if (t.val : ℤ) < (nv (ix1 0)).toInt ∧ e = chosen (tabOf ta tb k) t then 1 else 0 := by
  show Scalar.select (IntOp.andi (used nv (ix3 t k e)) (named ta tb (ix3 t k e))) (Ideal.ofBits .f32 0x3F800000#32) (Ideal.ofBits .f32 0x00000000#32) = _
  rw [used_apply, named_apply, Ideal.ofBits_zero_f32, Idealize.ShloMosaic.Ideal.ofBits_one_f32]
  have ht : (BitVec.ofNat 32 t.val).toInt = t.val := WordCmp.toInt_ofNat_of_lt (by have := t.isLt; omega)
  have hk : 0 ≤ (tabOf ta tb k (ix1 t)).toInt ∧ (tabOf ta tb k (ix1 t)).toInt < 16 := by
    unfold tabOf; split
    · exact hR.a _
    · exact hR.b _
  have hn := toNat_of_range hk
  have he : tabOf ta tb k (ix1 t) = BitVec.ofNat 32 e.val ↔ e = chosen (tabOf ta tb k) t := by
    have h16 := e.isLt
    constructor
    · intro h
      apply Fin.ext
      show e.val = (tabOf ta tb k (ix1 t)).toNat % 16
      rw [h, BitVec.toNat_ofNat]; omega
    · intro h
      apply BitVec.eq_of_toNat_eq
      have h' : e.val = (tabOf ta tb k (ix1 t)).toNat % 16 := congrArg Fin.val h
      rw [BitVec.toNat_ofNat]; omega
  have hand : IntOp.andi (IntOp.cmpi .slt (BitVec.ofNat 32 t.val) (nv (ix1 0))) (IntOp.cmpi .eq (tabOf ta tb k (ix1 t)) (BitVec.ofNat 32 e.val)) = 1#1
      ↔ (t.val : ℤ) < (nv (ix1 0)).toInt ∧ e = chosen (tabOf ta tb k) t := by
    rw [andi_one, IntOp.cmpi_slt, ht, IntOp.cmpi_eq, he]
  unfold Scalar.select
  exact if_congr hand rfl rfl

/-- The gate of every token row. -/
abbrev gates (ta tb : IVec T96 32) (nv : IVec T1 32) : FVec Ideal S24576x2x16 .f32 :=
  shapeCast _ (broadcastInDim S96x256x2x16 ![0, 2, 3] bcast_S96x2x16_S96x256x2x16_0_2_3 (gate ta tb nv)) shapeCasts_S96x256x2x16_S24576x2x16

theorem gates_apply (ta tb : IVec T96 32) (nv : IVec T1 32) (R : Fin 24576) (k : Fin 2) (e : Fin 16) :
    gates ta tb nv (ix3 R k e) = gate ta tb nv (ix3 ⟨R.val / 256, by have := R.isLt; omega⟩ k e) := by
  refine (shapeCast_apply (s := S96x256x2x16) _ _ (ix3 R k e)
    (ix4 (⟨R.val / 256, by have := R.isLt; omega⟩ : Fin 96) (⟨R.val % 256, Nat.mod_lt _ (by decide)⟩ : Fin 256) k e) ?_).trans ?_
  · rw [Shape.rowMajor_val_four, Shape.rowMajor_val_three]
    show ((R.val / 256 * 256 + R.val % 256) * 2 + k.val) * 16 + e.val = (R.val * 2 + k.val) * 16 + e.val
    omega
  · exact broadcastInDim_apply _ _ _ _ _ fun a => match a with | ⟨0, _⟩ => rfl | ⟨1, _⟩ => rfl | ⟨2, _⟩ => rfl

/-- The reference's term of the arguments. -/
abbrev term (ta tb : IVec T96 32) (nv : IVec T1 32) (xs : XS.Idx → EReal) (w1 w3 : W13.Idx → EReal) (w2 : W2.Idx → EReal) : YS.Idx → EReal :=
  shapeCast _ (Host.dotGeneral (F := Ideal) (φ₁ := .f32) (φ₂ := .f32) dot_S24576x2x16_S16x24576x1024_S24576x2x1024_2_0_1_2_0_1 none (gates ta tb nv) (outs xs w1 w3 w2)) shapeCasts_S24576x2x1024_S393216x128

theorem sum_gate (p : Prop) [Decidable p] (c : Fin 16) (g : Fin 16 → EReal) :
    ∑ e, (if p ∧ e = c then (1 : EReal) else 0) * g e = if p then g c else 0 := by
  by_cases hp : p
  · rw [if_pos hp, Finset.sum_eq_single c]
    · rw [if_pos ⟨hp, rfl⟩, one_mul]
    · intro e _ he; rw [if_neg fun h => he h.2, zero_mul]
    · intro h; exact absurd (Finset.mem_univ c) h
  · rw [if_neg hp]
    exact Finset.sum_eq_zero fun e _ => by rw [if_neg fun h => hp h.1, zero_mul]

theorem combined_apply (ta tb : IVec T96 32) (nv : IVec T1 32) (hR : Routed ta tb nv) (xs : XS.Idx → EReal) (w1 w3 : W13.Idx → EReal) (w2 : W2.Idx → EReal)
    (R : Fin 24576) (k : Fin 2) (d : Fin 1024) :
    Host.dotGeneral (F := Ideal) (φ₁ := .f32) (φ₂ := .f32) dot_S24576x2x16_S16x24576x1024_S24576x2x1024_2_0_1_2_0_1 none (gates ta tb nv) (outs xs w1 w3 w2) (ix3 R k d)
      = if ((R.val / 256 : ℕ) : ℤ) < (nv (ix1 0)).toInt then
          out xs w1 w3 w2 (chosen (tabOf ta tb k) ⟨R.val / 256, by have := R.isLt; omega⟩) R d else 0 := by
  refine (dot_rke_erd _ none _ _ R k d).trans ?_
  refine Eq.trans ?_ (sum_gate _ _ fun e => out xs w1 w3 w2 e R d)
  refine Finset.sum_congr rfl fun e _ => ?_
  rw [gates_apply, gate_apply ta tb nv hR, outs_apply]

/-- The reference computes the chosen experts' outputs. -/
theorem term_eq (ta tb : IVec T96 32) (nv : IVec T1 32) (hR : Routed ta tb nv) (xs : XS.Idx → EReal) (w1 w3 : W13.Idx → EReal) (w2 : W2.Idx → EReal) :
    term ta tb nv xs w1 w3 w2 = moe ta tb nv xs w1 w3 w2 := by
  funext y
  have h0 : (y 0).val < 393216 := (y 0).isLt
  have h1 : (y 1).val < 128 := (y 1).isLt
  refine (shapeCast_apply (s := S24576x2x1024) _ _ y
    (ix3 (⟨(y 0).val / 16, by omega⟩ : Fin 24576) (⟨(y 0).val % 16 / 8, by omega⟩ : Fin 2) (⟨128 * ((y 0).val % 8) + (y 1).val, by omega⟩ : Fin 1024)) ?_).trans ?_
  · rw [Shape.rowMajor_val_three, Shape.rowMajor_val_two]
    show ((y 0).val / 16 * 2 + (y 0).val % 16 / 8) * 1024 + (128 * ((y 0).val % 8) + (y 1).val) = (y 0).val * 128 + (y 1).val
    omega
  · rw [combined_apply ta tb nv hR]
    have ht : (⟨(y 0).val / 16 / 256, by omega⟩ : Fin 96) = ⟨(y 0).val / 4096, by omega⟩ := Fin.ext (by show (y 0).val / 16 / 256 = (y 0).val / 4096; omega)
    have hv : (y 0).val / 16 / 256 = (y 0).val / 4096 := by omega
    unfold moe
    refine if_congr (by rw [show (((⟨(y 0).val / 16, by omega⟩ : Fin 24576)).val / 256) = (y 0).val / 4096 from hv]) ?_ rfl
    rw [show (⟨(⟨(y 0).val / 16, by omega⟩ : Fin 24576).val / 256, by show (y 0).val / 16 / 256 < 96; omega⟩ : Fin 96) = ⟨(y 0).val / 4096, by omega⟩ from ht]
    by_cases hk : (y 0).val % 16 < 8
    · rw [if_pos hk, show tabOf ta tb (⟨(y 0).val % 16 / 8, by omega⟩ : Fin 2) = ta from if_pos (by show (y 0).val % 16 / 8 = 0; omega)]
    · rw [if_neg hk, show tabOf ta tb (⟨(y 0).val % 16 / 8, by omega⟩ : Fin 2) = tb from if_neg (by show ¬ (y 0).val % 16 / 8 = 0; omega)]

end Cert.ReferenceIdeal.Moe

end
-- ==== Proof.MoeClaims.lean ====
/-
  The claims about the routed experts: the frames, and the kernel's result against the reference's.
-/
module

public import proofs.«01_k».proof.Defs
public import proofs.«01_k».proof.Proof.MoeBFrame
public import proofs.«01_k».proof.Proof.MoeBOk
public import proofs.«01_k».proof.Proof.MoeIValue
public import proofs.«01_k».proof.Proof.MoeRef
public import proofs.«01_k».proof.Proof.Gen.ReferenceIdeal.Run

@[expose] public section

set_option maxRecDepth 8192

noncomputable section

namespace Cert.MoeClaims

open Idealize.ShloMosaic Idealize.SL.Sem Cert.MoeTab

theorem kernel_frame : quiescent_Kernel (hKernel := Cert.Kernel.Gen.facts) (hPre_routed := Cert.Pre_routed.Gen.facts) :=
  fun m g h => Cert.Kernel.Moe.frame m g (Cert.Kernel.Moe.ok_of_routed m (routed_of_pre _ _ _ _ _ _ _ (h 0)))

theorem ideal_frame : quiescent_KernelIdeal (hKernelIdeal := Cert.KernelIdeal.Gen.facts) (hPre_routed := Cert.Pre_routed.Gen.facts) :=
  fun m g h => Cert.KernelIdeal.Moe.frame m g (Cert.KernelIdeal.Moe.ok_of_routed m (routed_of_pre _ _ _ _ _ _ _ (h 0)))

theorem reference_frame : quiescent_ReferenceIdeal (hReferenceIdeal := Cert.ReferenceIdeal.Gen.facts) :=
  fun m g _ => (θ_run _ _ _).mono (fun r h => ⟨fun c => (h c).2, Idealize.ShloMosaic.sem_eq_zero_of_no_sems (by decide) r.2⟩) (Cert.ReferenceIdeal.Value.run m g)

theorem reference_frame_routed :
    quiescent_ReferenceIdeal_pre_routed (hReferenceIdeal := Cert.ReferenceIdeal.Gen.facts) (hPre_routed := Cert.Pre_routed.Gen.facts) :=
  fun m g _ => (θ_run _ _ _).mono (fun r h => ⟨fun c => (h c).2, Idealize.ShloMosaic.sem_eq_zero_of_no_sems (by decide) r.2⟩) (Cert.ReferenceIdeal.Value.run m g)

/-- The kernel's result is the reference's. -/
theorem same : algebraic_KernelIdeal_ReferenceIdeal (hKernelIdeal := Cert.KernelIdeal.Gen.facts)
    (hReferenceIdeal := Cert.ReferenceIdeal.Gen.facts) (hPre_routed := Cert.Pre_routed.Gen.facts) := by
  intro m g m' g' hp ha
  have hR := routed_of_pre _ _ _ _ _ _ _ (hp 0)
  have hO := Cert.KernelIdeal.Moe.ok_of_routed m hR
  refine ⟨fun _ => Cert.KernelIdeal.Moe.result m, Cert.KernelIdeal.Moe.run m g hR hO,
    (θ_run _ _ _).mono (fun _ h c => ⟨(h c).1.trans ?_, (h c).2⟩) (Cert.ReferenceIdeal.Value.run m' g')⟩
  obtain rfl : c = 0 := Subsingleton.elim _ _
  obtain ⟨h0, h1, h2, h3, h4, h5, h6⟩ := ha 0
  rw [h0, h1, h2, h3, h4, h5, h6]
  exact Cert.ReferenceIdeal.Moe.term_eq _ _ _ hR _ _ _ _

end Cert.MoeClaims

end
-- ==== Proof.ProjIFrame.lean ====
/-
  The input projection: the call's run, its arguments left as they were. A point of the grid (row i of the batch,
  column tile j) writes one tile of the wide product; the narrow product is written at the first tile of a row alone,
  and its buffer keeps it until the last tile, where it goes back to memory.
-/
module

public import proofs.«01_k».proof.Proof.Gen.Kernel2Ideal.Frame
public import proofs.«01_k».proof.Proof.Gen.Kernel2Ideal.Skeleton
public import Idealize.ShloMosaic.Lib.Pipeline.Value
public import Idealize.ShloMosaic.Lib.Pipeline.TableIdle

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## Whole buffers: what a load reads and what a store leaves -/

/-- A load of a whole buffer reads what it holds. -/
theorem loaded {S : Shape} {e : EltTy} (r : Memref sig .tc .vmem S e) (h : r.IsWhole) {off : Fin S.rank → ℕ} (h0 : off = fun _ => 0)
    (inb : ∀ a, off a + S.size a ≤ S.size a) (x : Vec F S e) :
    View.readAt (Elt F) r.view (Rect.unit off S.size inb).toLoadRect (h.unread x) = x := by
  show View.ld (View.read (Elt F) r.view (h.unread x)) _ = _
  rw [h.read_unread, View.ld_unit_zero h0]

/-- A store over a whole buffer leaves what was stored. -/
theorem stored {S : Shape} {e : EltTy} (r : Memref sig .tc .vmem S e) {off : Fin S.rank → ℕ} (h0 : off = fun _ => 0)
    (inb : ∀ a, off a + S.size a ≤ S.size a) (f : r.view.ty.Contents (Elt F)) (w : Vec F S e) :
    View.read (Elt F) r.view (r.view.writes (Elt F) f [⟨Rect.unit off S.size inb, w⟩]) = w :=
  (View.read_writes_eq_canon _ _ _ (fun y => ⟨_, List.mem_singleton_self _, View.mem_set_unit_zero h0 inb y⟩)).trans
    (View.canon_unit_zero h0 inb w)

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-! ## The body, run once -/

section Run

variable (c : Dev nD) (i : grid0.Coords)
  (r0 : Memref sig .tc .vmem S1x2304x1024 .bf16) (h0 : r0.IsWhole) (r1 : Memref sig .tc .vmem S1024x1024 .bf16) (h1 : r1.IsWhole)
  (r2 : Memref sig .tc .vmem S1024x640 .bf16) (h2 : r2.IsWhole) (r3 : Memref sig .tc .vmem S1x2304x1024 .bf16) (h3 : r3.IsWhole)
  (r4 : Memref sig .tc .vmem S1x2304x640 .f32) (h4 : r4.IsWhole)
  (x0 : Vec F S1x2304x1024 .bf16) (x1 : Vec F S1024x1024 .bf16) (x2 : Vec F S1024x640 .bf16)

set_option maxHeartbeats 1000000 in
/-- At the first tile of a row both products are stored. -/
theorem run_first (hc : k0_cond1 i = 1#1) (E : Set ℕ) (K : PUnit → sProp 𝕄) :
    iprop(owns (c : Thread nD τ) r0 fullShare x0 ∗ owns (c : Thread nD τ) r1 fullShare x1 ∗ owns (c : Thread nD τ) r2 fullShare x2
        ∗ (∃ d, owns (c : Thread nD τ) r3 fullShare d) ∗ (∃ d, owns (c : Thread nD τ) r4 fullShare d)
        ∗ (iprop(owns (c : Thread nD τ) r0 fullShare x0 ∗ owns (c : Thread nD τ) r1 fullShare x1 ∗ owns (c : Thread nD τ) r2 fullShare x2
            ∗ owns (c : Thread nD τ) r3 fullShare (k0_pay2 x0 x1) ∗ owns (c : Thread nD τ) r4 fullShare (k0_pay3 x0 x2)) -∗ K ⟨⟩))
      ⊢ wp frame (wpE (defs₀ (F := F)) Variants.none c none) E (cc0_in_proj i r0 h0 r1 h1 r2 h2 r3 h3 r4 h4) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h0.eq_unread hf0; obtain rfl := h1.eq_unread hf1; obtain rfl := h2.eq_unread hf2
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    refine (stored r3 zeros3 _ _ _).trans ?_
    exact congrArg₂ k0_pay2 (loaded r0 h0 zeros3 _ x0) (loaded r1 h1 zeros2 _ x1)
  · iexists _; isplitr
    swap; · iexact H4
    ipureintro
    refine (stored r4 zeros3 _ _ _).trans ?_
    exact congrArg₂ k0_pay3 (loaded r0 h0 zeros3 _ x0) (loaded r2 h2 zeros2 _ x2)

set_option maxHeartbeats 1000000 in
/-- At a later tile of a row the wide product alone is stored; the narrow product's buffer is not touched. -/
theorem run_later (hc : ¬ k0_cond1 i = 1#1) (E : Set ℕ) (K : PUnit → sProp 𝕄) :
    iprop(owns (c : Thread nD τ) r0 fullShare x0 ∗ owns (c : Thread nD τ) r1 fullShare x1
        ∗ (∃ d, owns (c : Thread nD τ) r3 fullShare d)
        ∗ (iprop(owns (c : Thread nD τ) r0 fullShare x0 ∗ owns (c : Thread nD τ) r1 fullShare x1
            ∗ owns (c : Thread nD τ) r3 fullShare (k0_pay2 x0 x1)) -∗ K ⟨⟩))
      ⊢ wp frame (wpE (defs₀ (F := F)) Variants.none c none) E (cc0_in_proj i r0 h0 r1 h1 r2 h2 r3 h3 r4 h4) K := by
  simp only [cc0_in_proj_eq_skeleton]; unfold cc0_in_proj_skel
  unfold owns
  iintro ⟨⟨%f0, %hf0, H0⟩, ⟨%f1, %hf1, H1⟩, ⟨%d3, %f3, -, H3⟩, Hk⟩
  obtain rfl := h0.eq_unread hf0; obtain rfl := h1.eq_unread hf1
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H3
  ipureintro
  refine (stored r3 zeros3 _ _ _).trans ?_
  exact congrArg₂ k0_pay2 (loaded r0 h0 zeros3 _ x0) (loaded r1 h1 zeros2 _ x1)

end Run

variable (m : (ℓ : Loc nD τ sig) → Buf (Elt F) ℓ) (ρ : Dev nD → PrngReg)

/-! ## The schedule of the narrow product's window -/

/-- The first point of point `t`'s row. -/
def start (t : Fin 96) : Fin 96 := ⟨t.val / 12 * 12, by have := t.isLt; omega⟩

theorem first_iff (t : Fin cfg0.N) : k0_cond1 (grid0.coords t) = 1#1 ↔ t.val % 12 = 0 :=
  (by decide +kernel : ∀ t : Fin grid0.N, k0_cond1 (grid0.coords t) = 1#1 ↔ t.val % 12 = 0) t

theorem idle_eq (t : Fin cfg0.N) : cfg0.idle 4 (cfg0.grid.coords t) = !decide (t.val % 12 = 0) :=
  (by decide +kernel : ∀ t : Fin grid0.N, (!(k0_cond1 (grid0.coords t) == 1#1)) = !decide (t.val % 12 = 0)) t

/-- Within a row, past its first tile, the buffer is not fresh. -/
theorem fresh_eq (t : Fin cfg0.N) : cfg0.fresh 4 t.val = decide (t.val % 12 = 0) := by
  have h : ∀ n (hn : n < 96), cfg0.fresh 4 n = decide (n % 12 = 0) := by
    intro n
    induction n with
    | zero => intro _; rfl
    | succ n ih =>
      intro hn
      have hN : n < cfg0.N := by show n < 96; omega
      rw [Cfg.fresh_succ cfg0 4 n hN, ih (by omega), idle_eq ⟨n, hN⟩]
      have hf := flush0_4 ⟨n, hN⟩
      have e : ((cfg0.win 4).flush ⟨n, hN⟩) = decide (n % 12 = 11) := by
        rw [Bool.eq_iff_iff, hf, decide_eq_true_iff]
      rw [e, Bool.eq_iff_iff]
      simp only [Bool.or_eq_true, Bool.and_eq_true, Bool.not_eq_true', decide_eq_true_eq, decide_eq_false_iff_not]
      omega
  exact h t.val t.isLt

/-! ## The proof data -/

/-- The wide product's block after point `t`. -/
def wide (c : Dev nD) (t : Fin cfg0.N) : Vec F S1x2304x1024 .bf16 := k0_pay2 (iblk m c 0 t) (iblk m c 1 t)

/-- The narrow product's block as computed at point `t`. -/
def narrowHere (c : Dev nD) (t : Fin cfg0.N) : Vec F S1x2304x640 .f32 := k0_pay3 (iblk m c 0 t) (iblk m c 2 t)

/-- The narrow product's block after point `t`: what the row's first point stored. -/
def narrow (c : Dev nD) (t : Fin cfg0.N) : Vec F S1x2304x640 .f32 := narrowHere m c (start t)

theorem start_self (t : Fin 96) (h : t.val % 12 = 0) : start t = t := Fin.ext (by show t.val / 12 * 12 = t.val; omega)
theorem start_pred (t : Fin 96) (h : ¬ t.val % 12 = 0) : start t = start ⟨t.val - 1, Nat.lt_of_le_of_lt (Nat.sub_le _ _) t.isLt⟩ :=
  Fin.ext (by show t.val / 12 * 12 = (t.val - 1) / 12 * 12; omega)

theorem narrow_pred (c : Dev nD) (t : Fin 96) (h : ¬ t.val % 12 = 0) :
    narrow m c t = narrow m c ⟨t.val - 1, Nat.lt_of_le_of_lt (Nat.sub_le _ _) t.isLt⟩ :=
  congrArg (narrowHere m c) (start_pred t h)

/-- The arrays as the call finds them; each input's buffer keeps its block, each result's holds its product. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wide m c t
    | ⟨4, _⟩ => narrow m c t
  Φ _ := Pipeline.ΦA spec0 c
  q _ := fullShare
  owed _ := 0

theorem data_A (c : Dev nD) (w : Fin cfg0.W) : (data m 0 c).A w = V m c (Pipeline.arrRef spec0 w) := by dsimp only [data]

theorem leaves0 (c : Dev nD) (t : Fin cfg0.N) : (data m 0 c).after 0 t = iblk m c 0 t := by dsimp only [data]; try rfl
theorem leaves1 (c : Dev nD) (t : Fin cfg0.N) : (data m 0 c).after 1 t = iblk m c 1 t := by dsimp only [data]; try rfl
theorem leaves2 (c : Dev nD) (t : Fin cfg0.N) : (data m 0 c).after 2 t = iblk m c 2 t := by dsimp only [data]; try rfl
theorem leaves3 (c : Dev nD) (t : Fin cfg0.N) : (data m 0 c).after 3 t = wide m c t := by dsimp only [data]; try rfl
theorem leaves4 (c : Dev nD) (t : Fin cfg0.N) : (data m 0 c).after 4 t = narrow m c t := by dsimp only [data]; try rfl

theorem finds0 (c : Dev nD) (t : Fin cfg0.N) (d) : (data m 0 c).before 0 t d = iblk m c 0 t :=
  before0_0_of m (data m 0 c) (data_A m c 0) (leaves0 m c) t d
theorem finds1 (c : Dev nD) (t : Fin cfg0.N) (d) : (data m 0 c).before 1 t d = iblk m c 1 t :=
  before0_1_of m (data m 0 c) (data_A m c 1) (leaves1 m c) t d
theorem finds2 (c : Dev nD) (t : Fin cfg0.N) (d) : (data m 0 c).before 2 t d = iblk m c 2 t :=
  before0_2_of m (data m 0 c) (data_A m c 2) (leaves2 m c) t d

/-- Past a row's first tile the body finds the narrow product in its buffer. -/
theorem finds4 (c : Dev nD) (t : Fin cfg0.N) (h : ¬ t.val % 12 = 0) (d) : (data m 0 c).before 4 t d = narrow m c t := by
  refine ((data m 0 c).before_out_traj 4 rfl (fun _ _ => rfl) ?_ t.val t rfl d).trans ?_
  · intro s hs _ hf
    have hs' : ¬ s.val % 12 = 0 := by
      intro e; rw [fresh_eq s, e] at hf; exact absurd hf (by decide)
    exact (leaves4 m c s).trans ((narrow_pred m c s hs').trans (leaves4 m c _).symm)
  · rw [fresh_eq t, decide_eq_false h]
    exact (if_neg Bool.false_ne_true).trans ((leaves4 m c _).trans (narrow_pred m c t h).symm)

/-! ## The body at a point -/

/-- What the body is handed, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

/-- and what it hands back. -/
def handsBack (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t))

set_option maxHeartbeats 1600000 in
/-- The body keeps its promise at every point. -/
theorem body_at (c : Dev nD) (t : Fin cfg0.N) :
    handed m c t ⊢ wp frame (wpE (defs₀ (F := F)) Variants.none c none) Set.univ (bodyAt0 t) (fun _ => handsBack m c t) := by
  unfold handed handsBack bodyAt0
  simp only [finds0, finds1, finds2]
  rw [show (data m 0 c).Φ t.succ = (data m 0 c).Φ t.castSucc from rfl,
    show (data m 0 c).owesAt () t.succ = (data m 0 c).owesAt () t.castSucc from rfl,
    leaves0, leaves1, leaves2, leaves3, leaves4]
  by_cases h : t.val % 12 = 0
  · have e : narrow m c t = k0_pay3 (iblk m c 0 t) (iblk m c 2 t) := congrArg (narrowHere m c) (start_self t h)
    rw [e]
    unfold wide
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [finds4 m c t h]
    unfold wide
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (fun h1 => h ((first_iff t).mp h1)) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact H4

theorem row_is_body (t : Fin cfg0.N) :
    defs₀ (F := F) .tc cfg0.body (cfg0.bodyArgs t (cfg0.slots t)) = bodyAt0 t := by
  unfold defs₀; rw [Defs.onTc_tc]

set_option maxHeartbeats 800000 in
theorem obligation (c : Dev nD) : BodyObligation (data (F := F) m 0 c) (defs₀ (F := F)) Variants.none () Set.univ := fun t => by
  rw [bigSep_W0, bigSep_W0, row_is_body]
  refine triple_restated (body_at m c t) rfl .rfl fun _ => ?_
  unfold handsBack
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  split
  · rename_i h; exact absurd h (by simp)
  · split
    · rename_i hi
      have hn : ¬ t.val % 12 = 0 := by
        intro e; have := (idle_eq t).symm.trans hi; rw [e] at this; exact absurd this (by decide)
      split
      · iexists (fun _ => Classical.arbitrary _)
        rw [finds4 m c t hn, leaves4]
        iexact H4
      · iexact H4
    · iexact H4

/-! ## The run -/

/-- The program runs, its arrays end as the proof data say, its counters at zero. -/
theorem runs : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c w => (data m 0 c).share_full (fun _ => rfl) w)
    (howed := fun _ _ => rfl) (V := V m) (hmain := hmain m Variants.none) (hA := data_A m)
    (hΦ := fun _ _ => rfl)

/-- The program runs and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ hr => ⟨fun c => ⟨
      ((hr.1 c).1 0).trans (((data m 0 c).arrAt_in 0 rfl _).trans (data_A m c 0)),
      ((hr.1 c).1 1).trans (((data m 0 c).arrAt_in 1 rfl _).trans (data_A m c 1)),
      ((hr.1 c).1 2).trans (((data m 0 c).arrAt_in 2 rfl _).trans (data_A m c 2))⟩, hr.2⟩) (runs m ρ)

end Cert.Kernel2Ideal.Proj

end
-- ==== Proof.ProjMath.lean ====
/-
  The input projection as mathematics: a matrix product at every row of the batch. The first factor's rows are indexed
  by batch and position, the second factor is shared.
-/
module

public import Idealize.ShloMosaic.PureOps.Ideal.Laws
public import Idealize.ShloMosaic.Lib.ValueIdxCore

@[expose] public section

namespace Cert.ProjMath

open Idealize.ShloMosaic Idealize.ShloMosaic.ValueIdx
open scoped BigOperators

/-- `prod h w (b, r, n) = Σ_k h (b, r, k) · w (k, n)`. -/
noncomputable def prod {B R K N : ℕ} (h : (⟨3, ![B, R, K]⟩ : Shape).Idx → EReal) (w : (⟨2, ![K, N]⟩ : Shape).Idx → EReal)
    (i : (⟨3, ![B, R, N]⟩ : Shape).Idx) : EReal :=
  ∑ k : Fin K, h (ix3 (i 0) (i 1) k) * w (ix2 k (i 2))

end Cert.ProjMath
-- ==== Proof.ProjIValue.lean ====
/-
  The input projection over the extended reals: the two arrays that the call leaves are the products of the rows with
  the wide and the narrow weights.
-/
module

public import proofs.«01_k».proof.Proof.ProjIFrame
public import proofs.«01_k».proof.Proof.ProjMath
public import Idealize.ShloMosaic.Lib.MatmulPlain

@[expose] public section

set_option maxRecDepth 16384

noncomputable section

namespace Cert.Kernel2Ideal.Proj

open Idealize.ShloMosaic Idealize.ShloMosaic.TcCoe Idealize.ShloMosaic.Tactic Idealize.ShloMosaic.ValueIdx
open Idealize.ShloMosaic.Pipeline
open Cert.Kernel2Ideal.Gen Cert.ProjMath
open scoped BigOperators

variable (m : (ℓ : Loc nD τ sig) → Buf (Elt Ideal) ℓ) (ρ : Dev nD → PrngReg)

/-! ## What the body stores, read at an index -/

theorem row_apply (x : Vec Ideal S1x2304x1024 .bf16) (r : Fin 2304) (k : Fin 1024) : k0_pay1 x (ix2 r k) = x (ix3 0 r k) := by
  unfold k0_pay1
  refine shapeCast_apply x _ (ix2 r k) (ix3 0 r k) ?_
  rw [Shape.rowMajor_val_two, Shape.rowMajor_val_three]
  show _ = _
  simp

theorem wide_apply (x : Vec Ideal S1x2304x1024 .bf16) (w : Vec Ideal S1024x1024 .bf16) (r : Fin 2304) (n : Fin 1024) :
    k0_pay2 x w (ix3 0 r n) = ∑ k : Fin 1024, x (ix3 0 r k) * w (ix2 k n) := by
  unfold k0_pay2
  refine (shapeCast_apply _ _ (ix3 0 r n) (ix2 r n) ?_).trans ?_
  · rw [Shape.rowMajor_val_two, Shape.rowMajor_val_three]
    show _ = _
    simp
  show FloatOps.matmul (DotDims.plain 2304 1024 1024) none (φ₂ := .bf16) (k0_pay1 x) w _ (ix2 r n) = _
  rw [Ideal.matmul_plain_apply]
  show Ideal.ofBits .f32 0x00000000#32 + _ = _
  rw [Ideal.ofBits_zero_f32, zero_add]
  exact Finset.sum_congr rfl fun k _ => congrArg (· * w (ix2 k n)) (row_apply x r k)

theorem narrow_apply (x : Vec Ideal S1x2304x1024 .bf16) (w : Vec Ideal S1024x640 .bf16) (r : Fin 2304) (n : Fin 640) :
    k0_pay3 x w (ix3 0 r n) = ∑ k : Fin 1024, x (ix3 0 r k) * w (ix2 k n) := by
  unfold k0_pay3
  refine (shapeCast_apply _ _ (ix3 0 r n) (ix2 r n) ?_).trans ?_
  · rw [Shape.rowMajor_val_two, Shape.rowMajor_val_three]
    show _ = _
    simp
  show FloatOps.matmul (DotDims.plain 2304 1024 640) none (φ₂ := .bf16) (k0_pay1 x) w _ (ix2 r n) = _
  rw [Ideal.matmul_plain_apply]
  show Ideal.ofBits .f32 0x00000000#32 + _ = _
  rw [Ideal.ofBits_zero_f32, zero_add]
  exact Finset.sum_congr rfl fun k _ => congrArg (· * w (ix2 k n)) (row_apply x r k)

/-! ## The blocks in their arrays -/

theorem at0 (t : Fin 96) (b : Fin 3) : cc0_transform_0 (grid0.coords t) b = (![t.val / 12, 0, 0] : Fin 3 → ℕ) b :=
  (by decide +kernel : ∀ (t : Fin grid0.N) (b : Fin 3), cc0_transform_0 (grid0.coords t) b = (![t.val / 12, 0, 0] : Fin 3 → ℕ) b) t b
theorem at1 (t : Fin 96) (b : Fin 2) : cc0_transform_1 (grid0.coords t) b = (![0, t.val % 12] : Fin 2 → ℕ) b :=
  (by decide +kernel : ∀ (t : Fin grid0.N) (b : Fin 2), cc0_transform_1 (grid0.coords t) b = (![0, t.val % 12] : Fin 2 → ℕ) b) t b
theorem at2 (t : Fin 96) (b : Fin 2) : cc0_transform_2 (grid0.coords t) b = (![0, 0] : Fin 2 → ℕ) b :=
  (by decide +kernel : ∀ (t : Fin grid0.N) (b : Fin 2), cc0_transform_2 (grid0.coords t) b = (![0, 0] : Fin 2 → ℕ) b) t b
theorem at3 (t : Fin 96) (b : Fin 3) : cc0_transform_3 (grid0.coords t) b = (![t.val / 12, 0, t.val % 12] : Fin 3 → ℕ) b :=
  (by decide +kernel : ∀ (t : Fin grid0.N) (b : Fin 3), cc0_transform_3 (grid0.coords t) b = (![t.val / 12, 0, t.val % 12] : Fin 3 → ℕ) b) t b
theorem at4 (t : Fin 96) (b : Fin 3) : cc0_transform_4 (grid0.coords t) b = (![t.val / 12, 0, 0] : Fin 3 → ℕ) b :=
  (by decide +kernel : ∀ (t : Fin grid0.N) (b : Fin 3), cc0_transform_4 (grid0.coords t) b = (![t.val / 12, 0, 0] : Fin 3 → ℕ) b) t b

theorem emb0 (t : Fin grid0.N) (y : S1x2304x1024.Idx) (b : Fin 3) :
    (((cfg0.win 0).blk t).view.emb y b : ℕ) = cc0_transform_0 (grid0.coords t) b * S1x2304x1024.size b + 1 * (y b : ℕ) := rfl
theorem emb1 (t : Fin grid0.N) (y : S1024x1024.Idx) (b : Fin 2) :
    (((cfg0.win 1).blk t).view.emb y b : ℕ) = cc0_transform_1 (grid0.coords t) b * S1024x1024.size b + 1 * (y b : ℕ) := rfl
theorem emb2 (t : Fin grid0.N) (y : S1024x640.Idx) (b : Fin 2) :
    (((cfg0.win 2).blk t).view.emb y b : ℕ) = cc0_transform_2 (grid0.coords t) b * S1024x640.size b + 1 * (y b : ℕ) := rfl
theorem emb3 (t : Fin grid0.N) (y : S1x2304x1024.Idx) (b : Fin 3) :
    (((cfg0.win 3).blk t).view.emb y b : ℕ) = cc0_transform_3 (grid0.coords t) b * S1x2304x1024.size b + 1 * (y b : ℕ) := rfl
theorem emb4 (t : Fin grid0.N) (y : S1x2304x640.Idx) (b : Fin 3) :
    (((cfg0.win 4).blk t).view.emb y b : ℕ) = cc0_transform_4 (grid0.coords t) b * S1x2304x640.size b + 1 * (y b : ℕ) := rfl

/-! ## The arguments, and the blocks read from them -/

abbrev argH : S8x2304x1024.Idx → EReal := m (((0 : Dev nD) : Thread nD τ).loc main_arg0)
abbrev argW : S1024x12288.Idx → EReal := m (((0 : Dev nD) : Thread nD τ).loc main_arg1)
abbrev argS : S1024x640.Idx → EReal := m (((0 : Dev nD) : Thread nD τ).loc main_arg2)

/-- The row of the batch, and the column of the wide product, at point `t`. -/
abbrev batch (t : Fin 96) : Fin 8 := ⟨t.val / 12, by have := t.isLt; omega⟩
abbrev column (t : Fin 96) (n : Fin 1024) : Fin 12288 := ⟨t.val % 12 * 1024 + n.val, by have := n.isLt; omega⟩

theorem read0 (t : Fin 96) (r : Fin 2304) (k : Fin 1024) :
    (iblk m 0 0 t : S1x2304x1024.Idx → EReal) (ix3 0 r k) = argH m (ix3 (batch t) r k) := by
  refine congrArg (argH m) (funext fun a => Fin.ext ?_)
  refine (emb0 t _ a).trans ?_
  rw [at0]
  match a with
  | ⟨0, _⟩ => show t.val / 12 * 1 + 1 * 0 = t.val / 12; omega
  | ⟨1, _⟩ => show 0 * 2304 + 1 * r.val = r.val; omega
  | ⟨2, _⟩ => show 0 * 1024 + 1 * k.val = k.val; omega

theorem read1 (t : Fin 96) (k n : Fin 1024) :
    (iblk m 0 1 t : S1024x1024.Idx → EReal) (ix2 k n) = argW m (ix2 k (column t n)) := by
  refine congrArg (argW m) (funext fun a => Fin.ext ?_)
  refine (emb1 t _ a).trans ?_
  rw [at1]
  match a with
  | ⟨0, _⟩ => show 0 * 1024 + 1 * k.val = k.val; omega
  | ⟨1, _⟩ => show t.val % 12 * 1024 + 1 * n.val = t.val % 12 * 1024 + n.val; omega

theorem read2 (t : Fin 96) (k : Fin 1024) (n : Fin 640) :
    (iblk m 0 2 t : S1024x640.Idx → EReal) (ix2 k n) = argS m (ix2 k n) := by
  refine congrArg (argS m) (funext fun a => Fin.ext ?_)
  refine (emb2 t _ a).trans ?_
  rw [at2]
  match a with
  | ⟨0, _⟩ => show 0 * 1024 + 1 * k.val = k.val; omega
  | ⟨1, _⟩ => show 0 * 640 + 1 * n.val = n.val; omega

/-! ## The wide product -/

/-- What the first result's array is shown to hold, -/
abbrev wideAll : S8x2304x12288.Idx → EReal := prod (B := 8) (R := 2304) (K := 1024) (N := 12288) (argH m) (argW m)
/-- and the second's. -/
abbrev narrowAll : S8x2304x640.Idx → EReal := prod (B := 8) (R := 2304) (K := 1024) (N := 640) (argH m) (argS m)

theorem wide_eq (t : Fin 96) (r : Fin 2304) (n : Fin 1024) :
    (wide m 0 t : S1x2304x1024.Idx → EReal) (ix3 0 r n) = wideAll m (ix3 (batch t) r (column t n)) := by
  unfold wide
  refine (wide_apply _ _ r n).trans ?_
  exact Finset.sum_congr rfl fun k _ => congrArg₂ (fun x y : EReal => x * y) (read0 m t r k) (read1 m t k n)

theorem narrow_eq (t : Fin 96) (r : Fin 2304) (n : Fin 640) :
    (narrow m 0 t : S1x2304x640.Idx → EReal) (ix3 0 r n) = narrowAll m (ix3 (batch t) r n) := by
  have hb : batch (start t) = batch t := Fin.ext (by show t.val / 12 * 12 / 12 = t.val / 12; omega)
  unfold narrow narrowHere
  refine (narrow_apply _ _ r n).trans ?_
  rw [← hb]
  exact Finset.sum_congr rfl fun k _ => congrArg₂ (fun x y : EReal => x * y) (read0 m (start t) r k) (read2 m (start t) k n)

theorem index_one {R N : ℕ} (y : (⟨3, ![1, R, N]⟩ : Shape).Idx) : y = ix3 0 (y 1) (y 2) := by
  funext a
  match a with
  | ⟨0, _⟩ => exact Subsingleton.elim (α := Fin 1) _ _
  | ⟨1, _⟩ => rfl
  | ⟨2, _⟩ => rfl

theorem flushed3 (t : Fin 96) :
    (data m 0 0).flushed 3 t = ((cfg0.win 3).blk t).view.read (Elt Ideal) (wideAll m) := by
  show (cfg0.win 3).cut (grid0.coords t) ((data m 0 0).after 3 t) = _
  refine (congrArg ((cfg0.win 3).cut (grid0.coords t)) (leaves3 m 0 t)).trans ?_
  refine funext fun (y : S1x2304x1024.Idx) => ?_
  refine (congrArg (wide m 0 t) (index_one y)).trans ((wide_eq m t (y 1) (y 2)).trans ?_)
  refine congrArg (wideAll m) (funext fun a => Fin.ext ?_)
  refine Eq.trans ?_ (emb3 t y a).symm
  rw [at3]
  have h0 : (y 0).val = 0 := Nat.lt_one_iff.mp (y 0).isLt
  match a with
  | ⟨0, _⟩ => show t.val / 12 = t.val / 12 * 1 + 1 * (y 0).val; omega
  | ⟨1, _⟩ => show (y 1).val = 0 * 2304 + 1 * (y 1).val; omega
  | ⟨2, _⟩ => show t.val % 12 * 1024 + (y 2).val = t.val % 12 * 1024 + 1 * (y 2).val; omega

theorem covered3 (i : S8x2304x12288.Idx) :
    ∃ t : Fin cfg0.N, (cfg0.win 3).flush t = true ∧ i ∈ ((cfg0.win 3).blk t).view.set := by
  have h0 : (i 0).val < 8 := (i 0).isLt
  have h2 : (i 2).val < 12288 := (i 2).isLt
  let t : Fin 96 := ⟨(i 0).val * 12 + (i 2).val / 1024, by omega⟩
  let y : S1x2304x1024.Idx := ix3 0 (i 1) ⟨(i 2).val % 1024, Nat.mod_lt _ (by decide)⟩
  refine ⟨t, flush0_3 t, ?_⟩
  have e : ((cfg0.win 3).blk t).view.emb y = i := by
    refine funext fun a => Fin.ext ?_
    refine (emb3 t y a).trans ?_
    rw [at3]
    match a with
    | ⟨0, _⟩ => show ((i 0).val * 12 + (i 2).val / 1024) / 12 * 1 + 1 * 0 = (i 0).val; omega
    | ⟨1, _⟩ => show 0 * 2304 + 1 * (i 1).val = (i 1).val; omega
    | ⟨2, _⟩ => show ((i 0).val * 12 + (i 2).val / 1024) % 12 * 1024 + 1 * ((i 2).val % 1024) = (i 2).val; omega
  exact e ▸ View.emb_mem_set _ y

theorem final3 : (data m 0 0).arrAt 3 cfg0.N = wideAll m :=
  (data m 0 0).arrAt_eq_of_cover 3 (wideAll m) (fun t _ => flushed3 m t) covered3

/-! ## The narrow product -/

theorem flushed4 (t : Fin 96) :
    (data m 0 0).flushed 4 t = ((cfg0.win 4).blk t).view.read (Elt Ideal) (narrowAll m) := by
  show (cfg0.win 4).cut (grid0.coords t) ((data m 0 0).after 4 t) = _
  refine (congrArg ((cfg0.win 4).cut (grid0.coords t)) (leaves4 m 0 t)).trans ?_
  refine funext fun (y : S1x2304x640.Idx) => ?_
  refine (congrArg (narrow m 0 t) (index_one y)).trans ((narrow_eq m t (y 1) (y 2)).trans ?_)
  refine congrArg (narrowAll m) (funext fun a => Fin.ext ?_)
  refine Eq.trans ?_ (emb4 t y a).symm
  rw [at4]
  have h0 : (y 0).val = 0 := Nat.lt_one_iff.mp (y 0).isLt
  match a with
  | ⟨0, _⟩ => show t.val / 12 = t.val / 12 * 1 + 1 * (y 0).val; omega
  | ⟨1, _⟩ => show (y 1).val = 0 * 2304 + 1 * (y 1).val; omega
  | ⟨2, _⟩ => show (y 2).val = 0 * 640 + 1 * (y 2).val; omega

theorem covered4 (i : S8x2304x640.Idx) :
    ∃ t : Fin cfg0.N, (cfg0.win 4).flush t = true ∧ i ∈ ((cfg0.win 4).blk t).view.set := by
  have h0 : (i 0).val < 8 := (i 0).isLt
  let t : Fin 96 := ⟨(i 0).val * 12 + 11, by omega⟩
  let y : S1x2304x640.Idx := ix3 0 (i 1) (i 2)
  refine ⟨t, (flush0_4 t).mpr (by show ((i 0).val * 12 + 11) % 12 = 11; omega), ?_⟩
  have e : ((cfg0.win 4).blk t).view.emb y = i := by
    refine funext fun a => Fin.ext ?_
    refine (emb4 t y a).trans ?_
    rw [at4]
    match a with
    | ⟨0, _⟩ => show ((i 0).val * 12 + 11) / 12 * 1 + 1 * 0 = (i 0).val; omega
    | ⟨1, _⟩ => show 0 * 2304 + 1 * (i 1).val = (i 1).val; omega
    | ⟨2, _⟩ => show 0 * 640 + 1 * (i 2).val = (i 2).val; omega
  exact e ▸ View.emb_mem_set _ y

theorem final4 : (data m 0 0).arrAt 4 cfg0.N = narrowAll m :=
  (data m 0 0).arrAt_eq_of_cover 4 (narrowAll m) (fun t _ => flushed4 m t) covered4

/-- The program's run: the results are the two products, and the arguments are as they were. -/
theorem run : θ_run defs (onTc (τ := τ) (main (F := Ideal))) ⟨m, fun _ => 0, ρ⟩ (fun r => ∀ c : Dev nD,
      r.2.mem ((c.tc : Thread nD τ).loc main_v0_0) = wideAll m
      ∧ r.2.mem ((c.tc : Thread nD τ).loc main_v0_1) = narrowAll m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => by
    obtain rfl : c = 0 := Subsingleton.elim _ _
    exact ⟨((hr.1 0).1 3).trans (final3 m), ((hr.1 0).1 4).trans (final4 m),
      ((hr.1 0).1 0).trans (((data m 0 0).arrAt_in 0 rfl _).trans (data_A m 0 0)),
      ((hr.1 0).1 1).trans (((data m 0 0).arrAt_in 1 rfl _).trans (data_A m 0 1)),
      ((hr.1 0).1 2).trans (((data m 0 0).arrAt_in 2 rfl _).trans (data_A m 0 2))⟩) (runs m ρ)

end Cert.Kernel2Ideal.Proj

end
-- ==== Proof.ProjClaims.lean ====
/-
  The claims about the input projection: the frames, and the kernel's two results against the reference's.
-/
module

public import proofs.«01_k».proof.Defs
public import proofs.«01_k».proof.Proof.ProjBFrame
public import proofs.«01_k».proof.Proof.ProjIValue
public import proofs.«01_k».proof.Proof.DotRead
public import proofs.«01_k».proof.Proof.Gen.Reference2Ideal.Run

@[expose] public section

set_option maxRecDepth 8192

noncomputable section

namespace Cert.ProjClaims

open Idealize.ShloMosaic Idealize.SL.Sem Idealize.ShloMosaic.ValueIdx

theorem kernel_frame : quiescent_Kernel2 (hKernel2 := Cert.Kernel2.Gen.facts) :=
  fun m g _ => Cert.Kernel2.Proj.frame m g

theorem ideal_frame : quiescent_Kernel2Ideal (hKernel2Ideal := Cert.Kernel2Ideal.Gen.facts) :=
  fun m g _ => Cert.Kernel2Ideal.Proj.frame m g

theorem reference_frame : quiescent_Reference2Ideal (hReference2Ideal := Cert.Reference2Ideal.Gen.facts) :=
  fun m g _ => (θ_run _ _ _).mono (fun r h => ⟨fun c => (h c).2.2, Idealize.ShloMosaic.sem_eq_zero_of_no_sems (by decide) r.2⟩) (Cert.Reference2Ideal.Value.run m g)

/-- A contraction of the reference, as the product at every row. -/
theorem reference_product {B R K N : ℕ} {φ₁ φ₂ : FTy}
    (w : DotDims.WF ⟨3, ![B, R, K]⟩ ⟨2, ![K, N]⟩ ⟨3, ![B, R, N]⟩ [2] [0] [0, 1] [1] [] [])
    (A : FVec Ideal ⟨3, ![B, R, K]⟩ φ₁) (C : FVec Ideal ⟨2, ![K, N]⟩ φ₂) :
    (Host.dotGeneral (⟨[2], [0], [0, 1], [1], [], [], w⟩ : DotDims _ _ _) none A C : (⟨3, ![B, R, N]⟩ : Shape).Idx → EReal)
      = Cert.ProjMath.prod A C := by
  funext i
  have hi : i = ix3 (i 0) (i 1) (i 2) := by
    funext a
    match a with
    | ⟨0, _⟩ => rfl
    | ⟨1, _⟩ => rfl
    | ⟨2, _⟩ => rfl
  exact (congrArg _ hi).trans (Cert.DotRead.dot_brk_kn w none A C (i 0) (i 1) (i 2))

/-- The kernel's results are the reference's. -/
theorem same : algebraic_Kernel2Ideal_Reference2Ideal (hKernel2Ideal := Cert.Kernel2Ideal.Gen.facts)
    (hReference2Ideal := Cert.Reference2Ideal.Gen.facts) := by
  intro m g m' g' _ ha
  refine ⟨fun _ => Cert.Kernel2Ideal.Proj.wideAll m, fun _ => Cert.Kernel2Ideal.Proj.narrowAll m,
    Cert.Kernel2Ideal.Proj.run m g,
    (θ_run _ _ _).mono (fun _ h c => ⟨(h c).1.trans ?_, (h c).2.1.trans ?_, (h c).2.2⟩) (Cert.Reference2Ideal.Value.run m' g')⟩
  all_goals
    obtain rfl : c = 0 := Subsingleton.elim _ _
    obtain ⟨h0, h1, h2⟩ := ha 0
  · rw [h0, h1]
    exact reference_product _ _ _
  · rw [h0, h2]
    exact reference_product _ _ _

end Cert.ProjClaims

end
-- ==== Proof.MergeIRun.lean ====
/-
  The merge: the call's body run once, on any whole buffers. The body comes in thirteen stretches. Of the first four
  the values matter (they compute the row after the mixers and store it, and then the row normed and modulated); of the
  others, which route the row, only that they run.
-/
module

public import proofs.«01_k».proof.Proof.Gen.Kernel3Ideal.Frame
public import proofs.«01_k».proof.Proof.Gen.Kernel3Ideal.Skeleton
public import Idealize.ShloMosaic.Lib.Pipeline.Value

@[expose] public section

set_option maxRecDepth 16384

noncomputable section

namespace Cert.Kernel3Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-! ## Whole buffers: what a load reads and what a store leaves -/

/-- A load of a whole buffer reads what it holds. -/
theorem loaded {S : Shape} {e : EltTy} (r : Memref sig .tc .vmem S e) (h : r.IsWhole) {off : Fin S.rank → ℕ} (h0 : off = fun _ => 0)
    (inb : ∀ a, off a + S.size a ≤ S.size a) (x : Vec F S e) :
    View.readAt (Elt F) r.view (Rect.unit off S.size inb).toLoadRect (h.unread x) = x := by
  show View.ld (View.read (Elt F) r.view (h.unread x)) _ = _
  rw [h.read_unread, View.ld_unit_zero h0]

/-- A store over a whole buffer leaves what was stored. -/
theorem stored {S : Shape} {e : EltTy} (r : Memref sig .tc .vmem S e) {off : Fin S.rank → ℕ} (h0 : off = fun _ => 0)
    (inb : ∀ a, off a + S.size a ≤ S.size a) (f : r.view.ty.Contents (Elt F)) (w : Vec F S e) :
    View.read (Elt F) r.view (r.view.writes (Elt F) f [⟨Rect.unit off S.size inb, w⟩]) = w :=
  (View.read_writes_eq_canon _ _ _ (fun y => ⟨_, List.mem_singleton_self _, View.mem_set_unit_zero h0 inb y⟩)).trans
    (View.canon_unit_zero h0 inb w)

theorem zeros4 : (![0, 0, 0, 0] : Fin 4 → ℕ) = fun _ => 0 := by
  funext a; match a with | ⟨0, _⟩ => rfl | ⟨1, _⟩ => rfl | ⟨2, _⟩ => rfl | ⟨3, _⟩ => rfl
theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- A buffer held in full at some contents. -/
abbrev some (c : Dev nD) {S : Shape} {e : EltTy} (r : Memref sig .tc .vmem S e) : sProp 𝕄 :=
  iprop(∃ d, owns (c : Thread nD τ) r fullShare d)

/-! ## The modulated row's lane tiles -/

/-- Every eighth row of the second result's block, from row `s`. -/
def lanes (s : Fin 8) : Rect S2048x128 :=
  ⟨⟨![s.val, 0], S256x128.size, ![8, 1], by
    intro a; right; have := s.isLt
    match a with
    | ⟨0, _⟩ => show s.val + 8 * (256 - 1) < 2048; omega
    | ⟨1, _⟩ => show 0 + 1 * (128 - 1) < 128; omega⟩, by
    intro a
    match a with
    | ⟨0, _⟩ => show 0 < 8; omega
    | ⟨1, _⟩ => show 0 < 1; omega⟩

theorem mem_lanes (s : Fin 8) (y : S2048x128.Idx) (h : (y 0).val % 8 = s.val) : y ∈ (lanes s).set := by
  refine (LoadRect.mem_set _).mpr fun a => ?_
  match a with
  | ⟨0, _⟩ =>
    refine ⟨(y 0).val / 8, ?_, ?_⟩
    · show (y 0).val / 8 < 256
      have h2 : (y 0).val < 2048 := (y 0).isLt
      omega
    · show (y 0).val = s.val + 8 * ((y 0).val / 8)
      omega
  | ⟨1, _⟩ => exact ⟨(y 1).val, (y 1).isLt, by show (y 1).val = 0 + 1 * (y 1).val; omega⟩

/-- The eight tiles of a row of 1024 lanes, the first one given by itself. -/
def tiles (v : FVec F S256x1024 .f32) (w : FVec F S256x128 .f32) : List (View.Piece (Elt F) S2048x128 .f32) :=
  [⟨lanes 7, k0_pay23 v⟩, ⟨lanes 6, k0_pay22 v⟩, ⟨lanes 5, k0_pay21 v⟩, ⟨lanes 4, k0_pay20 v⟩,
    ⟨lanes 3, k0_pay19 v⟩, ⟨lanes 2, k0_pay18 v⟩, ⟨lanes 1, k0_pay17 v⟩, ⟨lanes 0, w⟩]

/-- They cover the block. -/
theorem tiles_cover (v : FVec F S256x1024 .f32) (w : FVec F S256x128 .f32) (y : S2048x128.Idx) : ∃ p ∈ tiles v w, y ∈ p.1.set := by
  have hm : lanes ⟨(y 0).val % 8, Nat.mod_lt _ (by decide)⟩ ∈ (tiles v w).map (fun p => p.1) := by
    rw [show (tiles v w).map (fun p => p.1) = (List.finRange 8).reverse.map lanes from rfl]
    exact List.mem_map_of_mem (List.mem_reverse.mpr (List.mem_finRange _))
  obtain ⟨p, hp, he⟩ := List.mem_map.mp hm
  exact ⟨p, hp, by rw [he]; exact mem_lanes _ y rfl⟩

section Run

variable (c : Dev nD) (i : grid0.Coords)
  (r2 : Memref sig .tc .vmem S1x256x1024 .bf16) (h2 : r2.IsWhole)
  (r3 : Memref sig .tc .vmem S1x256x1024 .bf16) (h3 : r3.IsWhole)
  (r4 : Memref sig .tc .vmem S1x256x1024 .bf16) (h4 : r4.IsWhole)
  (r5 : Memref sig .tc .vmem S1x256x2048 .bf16) (h5 : r5.IsWhole)
  (r6 : Memref sig .tc .vmem S1x256x1024 .bf16) (h6 : r6.IsWhole)
  (r7 : Memref sig .tc .vmem S1x256x1024 .bf16) (h7 : r7.IsWhole)
  (r8 : Memref sig .tc .vmem S1x256x1024 .bf16) (h8 : r8.IsWhole)
  (r9 : Memref sig .tc .vmem S1x256x1024 .f32) (h9 : r9.IsWhole)
  (r10 : Memref sig .tc .vmem S1x1x8x1024 .f32) (h10 : r10.IsWhole)
  (r11 : Memref sig .tc .vmem S1x1024 .f32) (h11 : r11.IsWhole)
  (r12 : Memref sig .tc .vmem S1x2048 .f32) (h12 : r12.IsWhole)
  (r13 : Memref sig .tc .vmem S1024x1024 .bf16) (h13 : r13.IsWhole)
  (r14 : Memref sig .tc .vmem S1024x1024 .bf16) (h14 : r14.IsWhole)
  (r15 : Memref sig .tc .vmem S2048x1024 .bf16) (h15 : r15.IsWhole)
  (r16 : Memref sig .tc .vmem S1024x1024 .bf16) (h16 : r16.IsWhole)
  (r17 : Memref sig .tc .vmem S16x1024 .f32) (h17 : r17.IsWhole)
  (r18 : Memref sig .tc .vmem S16x1 .f32) (h18 : r18.IsWhole)
  (r19 : Memref sig .tc .vmem S1x256x1024 .f32) (h19 : r19.IsWhole)
  (r20 : Memref sig .tc .vmem S2048x128 .f32) (h20 : r20.IsWhole)
  (r21 : Memref sig .tc .vmem S8x256 .i32) (h21 : r21.IsWhole)
  (r22 : Memref sig .tc .vmem S8x256 .f32) (h22 : r22.IsWhole)
  (r23 : Memref sig .tc .vmem S256x128 .f32) (h23 : r23.IsWhole)
  (r24 : Memref sig .tc .vmem S32x128 .i32) (h24 : r24.IsWhole)
  (r25 : Memref sig .tc .vmem S32x1 .f32) (h25 : r25.IsWhole)

/-! ## The first four stretches: the row after the mixers, and the row modulated -/

set_option maxHeartbeats 1000000 in
/-- The first stretch reads the two mixers' blocks, multiplies each with its weights, and reads the third's with its
    row of squares; the counts' buffer is zeroed at the first point. -/
theorem part1 (x2 x3 x4 : Vec F S1x256x1024 .bf16) (x5 : Vec F S1x256x2048 .bf16) (x10 : Vec F S1x1x8x1024 .f32)
    (x12 : Vec F S1x2048 .f32) (x13 x14 : Vec F S1024x1024 .bf16) (E : Set ℕ) (K : _ → sProp 𝕄) :
    iprop((owns (c : Thread nD τ) r2 fullShare x2 ∗ owns (c : Thread nD τ) r3 fullShare x3 ∗ owns (c : Thread nD τ) r4 fullShare x4
          ∗ owns (c : Thread nD τ) r5 fullShare x5 ∗ owns (c : Thread nD τ) r10 fullShare x10 ∗ owns (c : Thread nD τ) r12 fullShare x12
          ∗ owns (c : Thread nD τ) r13 fullShare x13 ∗ owns (c : Thread nD τ) r14 fullShare x14 ∗ some (F := F) c r25)
        ∗ (iprop(owns (c : Thread nD τ) r2 fullShare x2 ∗ owns (c : Thread nD τ) r3 fullShare x3 ∗ owns (c : Thread nD τ) r4 fullShare x4
          ∗ owns (c : Thread nD τ) r5 fullShare x5 ∗ owns (c : Thread nD τ) r10 fullShare x10 ∗ owns (c : Thread nD τ) r12 fullShare x12
          ∗ owns (c : Thread nD τ) r13 fullShare x13 ∗ owns (c : Thread nD τ) r14 fullShare x14 ∗ some (F := F) c r25)
          -∗ K ⟨k0_pay4 x10, k0_pay5 x2 x13, k0_pay6 i x3 x4 x14, k0_pay7 x5, x12, k0_pay8 x5, k0_pay9 (F := F)⟩))
      ⊢ wp frame (wpE (defs₀ (F := F)) Variants.none c none) E (k0_part1 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25) K := by
  simp only [k0_part1_eq_skeleton]; unfold k0_part1_skel
  unfold some owns
  iintro ⟨⟨⟨%f2, %hf2, H2⟩, ⟨%f3, %hf3, H3⟩, ⟨%f4, %hf4, H4⟩, ⟨%f5, %hf5, H5⟩, ⟨%f10, %hf10, H10⟩, ⟨%f12, %hf12, H12⟩, ⟨%f13, %hf13, H13⟩, ⟨%f14, %hf14, H14⟩, ⟨%d25, %f25, -, H25⟩⟩, Hk⟩
  obtain rfl := h2.eq_unread hf2; obtain rfl := h3.eq_unread hf3; obtain rfl := h4.eq_unread hf4; obtain rfl := h5.eq_unread hf5
  obtain rfl := h10.eq_unread hf10; obtain rfl := h12.eq_unread hf12; obtain rfl := h13.eq_unread hf13; obtain rfl := h14.eq_unread hf14
  by_cases hc : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
  all_goals
    sl_exec (disch := sl_exact hc)
    sl_step
    simp only [loaded r2 h2 zeros3, loaded r3 h3 zeros3, loaded r4 h4 zeros3, loaded r5 h5 zeros3, loaded r10 h10 zeros4, loaded r12 h12 zeros2,
      loaded r13 h13 zeros2, loaded r14 h14 zeros2]
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H10]
    · iexists _; isplitr; · ipureintro; exact h10.read_unread _
      iexact H10
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    iexists _; iexists _; isplitr
    swap; · iexact H25
    ipureintro; rfl

set_option maxHeartbeats 1000000 in
/-- The second reads the gates and multiplies the normalised third mixer with its weights. -/
theorem part2 (v10 v18 : FVec F S256x1024 .f32) (v21 : FVec F S256x2048 .f32) (v22 : Vec F S1x2048 .f32) (v25 v26 : FVec F S256x1 .f32)
    (x6 x7 x8 : Vec F S1x256x1024 .bf16) (x15 : Vec F S2048x1024 .bf16) (E : Set ℕ) (K : _ → sProp 𝕄) :
    iprop((owns (c : Thread nD τ) r6 fullShare x6 ∗ owns (c : Thread nD τ) r7 fullShare x7 ∗ owns (c : Thread nD τ) r8 fullShare x8
          ∗ owns (c : Thread nD τ) r15 fullShare x15)
        ∗ (iprop(owns (c : Thread nD τ) r6 fullShare x6 ∗ owns (c : Thread nD τ) r7 fullShare x7 ∗ owns (c : Thread nD τ) r8 fullShare x8
          ∗ owns (c : Thread nD τ) r15 fullShare x15)
          -∗ K ⟨k0_pay10 v21 v22 v25 v26 x15, k0_pay11 v10 v18 x6 x7, k0_pay12 x8⟩))
      ⊢ wp frame (wpE (defs₀ (F := F)) Variants.none c none) E (k0_part2 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v10 v18 v21 v22 v25 v26) K := by
  simp only [k0_part2_eq_skeleton]; unfold k0_part2_skel
  unfold owns
  iintro ⟨⟨⟨%f6, %hf6, H6⟩, ⟨%f7, %hf7, H7⟩, ⟨%f8, %hf8, H8⟩, ⟨%f15, %hf15, H15⟩⟩, Hk⟩
  obtain rfl := h6.eq_unread hf6; obtain rfl := h7.eq_unread hf7; obtain rfl := h8.eq_unread hf8; obtain rfl := h15.eq_unread hf15
  sl_exec
  sl_step
  simp only [loaded r6 h6 zeros3, loaded r7 h7 zeros3, loaded r8 h8 zeros3, loaded r15 h15 zeros2]
  iapply Hk
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr; · ipureintro; exact h15.read_unread _
  iexact H15

set_option maxHeartbeats 1000000 in
/-- The third stores the row after the mixers, and returns it normed and modulated. -/
theorem part3 (v6 : FVec F S8x1024 .f32) (v37 v60 v66 : FVec F S256x1024 .f32) (x9 : Vec F S1x256x1024 .f32) (x11 : Vec F S1x1024 .f32)
    (x16 : Vec F S1024x1024 .bf16) (E : Set ℕ) (K : _ → sProp 𝕄) :
    iprop((owns (c : Thread nD τ) r9 fullShare x9 ∗ owns (c : Thread nD τ) r11 fullShare x11 ∗ owns (c : Thread nD τ) r16 fullShare x16
          ∗ some (F := F) c r19)
        ∗ (iprop(owns (c : Thread nD τ) r9 fullShare x9 ∗ owns (c : Thread nD τ) r11 fullShare x11 ∗ owns (c : Thread nD τ) r16 fullShare x16
          ∗ owns (c : Thread nD τ) r19 fullShare (k0_pay14 v6 v37 v60 v66 x9 x16))
          -∗ K ⟨k0_pay15 v6 v37 v60 v66 x9 x16 x11, k0_pay16 v6 v37 v60 v66 x9 x16 x11⟩))
      ⊢ wp frame (wpE (defs₀ (F := F)) Variants.none c none) E (k0_part3 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v6 v37 v60 v66) K := by
  simp only [k0_part3_eq_skeleton]; unfold k0_part3_skel
  unfold some owns
  iintro ⟨⟨⟨%f9, %hf9, H9⟩, ⟨%f11, %hf11, H11⟩, ⟨%f16, %hf16, H16⟩, ⟨%d19, %f19, -, H19⟩⟩, Hk⟩
  obtain rfl := h9.eq_unread hf9; obtain rfl := h11.eq_unread hf11; obtain rfl := h16.eq_unread hf16
  sl_exec
  sl_step
  simp only [loaded r9 h9 zeros3, loaded r11 h11 zeros2, loaded r16 h16 zeros2]
  iapply Hk
  isplitl [H9]
  · iexists _; isplitr; · ipureintro; exact h9.read_unread _
    iexact H9
  isplitl [H11]
  · iexists _; isplitr; · ipureintro; exact h11.read_unread _
    iexact H11
  isplitl [H16]
  · iexists _; isplitr; · ipureintro; exact h16.read_unread _
    iexact H16
  iexists _; isplitr
  swap; · iexact H19
  ipureintro
  exact stored r19 zeros3 _ _ _

set_option maxHeartbeats 2000000 in
/-- The fourth stores the modulated row, lane tile by lane tile. -/
theorem part4 (v105 : FVec F S256x1024 .f32) (v106 : FVec F S256x128 .f32) (x17 : Vec F S16x1024 .f32) (E : Set ℕ) (K : _ → sProp 𝕄) :
    iprop((owns (c : Thread nD τ) r17 fullShare x17 ∗ some (F := F) c r20)
        ∗ (∀ v, iprop(owns (c : Thread nD τ) r17 fullShare x17 ∗ owns (c : Thread nD τ) r20 fullShare (View.canon (tiles v105 v106))) -∗ K v))
      ⊢ wp frame (wpE (defs₀ (F := F)) Variants.none c none) E (k0_part4 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v105 v106) K := by
  simp only [k0_part4_eq_skeleton]; unfold k0_part4_skel
  unfold some owns
  iintro ⟨⟨⟨%f17, %hf17, H17⟩, ⟨%d20, %f20, -, H20⟩⟩, Hk⟩
  sl_exec
  sl_step
  iapply Hk
  isplitl [H17]
  · iexists _; isplitr; · ipureintro; exact hf17
    iexact H17
  iexists _; isplitr
  swap; · iexact H20
  ipureintro
  exact View.read_writes_eq_canon _ _ (tiles v105 v106) (tiles_cover v105 v106)

/-! ## The routing stretches: they run -/

set_option maxHeartbeats 1000000 in
/-- The fifth reads the biases. -/
theorem part5 (v138 : FVec F S16x256 .f32) (x18 : Vec F S16x1 .f32) (E : Set ℕ) (K : _ → sProp 𝕄) :
    iprop(owns (c : Thread nD τ) r18 fullShare x18 ∗ (∀ v, owns (c : Thread nD τ) r18 fullShare x18 -∗ K v))
      ⊢ wp frame (wpE (defs₀ (F := F)) Variants.none c none) E (k0_part5 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v138) K := by
  simp only [k0_part5_eq_skeleton]; unfold k0_part5_skel
  unfold owns
  iintro ⟨⟨%f18, %hf18, H18⟩, Hk⟩
  sl_exec
  sl_step
  iapply Hk
  iexists _; isplitr; · ipureintro; exact hf18
  iexact H18

set_option maxHeartbeats 1000000 in
/-- The thirteenth counts. -/
theorem part13 (v510 v512 : IVec S1x256 32) (v513 v514 : FVec F S1x256 .f32) (E : Set ℕ) (K : _ → sProp 𝕄) :
    iprop((some (F := F) c r21 ∗ some (F := F) c r24 ∗ some (F := F) c r25)
        ∗ (∀ v, iprop(some (F := F) c r21 ∗ some (F := F) c r24 ∗ some (F := F) c r25) -∗ K v))
      ⊢ wp frame (wpE (defs₀ (F := F)) Variants.none c none) E (k0_part13 (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v510 v512 v513 v514) K := by
  simp only [k0_part13_eq_skeleton]; unfold k0_part13_skel
  unfold some owns
  iintro ⟨⟨⟨%d21, %f21, -, H21⟩, ⟨%d24, %f24, -, H24⟩, ⟨%d25, %f25, -, H25⟩⟩, Hk⟩
  sl_exec
  sl_step
  iapply Hk
  isplitl [H21]
  · iexists _; iexists _; isplitr
    swap; · iexact H21
    ipureintro; rfl
  isplitl [H24]
  · iexists _; iexists _; isplitr
    swap; · iexact H24
    ipureintro; rfl
  iexists _; iexists _; isplitr
  swap; · iexact H25
  ipureintro; rfl

/-! ## The whole body -/

/-- What the body leaves in the first result's buffer, of the blocks it reads. -/
def rowOf (x2 x3 x4 : Vec F S1x256x1024 .bf16) (x5 : Vec F S1x256x2048 .bf16) (x6 x7 x8 : Vec F S1x256x1024 .bf16)
    (x9 : Vec F S1x256x1024 .f32) (x10 : Vec F S1x1x8x1024 .f32) (x12 : Vec F S1x2048 .f32) (x13 x14 : Vec F S1024x1024 .bf16)
    (x15 : Vec F S2048x1024 .bf16) (x16 : Vec F S1024x1024 .bf16) : Vec F S1x256x1024 .f32 :=
  k0_pay14 (k0_pay4 x10) (k0_pay10 (k0_pay7 x5) x12 (k0_pay8 x5) (k0_pay9 (F := F)) x15)
    (k0_pay11 (k0_pay5 x2 x13) (k0_pay6 i x3 x4 x14) x6 x7) (k0_pay12 x8) x9 x16

/-- What it leaves in the second result's. -/
def tilesOf (x2 x3 x4 : Vec F S1x256x1024 .bf16) (x5 : Vec F S1x256x2048 .bf16) (x6 x7 x8 : Vec F S1x256x1024 .bf16)
    (x9 : Vec F S1x256x1024 .f32) (x10 : Vec F S1x1x8x1024 .f32) (x11 : Vec F S1x1024 .f32) (x12 : Vec F S1x2048 .f32)
    (x13 x14 : Vec F S1024x1024 .bf16) (x15 : Vec F S2048x1024 .bf16) (x16 : Vec F S1024x1024 .bf16) : Vec F S2048x128 .f32 :=
  View.canon (tiles
    (k0_pay15 (k0_pay4 x10) (k0_pay10 (k0_pay7 x5) x12 (k0_pay8 x5) (k0_pay9 (F := F)) x15)
      (k0_pay11 (k0_pay5 x2 x13) (k0_pay6 i x3 x4 x14) x6 x7) (k0_pay12 x8) x9 x16 x11)
    (k0_pay16 (k0_pay4 x10) (k0_pay10 (k0_pay7 x5) x12 (k0_pay8 x5) (k0_pay9 (F := F)) x15)
      (k0_pay11 (k0_pay5 x2 x13) (k0_pay6 i x3 x4 x14) x6 x7) (k0_pay12 x8) x9 x16 x11))

/-- A stretch that touches nothing returns something, and what follows runs at that. -/
theorem skip {α β : Type} {E : Set ℕ} {p : Prog (TpuEff nD τ sig (Elt F) Λ₀ .tc) α} {k : α → Prog (TpuEff nD τ sig (Elt F) Λ₀ .tc) β}
    {P : sProp 𝕄} {K : β → sProp 𝕄} (hp : ∃ v, p = .ret v)
    (hk : ∀ v, P ⊢ wp frame (wpE (defs₀ (F := F)) Variants.none c none) E (k v) K) :
    P ⊢ wp frame (wpE (defs₀ (F := F)) Variants.none c none) E (p >>= k) K := by
  obtain ⟨v, rfl⟩ := hp
  exact hk v

set_option maxHeartbeats 4000000 in
/-- The body on any whole buffers: the inputs are kept, the first result's buffer is left at the row after the mixers and
    the second's at the tiles of the modulated row, the others' and the counts' at something. -/
theorem run (x2 x3 x4 : Vec F S1x256x1024 .bf16) (x5 : Vec F S1x256x2048 .bf16) (x6 x7 x8 : Vec F S1x256x1024 .bf16)
    (x9 : Vec F S1x256x1024 .f32) (x10 : Vec F S1x1x8x1024 .f32) (x11 : Vec F S1x1024 .f32) (x12 : Vec F S1x2048 .f32)
    (x13 x14 : Vec F S1024x1024 .bf16) (x15 : Vec F S2048x1024 .bf16) (x16 : Vec F S1024x1024 .bf16)
    (x17 : Vec F S16x1024 .f32) (x18 : Vec F S16x1 .f32) (E : Set ℕ) (K : PUnit → sProp 𝕄) :
    iprop((owns (c : Thread nD τ) r2 fullShare x2 ∗ owns (c : Thread nD τ) r3 fullShare x3 ∗ owns (c : Thread nD τ) r4 fullShare x4
          ∗ owns (c : Thread nD τ) r5 fullShare x5 ∗ owns (c : Thread nD τ) r6 fullShare x6 ∗ owns (c : Thread nD τ) r7 fullShare x7
          ∗ owns (c : Thread nD τ) r8 fullShare x8 ∗ owns (c : Thread nD τ) r9 fullShare x9 ∗ owns (c : Thread nD τ) r10 fullShare x10
          ∗ owns (c : Thread nD τ) r11 fullShare x11 ∗ owns (c : Thread nD τ) r12 fullShare x12 ∗ owns (c : Thread nD τ) r13 fullShare x13
          ∗ owns (c : Thread nD τ) r14 fullShare x14 ∗ owns (c : Thread nD τ) r15 fullShare x15 ∗ owns (c : Thread nD τ) r16 fullShare x16
          ∗ owns (c : Thread nD τ) r17 fullShare x17 ∗ owns (c : Thread nD τ) r18 fullShare x18
          ∗ some (F := F) c r19 ∗ some (F := F) c r20 ∗ some (F := F) c r21 ∗ some (F := F) c r22 ∗ some (F := F) c r23 ∗ some (F := F) c r24 ∗ some (F := F) c r25)
        ∗ (iprop(owns (c : Thread nD τ) r2 fullShare x2 ∗ owns (c : Thread nD τ) r3 fullShare x3 ∗ owns (c : Thread nD τ) r4 fullShare x4
          ∗ owns (c : Thread nD τ) r5 fullShare x5 ∗ owns (c : Thread nD τ) r6 fullShare x6 ∗ owns (c : Thread nD τ) r7 fullShare x7
          ∗ owns (c : Thread nD τ) r8 fullShare x8 ∗ owns (c : Thread nD τ) r9 fullShare x9 ∗ owns (c : Thread nD τ) r10 fullShare x10
          ∗ owns (c : Thread nD τ) r11 fullShare x11 ∗ owns (c : Thread nD τ) r12 fullShare x12 ∗ owns (c : Thread nD τ) r13 fullShare x13
          ∗ owns (c : Thread nD τ) r14 fullShare x14 ∗ owns (c : Thread nD τ) r15 fullShare x15 ∗ owns (c : Thread nD τ) r16 fullShare x16
          ∗ owns (c : Thread nD τ) r17 fullShare x17 ∗ owns (c : Thread nD τ) r18 fullShare x18
          ∗ owns (c : Thread nD τ) r19 fullShare (rowOf i x2 x3 x4 x5 x6 x7 x8 x9 x10 x12 x13 x14 x15 x16)
          ∗ owns (c : Thread nD τ) r20 fullShare (tilesOf i x2 x3 x4 x5 x6 x7 x8 x9 x10 x11 x12 x13 x14 x15 x16)
          ∗ some (F := F) c r21 ∗ some (F := F) c r22 ∗ some (F := F) c r23 ∗ some (F := F) c r24 ∗ some (F := F) c r25) -∗ K ⟨⟩))
      ⊢ wp frame (wpE (defs₀ (F := F)) Variants.none c none) E (cc0_merge_route (F := F) i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25) K := by
  simp only [cc0_merge_route_eq_skeleton]; unfold cc0_merge_route_skel
  iintro ⟨⟨H2, H3, H4, H5, H6, H7, H8, H9, H10, H11, H12, H13, H14, H15, H16, H17, H18, H19, H20, H21, H22, H23, H24, H25⟩, Hk⟩
  rw [wp_bind]
  iapply (part1 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 x2 x3 x4 x5 x10 x12 x13 x14 E _)
  isplitl [H2 H3 H4 H5 H10 H12 H13 H14 H25]
  · isplitl [H2]; · iexact H2
    isplitl [H3]; · iexact H3
    isplitl [H4]; · iexact H4
    isplitl [H5]; · iexact H5
    isplitl [H10]; · iexact H10
    isplitl [H12]; · iexact H12
    isplitl [H13]; · iexact H13
    isplitl [H14]; · iexact H14
    iexact H25
  iintro ⟨H2, H3, H4, H5, H10, H12, H13, H14, H25⟩
  dsimp only
  rw [wp_bind]
  iapply (part2 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 _ _ _ _ _ _ x6 x7 x8 x15 E _)
  isplitl [H6 H7 H8 H15]
  · isplitl [H6]; · iexact H6
    isplitl [H7]; · iexact H7
    isplitl [H8]; · iexact H8
    iexact H15
  iintro ⟨H6, H7, H8, H15⟩
  dsimp only
  rw [wp_bind]
  iapply (part3 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 _ _ _ _ x9 x11 x16 E _)
  isplitl [H9 H11 H16 H19]
  · isplitl [H9]; · iexact H9
    isplitl [H11]; · iexact H11
    isplitl [H16]; · iexact H16
    iexact H19
  iintro ⟨H9, H11, H16, H19⟩
  dsimp only
  rw [wp_bind]
  iapply (part4 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 _ _ x17 E _)
  isplitl [H17 H20]
  · isplitl [H17]; · iexact H17
    iexact H20
  iintro %v4 ⟨H17, H20⟩
  rw [wp_bind]
  iapply (part5 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 _ x18 E _)
  isplitl [H18]; · iexact H18
  iintro %v5 H18
  refine skip c ⟨_, rfl⟩ fun v6 => ?_
  refine skip c ⟨_, rfl⟩ fun v7 => ?_
  refine skip c ⟨_, rfl⟩ fun v8 => ?_
  refine skip c ⟨_, rfl⟩ fun v9 => ?_
  refine skip c ⟨_, rfl⟩ fun v10 => ?_
  refine skip c ⟨_, rfl⟩ fun v11 => ?_
  refine skip c ⟨_, rfl⟩ fun v12 => ?_
  rcases v12 with ⟨v12a, v12b, v12c, v12d⟩
  rw [wp_bind]
  iintro ⟨⟨⟨⟨⟨⟨⟨⟨⟨⟨⟨⟨⟨⟨⟨⟨⟨⟨⟨⟨⟨⟨⟨⟨H21, H22⟩, H23⟩, H24⟩, Hk⟩, H2⟩, H3⟩, H4⟩, H5⟩, H10⟩, H12⟩, H13⟩, H14⟩, H25⟩, H6⟩, H7⟩, H8⟩, H15⟩, H9⟩, H11⟩, H16⟩, H19⟩, H17⟩, H20⟩, H18⟩
  iapply (part13 c i r2 h2 r3 h3 r4 h4 r5 h5 r6 h6 r7 h7 r8 h8 r9 h9 r10 h10 r11 h11 r12 h12 r13 h13 r14 h14 r15 h15 r16 h16 r17 h17 r18 h18 r19 h19 r20 h20 r21 h21 r22 h22 r23 h23 r24 h24 r25 h25 v12a v12b v12c v12d E _)
  isplitl [H21 H24 H25]
  · isplitl [H21]; · iexact H21
    isplitl [H24]; · iexact H24
    iexact H25
  iintro %v13 ⟨H21, H24, H25⟩
  rcases v13 with ⟨v13a, v13b, v13c⟩
  try dsimp only
  unfold some owns
  icases H21 with ⟨%d21, %f21, -, H21⟩
  icases H22 with ⟨%d22, %f22, -, H22⟩
  icases H23 with ⟨%d23, %f23, -, H23⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; iexists _; isplitr
    swap; · iexact H21
    ipureintro; rfl
  isplitl [H22]
  · iexists _; iexists _; isplitr
    swap; · iexact H22
    ipureintro; rfl
  isplitl [H23]
  · iexists _; iexists _; isplitr
    swap; · iexact H23
    ipureintro; rfl
  isplitl [H24]; · iexact H24
  iexact H25

end Run

end Cert.Kernel3Ideal.Merge

end
-- ==== Proof.MergeIFrame.lean ====
/-
  The merge: the call's run, its arguments left as they were. Every input's buffer keeps its block, the first result's
  holds the row after the mixers, the second's the tiles of the modulated row; of the other results, and of the
  counts kept between points, nothing is recorded.
-/
module

public import proofs.«01_k».proof.Proof.MergeIRun
public import Idealize.ShloMosaic.Lib.Pipeline.Cells

@[expose] public section

set_option maxRecDepth 16384

noncomputable section

namespace Cert.Kernel3Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows of which nothing is recorded: the results that route the row. -/
def unkept (w : Fin 23) : Bool := decide (19 ≤ w.val)

/-- The first result's block after point `t`. -/
def row (c : Dev nD) (t : Fin cfg0.N) : Vec F S1x256x1024 .f32 :=
  rowOf (grid0.coords t) (iblk m c 0 t) (iblk m c 1 t) (iblk m c 2 t) (iblk m c 3 t) (iblk m c 4 t) (iblk m c 5 t) (iblk m c 6 t)
    (iblk m c 7 t) (iblk m c 8 t) (iblk m c 10 t) (iblk m c 11 t) (iblk m c 12 t) (iblk m c 13 t) (iblk m c 14 t)

/-- The second result's. -/
def tile (c : Dev nD) (t : Fin cfg0.N) : Vec F S2048x128 .f32 :=
  tilesOf (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)

/-- The arrays as the call finds them; each input's buffer keeps its block, the first two results' hold the row and the
    tiles. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => row m c t
    | ⟨18, _⟩ => tile m c t
    | _ => fun _ => Classical.arbitrary _
  Φ _ := Pipeline.ΦA spec0 c
  q w := Pipeline.shareOf spec0 w
  owed _ := 0

theorem data_A (c : Dev nD) (w : Fin cfg0.W) : (data m 0 c).A w = V m c (Pipeline.arrRef spec0 w) := by dsimp only [data]

theorem leaves17 (c : Dev nD) (t : Fin cfg0.N) : (data m 0 c).after 17 t = row m c t := by dsimp only [data]; try rfl

theorem leaves18 (c : Dev nD) (t : Fin cfg0.N) : (data m 0 c).after 18 t = tile m c t := by dsimp only [data]; try rfl

theorem finds0 (c : Dev nD) (t : Fin cfg0.N) (d) : (data m 0 c).before 0 t d = iblk m c 0 t :=
  before0_0_of m (data m 0 c) (data_A m c 0) (fun t => by dsimp only [data]; try rfl) t d
theorem finds1 (c : Dev nD) (t : Fin cfg0.N) (d) : (data m 0 c).before 1 t d = iblk m c 1 t :=
  before0_1_of m (data m 0 c) (data_A m c 1) (fun t => by dsimp only [data]; try rfl) t d
theorem finds2 (c : Dev nD) (t : Fin cfg0.N) (d) : (data m 0 c).before 2 t d = iblk m c 2 t :=
  before0_2_of m (data m 0 c) (data_A m c 2) (fun t => by dsimp only [data]; try rfl) t d
theorem finds3 (c : Dev nD) (t : Fin cfg0.N) (d) : (data m 0 c).before 3 t d = iblk m c 3 t :=
  before0_3_of m (data m 0 c) (data_A m c 3) (fun t => by dsimp only [data]; try rfl) t d
theorem finds4 (c : Dev nD) (t : Fin cfg0.N) (d) : (data m 0 c).before 4 t d = iblk m c 4 t :=
  before0_4_of m (data m 0 c) (data_A m c 4) (fun t => by dsimp only [data]; try rfl) t d
theorem finds5 (c : Dev nD) (t : Fin cfg0.N) (d) : (data m 0 c).before 5 t d = iblk m c 5 t :=
  before0_5_of m (data m 0 c) (data_A m c 5) (fun t => by dsimp only [data]; try rfl) t d
theorem finds6 (c : Dev nD) (t : Fin cfg0.N) (d) : (data m 0 c).before 6 t d = iblk m c 6 t :=
  before0_6_of m (data m 0 c) (data_A m c 6) (fun t => by dsimp only [data]; try rfl) t d
theorem finds7 (c : Dev nD) (t : Fin cfg0.N) (d) : (data m 0 c).before 7 t d = iblk m c 7 t :=
  before0_7_of m (data m 0 c) (data_A m c 7) (fun t => by dsimp only [data]; try rfl) t d
theorem finds8 (c : Dev nD) (t : Fin cfg0.N) (d) : (data m 0 c).before 8 t d = iblk m c 8 t :=
  before0_8_of m (data m 0 c) (data_A m c 8) (fun t => by dsimp only [data]; try rfl) t d
theorem finds9 (c : Dev nD) (t : Fin cfg0.N) (d) : (data m 0 c).before 9 t d = iblk m c 9 t :=
  before0_9_of m (data m 0 c) (data_A m c 9) (fun t => by dsimp only [data]; try rfl) t d
theorem finds10 (c : Dev nD) (t : Fin cfg0.N) (d) : (data m 0 c).before 10 t d = iblk m c 10 t :=
  before0_10_of m (data m 0 c) (data_A m c 10) (fun t => by dsimp only [data]; try rfl) t d
theorem finds11 (c : Dev nD) (t : Fin cfg0.N) (d) : (data m 0 c).before 11 t d = iblk m c 11 t :=
  before0_11_of m (data m 0 c) (data_A m c 11) (fun t => by dsimp only [data]; try rfl) t d
theorem finds12 (c : Dev nD) (t : Fin cfg0.N) (d) : (data m 0 c).before 12 t d = iblk m c 12 t :=
  before0_12_of m (data m 0 c) (data_A m c 12) (fun t => by dsimp only [data]; try rfl) t d
theorem finds13 (c : Dev nD) (t : Fin cfg0.N) (d) : (data m 0 c).before 13 t d = iblk m c 13 t :=
  before0_13_of m (data m 0 c) (data_A m c 13) (fun t => by dsimp only [data]; try rfl) t d
theorem finds14 (c : Dev nD) (t : Fin cfg0.N) (d) : (data m 0 c).before 14 t d = iblk m c 14 t :=
  before0_14_of m (data m 0 c) (data_A m c 14) (fun t => by dsimp only [data]; try rfl) t d
theorem finds15 (c : Dev nD) (t : Fin cfg0.N) (d) : (data m 0 c).before 15 t d = iblk m c 15 t :=
  before0_15_of m (data m 0 c) (data_A m c 15) (fun t => by dsimp only [data]; try rfl) t d
theorem finds16 (c : Dev nD) (t : Fin cfg0.N) (d) : (data m 0 c).before 16 t d = iblk m c 16 t :=
  before0_16_of m (data m 0 c) (data_A m c 16) (fun t => by dsimp only [data]; try rfl) t d

/-! ## The body at a point -/

/-- What the body is handed besides its counts, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d))
    ∗ (∃ d, owns (c : Thread nD τ) (st0_12 t) fullShare ((data m 0 c).before 12 t d))
    ∗ (∃ d, owns (c : Thread nD τ) (st0_13 t) fullShare ((data m 0 c).before 13 t d))
    ∗ (∃ d, owns (c : Thread nD τ) (st0_14 t) fullShare ((data m 0 c).before 14 t d))
    ∗ (∃ d, owns (c : Thread nD τ) (st0_15 t) fullShare ((data m 0 c).before 15 t d))
    ∗ (∃ d, owns (c : Thread nD τ) (st0_16 t) fullShare ((data m 0 c).before 16 t d))
    ∗ (∃ d, owns (c : Thread nD τ) (st0_17 t) fullShare ((data m 0 c).before 17 t d))
    ∗ (∃ d, owns (c : Thread nD τ) (st0_18 t) fullShare ((data m 0 c).before 18 t d))
    ∗ some (F := F) c (st0_19 t)
    ∗ some (F := F) c (st0_20 t)
    ∗ some (F := F) c (st0_21 t)
    ∗ some (F := F) c (st0_22 t))

/-- and what it hands back. -/
def handsBack (c : Dev nD) (t : Fin cfg0.N) : sProp 𝕄 :=
  iprop((data m 0 c).Φ t.succ ∗ (data m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ owns (c : Thread nD τ) (st0_14 t) fullShare (iblk m c 14 t)
    ∗ owns (c : Thread nD τ) (st0_15 t) fullShare (iblk m c 15 t)
    ∗ owns (c : Thread nD τ) (st0_16 t) fullShare (iblk m c 16 t)
    ∗ owns (c : Thread nD τ) (st0_17 t) fullShare (row m c t)
    ∗ owns (c : Thread nD τ) (st0_18 t) fullShare (tile m c t)
    ∗ some (F := F) c (st0_19 t)
    ∗ some (F := F) c (st0_20 t)
    ∗ some (F := F) c (st0_21 t)
    ∗ some (F := F) c (st0_22 t))

/-- The invariant kept between points: the counts' buffer at something, and the generator's register. -/
theorem between (c : Dev nD) (t : Fin (cfg0.N + 1)) :
    (data m 0 c).Φ t = iprop((∃ f, owns (c : Thread nD τ) (Memref.whole cc0_scratch0) fullShare f) ∗ ∃ r, prngReg c r) := by
  show Pipeline.ΦA spec0 c = _
  unfold Pipeline.ΦA
  rw [scopedRest0_eq]
  simp only [owns_whole]
  try rfl

set_option maxHeartbeats 4000000 in
/-- The body keeps its promise at every point. -/
theorem body_at (c : Dev nD) (t : Fin cfg0.N) :
    handed m c t ⊢ wp frame (wpE (defs₀ (F := F)) Variants.none c none) Set.univ (bodyAt0 t) (fun _ => handsBack m c t) := by
  unfold handed handsBack bodyAt0
  simp only [finds0, finds1, finds2, finds3, finds4, finds5, finds6, finds7, finds8, finds9, finds10, finds11, finds12, finds13, finds14, finds15, finds16]
  rw [between, between, show (data m 0 c).owesAt () t.succ = (data m 0 c).owesAt () t.castSucc from rfl]
  unfold row tile
  iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22⟩
  iapply (run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) Set.univ _)
  isplitl [H0 H1 H2 H3 H4 H5 H6 H7 H8 H9 H10 H11 H12 H13 H14 H15 H16 H17 H18 H19 H20 H21 H22 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexact H19
    isplitl [H20]; · iexact H20
    isplitl [H21]; · iexact H21
    isplitl [H22]; · iexact H22
    iexact Hs
  iintro ⟨H0, H1, H2, H3, H4, H5, H6, H7, H8, H9, H10, H11, H12, H13, H14, H15, H16, H17, H18, H19, H20, H21, H22, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem row_is_body (t : Fin cfg0.N) :
    defs₀ (F := F) .tc cfg0.body (cfg0.bodyArgs t (cfg0.slots t)) = bodyAt0 t := by
  unfold defs₀; rw [Defs.onTc_tc]

set_option maxHeartbeats 1600000 in
theorem obligation (c : Dev nD) : BodyObligationLoose (data (F := F) m 0 c) (defs₀ (F := F)) Variants.none () Set.univ unkept := fun t => by
  rw [bigSep_W0, bigSep_W0, row_is_body]
  exact triple_restated (body_at m c t) rfl .rfl fun _ => .rfl

/-! ## The run -/

/-- The program runs, its arrays end as the proof data say where they say anything, its counters at zero. -/
theorem runs : θ_run defs (onTc (τ := τ) (main (F := F))) (s₀ m ρ)
    (fun r => (RDat.FramePost cfg0 (fun c => (data m 0 c).toRForget unkept) (V m)) r ∧ r.2.sem = fun _ => 0) :=
  Pipeline.θ_run_frame_forget_shared (Q' := _) cfgs (data m) (0 : Fin 1) launch₀0 defs₀ Variants.none unkept m ρ main
    (hbody := obligation m) (hq := fun _ _ _ => rfl)
    (howed := fun _ _ => rfl) (V := V m) (hmain := hmain m Variants.none) (hA := data_A m)
    (hΦ := fun _ _ => rfl)

/-- An argument's array ends as it was. -/
theorem kept {r : PUnit × MemSt nD τ sig (Elt F)} (h : RDat.FramePost cfg0 (fun c => (data m 0 c).toRForget unkept) (V m) r)
    (c : Dev nD) (w : Fin cfg0.W) (hw : (cfg0.spec w).isOut = false) :
    r.2.mem ((c.tc : Thread nD τ).loc (Pipeline.arrRef spec0 w)) = V m c (Pipeline.arrRef spec0 w) :=
  (RDat.FramePost.arr_in h c w hw).trans (data_A m c w)

/-- The program runs and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ hr => ⟨fun c => ⟨
      kept m hr.1 c 0 rfl, kept m hr.1 c 1 rfl, kept m hr.1 c 2 rfl, kept m hr.1 c 3 rfl, kept m hr.1 c 6 rfl, kept m hr.1 c 7 rfl, kept m hr.1 c 8 rfl, kept m hr.1 c 9 rfl, kept m hr.1 c 10 rfl, kept m hr.1 c 11 rfl, kept m hr.1 c 12 rfl, kept m hr.1 c 13 rfl, kept m hr.1 c 14 rfl, kept m hr.1 c 15 rfl, kept m hr.1 c 16 rfl⟩, hr.2⟩) (runs m ρ)

end Cert.Kernel3Ideal.Merge

end
-- ==== Proof.MergeMath.lean ====
/-
  The merge as mathematics: one row's three mixer branches, each projected and gated, their sum projected once more and
  added to the row under the row's own gate; then that row normed and modulated. Then the whole results, from the arrays
  that the call is given.
-/
module

public import Idealize.ShloMosaic.PureOps.Ideal.Laws
public import Idealize.ShloMosaic.Lib.ValueIdxCore

@[expose] public section

noncomputable section

namespace Cert.MergeMath

open Idealize.ShloMosaic Idealize.ShloMosaic.ValueIdx
open scoped BigOperators

abbrev one : EReal := Ideal.ofBits .f32 0x3F800000#32
/-- The lengths of the rows that are normed, and the small number added to their mean squares. -/
abbrev len : EReal := Ideal.ofBits .f32 0x45000000#32
abbrev width : EReal := Ideal.ofBits .f32 0x44800000#32
abbrev eps : EReal := Ideal.ofBits .f32 0x358637BD#32

/-- The logistic function. -/
def logistic (z : EReal) : EReal := Ideal.div one (one + Ideal.exp (-z))

/-- A row over the root of its mean square, scaled. -/
def norm (y s : Fin 2048 → EReal) (j : Fin 2048) : EReal :=
  y j * Ideal.rsqrt (Ideal.div (∑ i, y i * y i) len + eps) * s j

/-- What one row is mixed from: the three branches (the last with its scale), the three gates before the logistic
    function, and the branches' weights. -/
@[ext] structure Branches where
  ga : Fin 1024 → EReal
  fm : Fin 1024 → EReal
  yz : Fin 2048 → EReal
  sg : Fin 2048 → EReal
  pa : Fin 1024 → EReal
  pb : Fin 1024 → EReal
  pc : Fin 1024 → EReal
  wa : Fin 1024 → Fin 1024 → EReal
  wb : Fin 1024 → Fin 1024 → EReal
  wc : Fin 2048 → Fin 1024 → EReal

/-- The gated sum of the projected branches. -/
def mixed (B : Branches) (k : Fin 1024) : EReal :=
  logistic (B.pa k) * (∑ i, B.ga i * B.wa i k) + logistic (B.pb k) * (∑ i, B.fm i * B.wb i k)
    + logistic (B.pc k) * ∑ i, norm B.yz B.sg i * B.wc i k

/-- The row after the mixers, at channel `n`. -/
def rowAt (B : Branches) (x g : EReal) (wo : Fin 1024 → Fin 1024 → EReal) (n : Fin 1024) : EReal :=
  x + g * ∑ k, mixed B k * wo k n

/-- A row over the root of its mean square, scaled by `g`, then scaled once more and shifted. -/
def modulated (x g shift scale : Fin 1024 → EReal) (n : Fin 1024) : EReal :=
  x n * Ideal.rsqrt (Ideal.div (∑ i, x i * x i) width + eps) * g n * (one + scale n) + shift n

/-- The arrays that the merge is given. -/
structure Arrays where
  ga : (⟨3, ![8, 2304, 1024]⟩ : Shape).Idx → EReal
  fmc : (⟨3, ![8, 256, 1024]⟩ : Shape).Idx → EReal
  fml : (⟨3, ![8, 2048, 1024]⟩ : Shape).Idx → EReal
  yz : (⟨3, ![8, 2304, 2048]⟩ : Shape).Idx → EReal
  p : (⟨3, ![8, 2304, 12288]⟩ : Shape).Idx → EReal
  x : (⟨3, ![8, 2304, 1024]⟩ : Shape).Idx → EReal
  mods : (⟨4, ![8, 2, 8, 1024]⟩ : Shape).Idx → EReal
  ng : (⟨2, ![1, 1024]⟩ : Shape).Idx → EReal
  sg : (⟨2, ![1, 2048]⟩ : Shape).Idx → EReal
  wa : (⟨2, ![1024, 1024]⟩ : Shape).Idx → EReal
  wb : (⟨2, ![1024, 1024]⟩ : Shape).Idx → EReal
  wc : (⟨2, ![2048, 1024]⟩ : Shape).Idx → EReal
  wo : (⟨2, ![1024, 1024]⟩ : Shape).Idx → EReal

/-- Where the second branch keeps position `R` of the latent rows: its array alternates blocks of 256 rows from the
    front with blocks from the back. -/
def latent (R : Fin 2304) : Fin 2048 :=
  ⟨if R.val < 1280 then (R.val / 256 - 1) * 512 + R.val % 256 else (8 - R.val / 256) * 512 + 256 + R.val % 256, by
    have := R.isLt; split <;> omega⟩

/-- The second branch at a position: its context rows first, then the latent rows. -/
def fmAt (A : Arrays) (b : Fin 8) (R : Fin 2304) (k : Fin 1024) : EReal :=
  if R.val < 256 then A.fmc (ix3 b ⟨R.val % 256, Nat.mod_lt _ (by decide)⟩ k) else A.fml (ix3 b (latent R) k)

/-- Context rows take the first set of modulations, latent rows the second. -/
def kind (R : Fin 2304) : Fin 2 := if R.val < 256 then 0 else 1

/-- Rows normed and modulated by the first two of their modulations, as ahead of the mixers. -/
def normed (x : (⟨3, ![8, 2304, 1024]⟩ : Shape).Idx → EReal) (g : (⟨2, ![1, 1024]⟩ : Shape).Idx → EReal)
    (mods : (⟨4, ![8, 2, 8, 1024]⟩ : Shape).Idx → EReal) (i : (⟨3, ![8, 2304, 1024]⟩ : Shape).Idx) : EReal :=
  modulated (fun k => x (ix3 (i 0) (i 1) k)) (fun k => g (ix2 0 k)) (fun k => mods (ix4 (i 0) (kind (i 1)) 0 k))
    (fun k => mods (ix4 (i 0) (kind (i 1)) 1 k)) (i 2)

/-- Column `c + k` of the wide projection. -/
abbrev pAt (A : Arrays) (c : ℕ) (hc : c + 1024 ≤ 12288) (b : Fin 8) (R : Fin 2304) (k : Fin 1024) : EReal :=
  A.p (ix3 b R ⟨c + k.val, by have := k.isLt; omega⟩)

def branches (A : Arrays) (b : Fin 8) (R : Fin 2304) : Branches where
  ga k := A.ga (ix3 b R k)
  fm k := fmAt A b R k
  yz k := A.yz (ix3 b R k)
  sg k := A.sg (ix2 0 k)
  pa k := pAt A 9216 (by decide) b R k
  pb k := pAt A 10240 (by decide) b R k
  pc k := pAt A 11264 (by decide) b R k
  wa i k := A.wa (ix2 i k)
  wb i k := A.wb (ix2 i k)
  wc i k := A.wc (ix2 i k)

/-- The whole first result. -/
def merged (A : Arrays) (i : (⟨3, ![8, 2304, 1024]⟩ : Shape).Idx) : EReal :=
  rowAt (branches A (i 0) (i 1)) (A.x (ix3 (i 0) (i 1) (i 2))) (A.mods (ix4 (i 0) (kind (i 1)) 2 (i 2)))
    (fun k n => A.wo (ix2 k n)) (i 2)

/-- The merged row at a position, modulated. -/
def modAt (A : Arrays) (b : Fin 8) (R : Fin 2304) (n : Fin 1024) : EReal :=
  modulated (fun k => merged A (ix3 b R k)) (fun k => A.ng (ix2 0 k)) (fun k => A.mods (ix4 b (kind R) 3 k))
    (fun k => A.mods (ix4 b (kind R) 4 k)) n

/-- The whole second result: every position's modulated row as eight rows of 128 lanes. -/
def tiled (A : Arrays) (i : (⟨2, ![147456, 128]⟩ : Shape).Idx) : EReal :=
  modAt A ⟨(i 0).val / 18432, by have : (i 0).val < 147456 := (i 0).isLt; omega⟩
    ⟨(i 0).val / 8 % 2304, Nat.mod_lt _ (by decide)⟩
    ⟨(i 0).val % 8 * 128 + (i 1).val, by have : (i 1).val < 128 := (i 1).isLt; omega⟩

end Cert.MergeMath

end
-- ==== Proof.MergeIPay.lean ====
/-
  The merge over the extended reals: the row that the body leaves, and the row's modulated tiles, as mathematics of the blocks that it reads.
-/
module

public import proofs.«01_k».proof.Proof.MergeIFrame
public import proofs.«01_k».proof.Proof.MergeMath
public import Idealize.ShloMosaic.Lib.MatmulPlain
public import Idealize.ShloMosaic.Lib.Pipeline.Value

@[expose] public section

set_option maxRecDepth 16384

noncomputable section

namespace Cert.Kernel3Ideal.Merge

open Idealize.ShloMosaic Idealize.ShloMosaic.TcCoe Idealize.ShloMosaic.Tactic Idealize.ShloMosaic.ValueIdx
open Cert.Kernel3Ideal.Gen Cert.MergeMath
open scoped BigOperators

/-! ## Reshapes and products -/

theorem flat_apply {φ : EltTy} (x : Vec Ideal S1x256x1024 φ) (h) (r : Fin 256) (k : Fin 1024) :
    shapeCast S256x1024 x h (ix2 r k) = x (ix3 0 r k) := by
  refine shapeCast_apply x _ (ix2 r k) (ix3 0 r k) ?_
  rw [Shape.rowMajor_val_two, Shape.rowMajor_val_three]
  show _ = _
  simp

theorem prod_apply (A : FVec Ideal S256x1024 .bf16) (B : FVec Ideal S1024x1024 .bf16) (r : Fin 256) (n : Fin 1024) :
    matmul dot_S256x1024_S1024x1024_S256x1024_1_0_0_1_n_n none A B (constant S256x1024 .f32 0x00000000#32) (ix2 r n)
      = ∑ k : Fin 1024, A (ix2 r k) * B (ix2 k n) := by
  show FloatOps.matmul (DotDims.plain 256 1024 1024) none (φ₂ := .bf16) A B _ (ix2 r n) = _
  rw [Ideal.matmul_plain_apply]
  show Ideal.ofBits .f32 0x00000000#32 + _ = _
  rw [Ideal.ofBits_zero_f32, zero_add]

/-! ## The three branches -/

theorem first_apply (x : Vec Ideal S1x256x1024 .bf16) (w : Vec Ideal S1024x1024 .bf16) (r : Fin 256) (n : Fin 1024) :
    k0_pay5 x w (ix2 r n) = ∑ k : Fin 1024, x (ix3 0 r k) * w (ix2 k n) := by
  refine (prod_apply _ _ r n).trans ?_
  exact Finset.sum_congr rfl fun k _ => congrArg (· * w (ix2 k n)) (flat_apply x _ r k)

/-- The comparison that tells the context block from the latent ones. -/
theorem atStart (i : grid0.Coords) : Scalar.cmpi .slt (BitVec.ofNat 32 (i 1).val) 1#32 = if (i 1).val < 1 then 1#1 else 0#1 :=
  (by decide +kernel : ∀ j : Fin 9, Scalar.cmpi .slt (BitVec.ofNat 32 j.val) 1#32 = if j.val < 1 then 1#1 else 0#1) (i 1)

theorem second_apply (i : grid0.Coords) (x y : Vec Ideal S1x256x1024 .bf16) (w : Vec Ideal S1024x1024 .bf16) (r : Fin 256) (n : Fin 1024) :
    k0_pay6 i x y w (ix2 r n) = ∑ k : Fin 1024, (if (i 1).val < 1 then x (ix3 0 r k) else y (ix3 0 r k)) * w (ix2 k n) := by
  refine (prod_apply _ _ r n).trans ?_
  refine Finset.sum_congr rfl fun k _ => congrArg (· * w (ix2 k n)) ?_
  rw [atStart]
  by_cases h : (i 1).val < 1
  · rw [if_pos h, if_pos h]
    exact flat_apply x _ r k
  · rw [if_neg h, if_neg h]
    exact flat_apply y _ r k

theorem wide_apply (x : Vec Ideal S1x256x2048 .bf16) (r : Fin 256) (k : Fin 2048) : k0_pay7 x (ix2 r k) = x (ix3 0 r k) := by
  show shapeCast S256x2048 x _ (ix2 r k) = _
  refine shapeCast_apply x _ (ix2 r k) (ix3 0 r k) ?_
  rw [Shape.rowMajor_val_two, Shape.rowMajor_val_three]
  show _ = _
  simp

theorem square_apply (x : Vec Ideal S1x256x2048 .bf16) (r : Fin 256) :
    k0_pay8 x (ix2 r 0) = ∑ k : Fin 2048, x (ix3 0 r k) * x (ix3 0 r k) := by
  unfold k0_pay8
  refine (shapeCast_apply _ _ (ix2 r 0) (ix1 r) ?_).trans ?_
  · rw [Shape.rowMajor_val_two, Shape.rowMajor_val_one]
    show _ = _
    simp
  refine (Ideal.multiReduction_add_single _ _ _ _ _ (ix1 r)).trans ?_
  refine Finset.sum_congr rfl fun k _ => ?_
  rw [show Shape.Reduces.lift _ (ix1 r) k = (ix2 r k : S256x2048.Idx) from funext fun a => match a with | ⟨0, _⟩ => rfl | ⟨1, _⟩ => rfl]
  exact congrArg₂ (fun a b : EReal => a * b) (wide_apply x r k) (wide_apply x r k)

theorem column_apply (x : FVec Ideal S256x1 .f32) (h) (r : Fin 256) (k : Fin 2048) : broadcastTo S256x2048 x h (ix2 r k) = x (ix2 r 0) :=
  broadcastTo_apply x h (ix2 r k) (ix2 r 0) fun a => match a with | ⟨0, _⟩ => rfl | ⟨1, _⟩ => rfl

theorem scale_apply (x : FVec Ideal S1x2048 .f32) (h) (r : Fin 256) (k : Fin 2048) : broadcastTo S256x2048 x h (ix2 r k) = x (ix2 0 k) :=
  broadcastTo_apply x h (ix2 r k) (ix2 0 k) fun a => match a with | ⟨0, _⟩ => rfl | ⟨1, _⟩ => rfl

theorem third_apply (x : Vec Ideal S1x256x2048 .bf16) (s : Vec Ideal S1x2048 .f32) (w : Vec Ideal S2048x1024 .bf16) (r : Fin 256) (n : Fin 1024) :
    k0_pay10 (k0_pay7 x) s (k0_pay8 x) k0_pay9 w (ix2 r n)
      = ∑ k : Fin 2048, norm (fun j => x (ix3 0 r j)) (fun j => s (ix2 0 j)) k * w (ix2 k n) := by
  show FloatOps.matmul (F := Ideal) (DotDims.plain 256 2048 1024) none (φ₂ := .bf16) _ w _ (ix2 r n) = _
  rw [Ideal.matmul_plain_apply]
  show Ideal.ofBits .f32 0x00000000#32 + _ = _
  rw [Ideal.ofBits_zero_f32, zero_add]
  refine Finset.sum_congr rfl fun k _ => congrArg (· * w (ix2 k n)) ?_
  show k0_pay7 x (ix2 r k) * broadcastTo S256x2048 _ _ (ix2 r k) * broadcastTo S256x2048 s _ (ix2 r k) = _
  rw [wide_apply, column_apply, scale_apply]
  show _ * Ideal.rsqrt (Ideal.div (k0_pay8 x (ix2 r 0)) len + eps) * _ = _
  rw [square_apply]
  rfl

/-! ## The gated sum, and the row -/

theorem gates_apply (u v : FVec Ideal S256x1024 .f32) (p q : Vec Ideal S1x256x1024 .bf16) (r : Fin 256) (n : Fin 1024) :
    k0_pay11 u v p q (ix2 r n) = logistic (p (ix3 0 r n)) * u (ix2 r n) + logistic (q (ix3 0 r n)) * v (ix2 r n) := by
  show Ideal.div one (one + Ideal.exp (Ideal.ofBits .f32 0x00000000#32 - shapeCast S256x1024 p _ (ix2 r n))) * u (ix2 r n)
    + Ideal.div one (one + Ideal.exp (Ideal.ofBits .f32 0x00000000#32 - shapeCast S256x1024 q _ (ix2 r n))) * v (ix2 r n) = _
  rw [flat_apply, flat_apply, Ideal.ofBits_zero_f32, zero_sub, zero_sub]
  rfl

theorem last_apply (p : Vec Ideal S1x256x1024 .bf16) (r : Fin 256) (n : Fin 1024) :
    Ideal.div one (one + k0_pay12 p (ix2 r n)) = logistic (p (ix3 0 r n)) := by
  show Ideal.div one (one + Ideal.exp (Ideal.ofBits .f32 0x00000000#32 - shapeCast S256x1024 p _ (ix2 r n))) = _
  rw [flat_apply, Ideal.ofBits_zero_f32, zero_sub]
  rfl

theorem mods_apply (x : Vec Ideal S1x1x8x1024 .f32) (s : Fin 8) (n : Fin 1024) : k0_pay4 x (ix2 s n) = x (ix4 0 0 s n) := by
  unfold k0_pay4
  refine shapeCast_apply x _ (ix2 s n) (ix4 0 0 s n) ?_
  rw [Shape.rowMajor_val_two, Shape.rowMajor_val_four]
  show _ = _
  simp

/-- The third row of the modulations, spread over the block's rows. -/
theorem gate_apply (x : Vec Ideal S1x1x8x1024 .f32) (h h') (r : Fin 256) (n : Fin 1024) :
    broadcastTo S256x1024 (extractStridedSlice S1x1024 ![2, 0] (k0_pay4 x) h') h (ix2 r n) = x (ix4 0 0 2 n) := by
  refine (broadcastTo_apply _ h (ix2 r n) (ix2 0 n) fun a => match a with | ⟨0, _⟩ => rfl | ⟨1, _⟩ => rfl).trans ?_
  refine (extractStridedSlice_apply _ _ h' (ix2 0 n) (ix2 2 n) fun a =>
    match a with | ⟨0, _⟩ => rfl | ⟨1, _⟩ => (Nat.zero_add _).symm).trans ?_
  exact mods_apply x 2 n

/-- The row of the blocks' row `r`, as mathematics. -/
abbrev rowOn (i : grid0.Coords) (x2 x3 x4 : Vec Ideal S1x256x1024 .bf16) (x5 : Vec Ideal S1x256x2048 .bf16)
    (x6 x7 x8 : Vec Ideal S1x256x1024 .bf16) (x9 : Vec Ideal S1x256x1024 .f32) (x10 : Vec Ideal S1x1x8x1024 .f32)
    (x12 : Vec Ideal S1x2048 .f32) (x13 x14 : Vec Ideal S1024x1024 .bf16) (x15 : Vec Ideal S2048x1024 .bf16)
    (x16 : Vec Ideal S1024x1024 .bf16) (r : Fin 256) (n : Fin 1024) : EReal :=
  rowAt { ga := fun k => x2 (ix3 0 r k), fm := fun k => if (i 1).val < 1 then x3 (ix3 0 r k) else x4 (ix3 0 r k),
          yz := fun k => x5 (ix3 0 r k), sg := fun k => x12 (ix2 0 k), pa := fun k => x6 (ix3 0 r k),
          pb := fun k => x7 (ix3 0 r k), pc := fun k => x8 (ix3 0 r k), wa := fun k n => x13 (ix2 k n),
          wb := fun k n => x14 (ix2 k n), wc := fun k n => x15 (ix2 k n) }
    (x9 (ix3 0 r n)) (x10 (ix4 0 0 2 n)) (fun k n => x16 (ix2 k n)) n

theorem sum_apply (i : grid0.Coords) (x2 x3 x4 : Vec Ideal S1x256x1024 .bf16) (x5 : Vec Ideal S1x256x2048 .bf16)
    (x6 x7 x8 : Vec Ideal S1x256x1024 .bf16) (x9 : Vec Ideal S1x256x1024 .f32) (x10 : Vec Ideal S1x1x8x1024 .f32)
    (x12 : Vec Ideal S1x2048 .f32) (x13 x14 : Vec Ideal S1024x1024 .bf16) (x15 : Vec Ideal S2048x1024 .bf16)
    (x16 : Vec Ideal S1024x1024 .bf16) (r : Fin 256) (n : Fin 1024) :
    k0_pay13 (k0_pay4 x10) (k0_pay10 (k0_pay7 x5) x12 (k0_pay8 x5) k0_pay9 x15)
        (k0_pay11 (k0_pay5 x2 x13) (k0_pay6 i x3 x4 x14) x6 x7) (k0_pay12 x8) x9 x16 (ix2 r n)
      = rowOn i x2 x3 x4 x5 x6 x7 x8 x9 x10 x12 x13 x14 x15 x16 r n := by
  show shapeCast S256x1024 x9 _ (ix2 r n) + broadcastTo S256x1024 _ _ (ix2 r n)
    * matmul (F := Ideal) (φ₁ := .bf16) (φ₂ := .bf16) dot_S256x1024_S1024x1024_S256x1024_1_0_0_1_n_n none _ x16 (constant S256x1024 .f32 0x00000000#32) (ix2 r n) = _
  rw [flat_apply, gate_apply, prod_apply]
  unfold rowOn rowAt
  refine congrArg (fun s : EReal => x9 (ix3 0 r n) + x10 (ix4 0 0 2 n) * s) (Finset.sum_congr rfl fun k _ => congrArg (· * x16 (ix2 k n)) ?_)
  show k0_pay11 _ _ x6 x7 (ix2 r k) + Ideal.div one (one + k0_pay12 x8 (ix2 r k)) * k0_pay10 _ _ _ _ x15 (ix2 r k) = _
  rw [gates_apply, last_apply, first_apply, second_apply, third_apply]
  rfl

theorem rowOf_apply (i : grid0.Coords) (x2 x3 x4 : Vec Ideal S1x256x1024 .bf16) (x5 : Vec Ideal S1x256x2048 .bf16)
    (x6 x7 x8 : Vec Ideal S1x256x1024 .bf16) (x9 : Vec Ideal S1x256x1024 .f32) (x10 : Vec Ideal S1x1x8x1024 .f32)
    (x12 : Vec Ideal S1x2048 .f32) (x13 x14 : Vec Ideal S1024x1024 .bf16) (x15 : Vec Ideal S2048x1024 .bf16)
    (x16 : Vec Ideal S1024x1024 .bf16) (r : Fin 256) (n : Fin 1024) :
    rowOf i x2 x3 x4 x5 x6 x7 x8 x9 x10 x12 x13 x14 x15 x16 (ix3 0 r n)
      = rowOn i x2 x3 x4 x5 x6 x7 x8 x9 x10 x12 x13 x14 x15 x16 r n := by
  unfold rowOf k0_pay14
  refine (shapeCast_apply _ _ (ix3 0 r n) (ix2 r n) ?_).trans (sum_apply i x2 x3 x4 x5 x6 x7 x8 x9 x10 x12 x13 x14 x15 x16 r n)
  rw [Shape.rowMajor_val_two, Shape.rowMajor_val_three]
  show _ = _
  simp

/-! ## The row modulated -/

/-- One row of the modulations. -/
theorem line_apply (x : Vec Ideal S1x1x8x1024 .f32) (s : Fin 8) (h) (n : Fin 1024) :
    extractStridedSlice S1x1024 ![s.val, 0] (k0_pay4 x) h (ix2 0 n) = x (ix4 0 0 s n) :=
  (extractStridedSlice_apply _ _ h (ix2 0 n) (ix2 s n) fun a =>
    match a with | ⟨0, _⟩ => rfl | ⟨1, _⟩ => (Nat.zero_add _).symm).trans (mods_apply x s n)

/-- A row spread over the block's rows, and a column over its lanes. -/
theorem over_apply (x : FVec Ideal S1x1024 .f32) (h) (r : Fin 256) (n : Fin 1024) : broadcastTo S256x1024 x h (ix2 r n) = x (ix2 0 n) :=
  broadcastTo_apply x h (ix2 r n) (ix2 0 n) fun a => match a with | ⟨0, _⟩ => rfl | ⟨1, _⟩ => rfl
theorem across_apply (x : FVec Ideal S256x1 .f32) (h) (r : Fin 256) (n : Fin 1024) : broadcastTo S256x1024 x h (ix2 r n) = x (ix2 r 0) :=
  broadcastTo_apply x h (ix2 r n) (ix2 r 0) fun a => match a with | ⟨0, _⟩ => rfl | ⟨1, _⟩ => rfl

/-- A row's sum of squares. -/
abbrev squares (y : FVec Ideal S256x1024 .f32) : FVec Ideal S256x1 .f32 :=
  shapeCast S256x1 (multiReduction .add [1] S256 (mulf y y) 0x00000000#32 reduces_S256x1024_S256 (.inl rfl) rfl) shapeCasts_S256_S256x1
theorem squares_apply (y : FVec Ideal S256x1024 .f32) (r : Fin 256) : squares y (ix2 r 0) = ∑ k : Fin 1024, y (ix2 r k) * y (ix2 r k) := by
  refine (shapeCast_apply _ _ (ix2 r 0) (ix1 r) ?_).trans ?_
  · rw [Shape.rowMajor_val_two, Shape.rowMajor_val_one]
    show _ = _
    simp
  refine (Ideal.multiReduction_add_single _ _ _ _ _ (ix1 r)).trans ?_
  refine Finset.sum_congr rfl fun k _ => ?_
  rw [show Shape.Reduces.lift _ (ix1 r) k = (ix2 r k : S256x1024.Idx) from funext fun a => match a with | ⟨0, _⟩ => rfl | ⟨1, _⟩ => rfl]
  rfl

theorem modulated_apply (v6 : Vec Ideal S1x1x8x1024 .f32) (v37 v60 v66 : FVec Ideal S256x1024 .f32) (v73 : Vec Ideal S1x256x1024 .f32)
    (v76 : Vec Ideal S1024x1024 .bf16) (v85 : Vec Ideal S1x1024 .f32) (r : Fin 256) (n : Fin 1024) :
    k0_pay15 (k0_pay4 v6) v37 v60 v66 v73 v76 v85 (ix2 r n)
      = modulated (fun k => k0_pay13 (k0_pay4 v6) v37 v60 v66 v73 v76 (ix2 r k)) (fun k => v85 (ix2 0 k))
          (fun k => v6 (ix4 0 0 3 k)) (fun k => v6 (ix4 0 0 4 k)) n := by
  unfold k0_pay15
  generalize k0_pay13 (k0_pay4 v6) v37 v60 v66 v73 v76 = y
  show y (ix2 r n) * broadcastTo S256x1024 _ _ (ix2 r n) * broadcastTo S256x1024 v85 _ (ix2 r n) * broadcastTo S256x1024 _ _ (ix2 r n)
    + broadcastTo S256x1024 _ _ (ix2 r n) = _
  rw [across_apply, over_apply, over_apply, over_apply]
  show y (ix2 r n) * Ideal.rsqrt (Ideal.div (squares y (ix2 r 0)) width + eps) * v85 (ix2 0 n)
    * (one + extractStridedSlice S1x1024 ![(4 : Fin 8).val, 0] (k0_pay4 v6) _ (ix2 0 n))
    + extractStridedSlice S1x1024 ![(3 : Fin 8).val, 0] (k0_pay4 v6) _ (ix2 0 n) = _
  rw [squares_apply, line_apply, line_apply]
  rfl

/-! ## Its tiles -/

/-- Lanes `128 s` on of a block. -/
abbrev cut (s : ℕ) (h : S256x1024.Slices ![0, 128 * s] S256x128) (v : FVec Ideal S256x1024 .f32) : FVec Ideal S256x128 .f32 :=
  extractStridedSlice S256x128 ![0, 128 * s] v h

/-- What the tiles hold: row `8 i + s` is lanes `128 s` on of row `i`. -/
def laid (v : FVec Ideal S256x1024 .f32) : Vec Ideal S2048x128 .f32 := fun y =>
  v (ix2 ⟨(y 0).val / 8, by have : (y 0).val < 2048 := (y 0).isLt; omega⟩
    ⟨(y 0).val % 8 * 128 + (y 1).val, by have : (y 1).val < 128 := (y 1).isLt; omega⟩)

theorem piece (v : FVec Ideal S256x1024 .f32) (s : Fin 8) (h) (j : S256x128.Idx) : cut s.val h v j = laid v ((lanes s).emb j) := by
  obtain ⟨i, l, rfl⟩ : ∃ (i : Fin 256) (l : Fin 128), j = ix2 i l :=
    ⟨j 0, j 1, by funext a; match a with | ⟨0, _⟩ => rfl | ⟨1, _⟩ => rfl⟩
  have hs := s.isLt
  have h0 := i.isLt
  have h1 := l.isLt
  refine extractStridedSlice_apply _ v h _ _ fun a => ?_
  match a with
  | ⟨0, _⟩ => show (s.val + 8 * i.val) / 8 = 0 + i.val; omega
  | ⟨1, _⟩ => show (s.val + 8 * i.val) % 8 * 128 + (0 + 1 * l.val) = 128 * s.val + l.val; omega

theorem tiles_laid (v : FVec Ideal S256x1024 .f32) (y : S2048x128.Idx) :
    View.canon (tiles v (cut 0 slices_S256x1024_o0_0_S256x128 v)) y = laid v y := by
  refine View.canon_apply_of_pieces (laid v) _ ?_ y (tiles_cover _ _ y)
  unfold tiles
  refine List.forall_mem_cons.mpr ⟨fun j => piece v 7 slices_S256x1024_o0_896_S256x128 j, ?_⟩
  refine List.forall_mem_cons.mpr ⟨fun j => piece v 6 slices_S256x1024_o0_768_S256x128 j, ?_⟩
  refine List.forall_mem_cons.mpr ⟨fun j => piece v 5 slices_S256x1024_o0_640_S256x128 j, ?_⟩
  refine List.forall_mem_cons.mpr ⟨fun j => piece v 4 slices_S256x1024_o0_512_S256x128 j, ?_⟩
  refine List.forall_mem_cons.mpr ⟨fun j => piece v 3 slices_S256x1024_o0_384_S256x128 j, ?_⟩
  refine List.forall_mem_cons.mpr ⟨fun j => piece v 2 slices_S256x1024_o0_256_S256x128 j, ?_⟩
  refine List.forall_mem_cons.mpr ⟨fun j => piece v 1 slices_S256x1024_o0_128_S256x128 j, ?_⟩
  refine List.forall_mem_cons.mpr ⟨fun j => piece v 0 slices_S256x1024_o0_0_S256x128 j, ?_⟩
  exact fun p hp => absurd hp List.not_mem_nil

theorem tilesOf_apply (i : grid0.Coords) (x2 x3 x4 : Vec Ideal S1x256x1024 .bf16) (x5 : Vec Ideal S1x256x2048 .bf16)
    (x6 x7 x8 : Vec Ideal S1x256x1024 .bf16) (x9 : Vec Ideal S1x256x1024 .f32) (x10 : Vec Ideal S1x1x8x1024 .f32)
    (x11 : Vec Ideal S1x1024 .f32) (x12 : Vec Ideal S1x2048 .f32) (x13 x14 : Vec Ideal S1024x1024 .bf16)
    (x15 : Vec Ideal S2048x1024 .bf16) (x16 : Vec Ideal S1024x1024 .bf16) (y : S2048x128.Idx) (r : Fin 256) (n : Fin 1024)
    (hr : (y 0).val / 8 = r.val) (hn : (y 0).val % 8 * 128 + (y 1).val = n.val) :
    tilesOf i x2 x3 x4 x5 x6 x7 x8 x9 x10 x11 x12 x13 x14 x15 x16 y
      = modulated (fun k => rowOn i x2 x3 x4 x5 x6 x7 x8 x9 x10 x12 x13 x14 x15 x16 r k) (fun k => x11 (ix2 0 k))
          (fun k => x10 (ix4 0 0 3 k)) (fun k => x10 (ix4 0 0 4 k)) n := by
  unfold tilesOf
  refine (tiles_laid _ y).trans ?_
  unfold laid
  rw [show (⟨(y 0).val / 8, _⟩ : Fin 256) = r from Fin.ext hr, show (⟨(y 0).val % 8 * 128 + (y 1).val, _⟩ : Fin 1024) = n from Fin.ext hn]
  refine (modulated_apply x10 _ _ _ x9 x16 x11 r n).trans ?_
  exact congrArg (fun f => modulated f (fun k => x11 (ix2 0 k)) (fun k => x10 (ix4 0 0 3 k)) (fun k => x10 (ix4 0 0 4 k)) n)
    (funext fun k => sum_apply i x2 x3 x4 x5 x6 x7 x8 x9 x10 x12 x13 x14 x15 x16 r k)

end Cert.Kernel3Ideal.Merge

end
-- ==== Proof.MergeIValue.lean ====
/-
  The merge over the extended reals: the array that the call leaves first is the merged rows of the arrays it is given.
-/
module

public import proofs.«01_k».proof.Proof.MergeIPay

@[expose] public section

set_option maxRecDepth 16384

noncomputable section

namespace Cert.Kernel3Ideal.Merge

open Idealize.ShloMosaic Idealize.ShloMosaic.TcCoe Idealize.ShloMosaic.Tactic Idealize.ShloMosaic.ValueIdx
open Idealize.ShloMosaic.Pipeline
open Cert.Kernel3Ideal.Gen Cert.MergeMath
open scoped BigOperators

variable (m : (ℓ : Loc nD τ sig) → Buf (Elt Ideal) ℓ) (ρ : Dev nD → PrngReg)

/-! ## The blocks in their arrays -/

/-- Which block of the second branch's latent rows point `t` reads. -/
abbrev half (t : ℕ) : ℕ := if t % 9 < 5 then 2 * (t % 9 - 1) else 2 * (8 - t % 9) + 1
theorem at0 (t : Fin 72) (b : Fin 3) : cc0_transform_0 (grid0.coords t) b = (![t.val / 9, t.val % 9, 0] : Fin 3 → ℕ) b :=
  (by decide +kernel : ∀ (t : Fin grid0.N) (b : Fin 3), cc0_transform_0 (grid0.coords t) b = (![t.val / 9, t.val % 9, 0] : Fin 3 → ℕ) b) t b
theorem at1 (t : Fin 72) (b : Fin 3) : cc0_transform_1 (grid0.coords t) b = (![t.val / 9, 0, 0] : Fin 3 → ℕ) b :=
  (by decide +kernel : ∀ (t : Fin grid0.N) (b : Fin 3), cc0_transform_1 (grid0.coords t) b = (![t.val / 9, 0, 0] : Fin 3 → ℕ) b) t b
theorem at2 (t : Fin 72) (b : Fin 3) : cc0_transform_2 (grid0.coords t) b = (![t.val / 9, half t.val, 0] : Fin 3 → ℕ) b :=
  (by decide +kernel : ∀ (t : Fin grid0.N) (b : Fin 3), cc0_transform_2 (grid0.coords t) b = (![t.val / 9, half t.val, 0] : Fin 3 → ℕ) b) t b
theorem at3 (t : Fin 72) (b : Fin 3) : cc0_transform_3 (grid0.coords t) b = (![t.val / 9, t.val % 9, 0] : Fin 3 → ℕ) b :=
  (by decide +kernel : ∀ (t : Fin grid0.N) (b : Fin 3), cc0_transform_3 (grid0.coords t) b = (![t.val / 9, t.val % 9, 0] : Fin 3 → ℕ) b) t b
theorem at4 (t : Fin 72) (b : Fin 3) : cc0_transform_4 (grid0.coords t) b = (![t.val / 9, t.val % 9, 9] : Fin 3 → ℕ) b :=
  (by decide +kernel : ∀ (t : Fin grid0.N) (b : Fin 3), cc0_transform_4 (grid0.coords t) b = (![t.val / 9, t.val % 9, 9] : Fin 3 → ℕ) b) t b
theorem at5 (t : Fin 72) (b : Fin 3) : cc0_transform_5 (grid0.coords t) b = (![t.val / 9, t.val % 9, 10] : Fin 3 → ℕ) b :=
  (by decide +kernel : ∀ (t : Fin grid0.N) (b : Fin 3), cc0_transform_5 (grid0.coords t) b = (![t.val / 9, t.val % 9, 10] : Fin 3 → ℕ) b) t b
theorem at6 (t : Fin 72) (b : Fin 3) : cc0_transform_6 (grid0.coords t) b = (![t.val / 9, t.val % 9, 11] : Fin 3 → ℕ) b :=
  (by decide +kernel : ∀ (t : Fin grid0.N) (b : Fin 3), cc0_transform_6 (grid0.coords t) b = (![t.val / 9, t.val % 9, 11] : Fin 3 → ℕ) b) t b
theorem at7 (t : Fin 72) (b : Fin 3) : cc0_transform_7 (grid0.coords t) b = (![t.val / 9, t.val % 9, 0] : Fin 3 → ℕ) b :=
  (by decide +kernel : ∀ (t : Fin grid0.N) (b : Fin 3), cc0_transform_7 (grid0.coords t) b = (![t.val / 9, t.val % 9, 0] : Fin 3 → ℕ) b) t b
theorem at8 (t : Fin 72) (b : Fin 4) : cc0_transform_8 (grid0.coords t) b = (![t.val / 9, if t.val % 9 < 1 then 0 else 1, 0, 0] : Fin 4 → ℕ) b :=
  (by decide +kernel : ∀ (t : Fin grid0.N) (b : Fin 4), cc0_transform_8 (grid0.coords t) b = (![t.val / 9, if t.val % 9 < 1 then 0 else 1, 0, 0] : Fin 4 → ℕ) b) t b
theorem at9 (t : Fin 72) (b : Fin 2) : cc0_transform_9 (grid0.coords t) b = (![0, 0] : Fin 2 → ℕ) b :=
  (by decide +kernel : ∀ (t : Fin grid0.N) (b : Fin 2), cc0_transform_9 (grid0.coords t) b = (![0, 0] : Fin 2 → ℕ) b) t b
theorem at10 (t : Fin 72) (b : Fin 2) : cc0_transform_10 (grid0.coords t) b = (![0, 0] : Fin 2 → ℕ) b :=
  (by decide +kernel : ∀ (t : Fin grid0.N) (b : Fin 2), cc0_transform_10 (grid0.coords t) b = (![0, 0] : Fin 2 → ℕ) b) t b
theorem at11 (t : Fin 72) (b : Fin 2) : cc0_transform_11 (grid0.coords t) b = (![0, 0] : Fin 2 → ℕ) b :=
  (by decide +kernel : ∀ (t : Fin grid0.N) (b : Fin 2), cc0_transform_11 (grid0.coords t) b = (![0, 0] : Fin 2 → ℕ) b) t b
theorem at12 (t : Fin 72) (b : Fin 2) : cc0_transform_12 (grid0.coords t) b = (![0, 0] : Fin 2 → ℕ) b :=
  (by decide +kernel : ∀ (t : Fin grid0.N) (b : Fin 2), cc0_transform_12 (grid0.coords t) b = (![0, 0] : Fin 2 → ℕ) b) t b
theorem at13 (t : Fin 72) (b : Fin 2) : cc0_transform_13 (grid0.coords t) b = (![0, 0] : Fin 2 → ℕ) b :=
  (by decide +kernel : ∀ (t : Fin grid0.N) (b : Fin 2), cc0_transform_13 (grid0.coords t) b = (![0, 0] : Fin 2 → ℕ) b) t b
theorem at14 (t : Fin 72) (b : Fin 2) : cc0_transform_14 (grid0.coords t) b = (![0, 0] : Fin 2 → ℕ) b :=
  (by decide +kernel : ∀ (t : Fin grid0.N) (b : Fin 2), cc0_transform_14 (grid0.coords t) b = (![0, 0] : Fin 2 → ℕ) b) t b
theorem at17 (t : Fin 72) (b : Fin 3) : cc0_transform_17 (grid0.coords t) b = (![t.val / 9, t.val % 9, 0] : Fin 3 → ℕ) b :=
  (by decide +kernel : ∀ (t : Fin grid0.N) (b : Fin 3), cc0_transform_17 (grid0.coords t) b = (![t.val / 9, t.val % 9, 0] : Fin 3 → ℕ) b) t b
theorem at18 (t : Fin 72) (b : Fin 2) : cc0_transform_18 (grid0.coords t) b = (![t.val, 0] : Fin 2 → ℕ) b :=
  (by decide +kernel : ∀ (t : Fin grid0.N) (b : Fin 2), cc0_transform_18 (grid0.coords t) b = (![t.val, 0] : Fin 2 → ℕ) b) t b
theorem step (t : Fin 72) : ((grid0.coords t) 1).val = t.val % 9 :=
  (by decide +kernel : ∀ t : Fin grid0.N, ((grid0.coords t) 1).val = t.val % 9) t

theorem emb0 (t : Fin grid0.N) (y : S1x256x1024.Idx) (b : Fin 3) :
    (((cfg0.win 0).blk t).view.emb y b : ℕ) = cc0_transform_0 (grid0.coords t) b * S1x256x1024.size b + 1 * (y b : ℕ) := rfl
theorem emb1 (t : Fin grid0.N) (y : S1x256x1024.Idx) (b : Fin 3) :
    (((cfg0.win 1).blk t).view.emb y b : ℕ) = cc0_transform_1 (grid0.coords t) b * S1x256x1024.size b + 1 * (y b : ℕ) := rfl
theorem emb2 (t : Fin grid0.N) (y : S1x256x1024.Idx) (b : Fin 3) :
    (((cfg0.win 2).blk t).view.emb y b : ℕ) = cc0_transform_2 (grid0.coords t) b * S1x256x1024.size b + 1 * (y b : ℕ) := rfl
theorem emb3 (t : Fin grid0.N) (y : S1x256x2048.Idx) (b : Fin 3) :
    (((cfg0.win 3).blk t).view.emb y b : ℕ) = cc0_transform_3 (grid0.coords t) b * S1x256x2048.size b + 1 * (y b : ℕ) := rfl
theorem emb4 (t : Fin grid0.N) (y : S1x256x1024.Idx) (b : Fin 3) :
    (((cfg0.win 4).blk t).view.emb y b : ℕ) = cc0_transform_4 (grid0.coords t) b * S1x256x1024.size b + 1 * (y b : ℕ) := rfl
theorem emb5 (t : Fin grid0.N) (y : S1x256x1024.Idx) (b : Fin 3) :
    (((cfg0.win 5).blk t).view.emb y b : ℕ) = cc0_transform_5 (grid0.coords t) b * S1x256x1024.size b + 1 * (y b : ℕ) := rfl
theorem emb6 (t : Fin grid0.N) (y : S1x256x1024.Idx) (b : Fin 3) :
    (((cfg0.win 6).blk t).view.emb y b : ℕ) = cc0_transform_6 (grid0.coords t) b * S1x256x1024.size b + 1 * (y b : ℕ) := rfl
theorem emb7 (t : Fin grid0.N) (y : S1x256x1024.Idx) (b : Fin 3) :
    (((cfg0.win 7).blk t).view.emb y b : ℕ) = cc0_transform_7 (grid0.coords t) b * S1x256x1024.size b + 1 * (y b : ℕ) := rfl
theorem emb8 (t : Fin grid0.N) (y : S1x1x8x1024.Idx) (b : Fin 4) :
    (((cfg0.win 8).blk t).view.emb y b : ℕ) = cc0_transform_8 (grid0.coords t) b * S1x1x8x1024.size b + 1 * (y b : ℕ) := rfl
theorem emb9 (t : Fin grid0.N) (y : S1x1024.Idx) (b : Fin 2) :
    (((cfg0.win 9).blk t).view.emb y b : ℕ) = cc0_transform_9 (grid0.coords t) b * S1x1024.size b + 1 * (y b : ℕ) := rfl
theorem emb10 (t : Fin grid0.N) (y : S1x2048.Idx) (b : Fin 2) :
    (((cfg0.win 10).blk t).view.emb y b : ℕ) = cc0_transform_10 (grid0.coords t) b * S1x2048.size b + 1 * (y b : ℕ) := rfl
theorem emb11 (t : Fin grid0.N) (y : S1024x1024.Idx) (b : Fin 2) :
    (((cfg0.win 11).blk t).view.emb y b : ℕ) = cc0_transform_11 (grid0.coords t) b * S1024x1024.size b + 1 * (y b : ℕ) := rfl
theorem emb12 (t : Fin grid0.N) (y : S1024x1024.Idx) (b : Fin 2) :
    (((cfg0.win 12).blk t).view.emb y b : ℕ) = cc0_transform_12 (grid0.coords t) b * S1024x1024.size b + 1 * (y b : ℕ) := rfl
theorem emb13 (t : Fin grid0.N) (y : S2048x1024.Idx) (b : Fin 2) :
    (((cfg0.win 13).blk t).view.emb y b : ℕ) = cc0_transform_13 (grid0.coords t) b * S2048x1024.size b + 1 * (y b : ℕ) := rfl
theorem emb14 (t : Fin grid0.N) (y : S1024x1024.Idx) (b : Fin 2) :
    (((cfg0.win 14).blk t).view.emb y b : ℕ) = cc0_transform_14 (grid0.coords t) b * S1024x1024.size b + 1 * (y b : ℕ) := rfl
theorem emb17 (t : Fin grid0.N) (y : S1x256x1024.Idx) (b : Fin 3) :
    (((cfg0.win 17).blk t).view.emb y b : ℕ) = cc0_transform_17 (grid0.coords t) b * S1x256x1024.size b + 1 * (y b : ℕ) := rfl
theorem emb18 (t : Fin grid0.N) (y : S2048x128.Idx) (b : Fin 2) :
    (((cfg0.win 18).blk t).view.emb y b : ℕ) = cc0_transform_18 (grid0.coords t) b * S2048x128.size b + 1 * (y b : ℕ) := rfl

/-! ## The arguments, and the blocks read from them -/

/-- The arrays that the call is given. -/
abbrev given : Arrays where
  ga := m (((0 : Dev nD) : Thread nD τ).loc main_arg0)
  fmc := m (((0 : Dev nD) : Thread nD τ).loc main_arg1)
  fml := m (((0 : Dev nD) : Thread nD τ).loc main_arg2)
  yz := m (((0 : Dev nD) : Thread nD τ).loc main_arg3)
  p := m (((0 : Dev nD) : Thread nD τ).loc main_arg4)
  x := m (((0 : Dev nD) : Thread nD τ).loc main_arg5)
  mods := m (((0 : Dev nD) : Thread nD τ).loc main_arg6)
  ng := m (((0 : Dev nD) : Thread nD τ).loc main_arg7)
  sg := m (((0 : Dev nD) : Thread nD τ).loc main_arg8)
  wa := m (((0 : Dev nD) : Thread nD τ).loc main_arg9)
  wb := m (((0 : Dev nD) : Thread nD τ).loc main_arg10)
  wc := m (((0 : Dev nD) : Thread nD τ).loc main_arg11)
  wo := m (((0 : Dev nD) : Thread nD τ).loc main_arg12)

/-- The row of the batch, and the position, of row `r` of point `t`'s blocks. -/
abbrev batch (t : Fin 72) : Fin 8 := ⟨t.val / 9, by have := t.isLt; omega⟩
abbrev pos (t : Fin 72) (r : Fin 256) : Fin 2304 := ⟨t.val % 9 * 256 + r.val, by have := r.isLt; omega⟩

theorem read0 (t : Fin 72) (r : Fin 256) (k : Fin 1024) :
    (iblk m 0 0 t : S1x256x1024.Idx → EReal) (ix3 0 r k) = (given m).ga (ix3 (batch t) (pos t r) k) := by
  refine congrArg (given m).ga (funext fun a => Fin.ext ?_)
  refine (emb0 t _ a).trans ?_
  rw [at0]
  match a with
  | ⟨0, _⟩ => show t.val / 9 * 1 + 1 * 0 = t.val / 9; omega
  | ⟨1, _⟩ => show t.val % 9 * 256 + 1 * r.val = t.val % 9 * 256 + r.val; omega
  | ⟨2, _⟩ => show 0 * 1024 + 1 * k.val = k.val; omega

theorem read1 (t : Fin 72) (r : Fin 256) (k : Fin 1024) :
    (iblk m 0 1 t : S1x256x1024.Idx → EReal) (ix3 0 r k) = (given m).fmc (ix3 (batch t) r k) := by
  refine congrArg (given m).fmc (funext fun a => Fin.ext ?_)
  refine (emb1 t _ a).trans ?_
  rw [at1]
  match a with
  | ⟨0, _⟩ => show t.val / 9 * 1 + 1 * 0 = t.val / 9; omega
  | ⟨1, _⟩ => show 0 * 256 + 1 * r.val = r.val; omega
  | ⟨2, _⟩ => show 0 * 1024 + 1 * k.val = k.val; omega

theorem read2 (t : Fin 72) (h : ¬ t.val % 9 < 1) (r : Fin 256) (k : Fin 1024) :
    (iblk m 0 2 t : S1x256x1024.Idx → EReal) (ix3 0 r k) = (given m).fml (ix3 (batch t) (latent (pos t r)) k) := by
  refine congrArg (given m).fml (funext fun a => Fin.ext ?_)
  refine (emb2 t _ a).trans ?_
  rw [at2]
  match a with
  | ⟨0, _⟩ => show t.val / 9 * 1 + 1 * 0 = t.val / 9; omega
  | ⟨1, _⟩ =>
    have hr := r.isLt
    show half t.val * 256 + 1 * r.val = if t.val % 9 * 256 + r.val < 1280 then ((t.val % 9 * 256 + r.val) / 256 - 1) * 512 + (t.val % 9 * 256 + r.val) % 256
      else (8 - (t.val % 9 * 256 + r.val) / 256) * 512 + 256 + (t.val % 9 * 256 + r.val) % 256
    have hq : (t.val % 9 * 256 + r.val) / 256 = t.val % 9 := by omega
    have hm : (t.val % 9 * 256 + r.val) % 256 = r.val := by omega
    rw [hq, hm]
    unfold half
    split <;> split <;> omega
  | ⟨2, _⟩ => show 0 * 1024 + 1 * k.val = k.val; omega

theorem read3 (t : Fin 72) (r : Fin 256) (k : Fin 2048) :
    (iblk m 0 3 t : S1x256x2048.Idx → EReal) (ix3 0 r k) = (given m).yz (ix3 (batch t) (pos t r) k) := by
  refine congrArg (given m).yz (funext fun a => Fin.ext ?_)
  refine (emb3 t _ a).trans ?_
  rw [at3]
  match a with
  | ⟨0, _⟩ => show t.val / 9 * 1 + 1 * 0 = t.val / 9; omega
  | ⟨1, _⟩ => show t.val % 9 * 256 + 1 * r.val = t.val % 9 * 256 + r.val; omega
  | ⟨2, _⟩ => show 0 * 2048 + 1 * k.val = k.val; omega
theorem read4 (t : Fin 72) (r : Fin 256) (k : Fin 1024) :
    (iblk m 0 4 t : S1x256x1024.Idx → EReal) (ix3 0 r k) = pAt (given m) 9216 (by decide) (batch t) (pos t r) k := by
  refine congrArg (given m).p (funext fun a => Fin.ext ?_)
  refine (emb4 t _ a).trans ?_
  rw [at4]
  match a with
  | ⟨0, _⟩ => show t.val / 9 * 1 + 1 * 0 = t.val / 9; omega
  | ⟨1, _⟩ => show t.val % 9 * 256 + 1 * r.val = t.val % 9 * 256 + r.val; omega
  | ⟨2, _⟩ => show 9 * 1024 + 1 * k.val = 9216 + k.val; omega

theorem read5 (t : Fin 72) (r : Fin 256) (k : Fin 1024) :
    (iblk m 0 5 t : S1x256x1024.Idx → EReal) (ix3 0 r k) = pAt (given m) 10240 (by decide) (batch t) (pos t r) k := by
  refine congrArg (given m).p (funext fun a => Fin.ext ?_)
  refine (emb5 t _ a).trans ?_
  rw [at5]
  match a with
  | ⟨0, _⟩ => show t.val / 9 * 1 + 1 * 0 = t.val / 9; omega
  | ⟨1, _⟩ => show t.val % 9 * 256 + 1 * r.val = t.val % 9 * 256 + r.val; omega
  | ⟨2, _⟩ => show 10 * 1024 + 1 * k.val = 10240 + k.val; omega

theorem read6 (t : Fin 72) (r : Fin 256) (k : Fin 1024) :
    (iblk m 0 6 t : S1x256x1024.Idx → EReal) (ix3 0 r k) = pAt (given m) 11264 (by decide) (batch t) (pos t r) k := by
  refine congrArg (given m).p (funext fun a => Fin.ext ?_)
  refine (emb6 t _ a).trans ?_
  rw [at6]
  match a with
  | ⟨0, _⟩ => show t.val / 9 * 1 + 1 * 0 = t.val / 9; omega
  | ⟨1, _⟩ => show t.val % 9 * 256 + 1 * r.val = t.val % 9 * 256 + r.val; omega
  | ⟨2, _⟩ => show 11 * 1024 + 1 * k.val = 11264 + k.val; omega

theorem read7 (t : Fin 72) (r : Fin 256) (k : Fin 1024) :
    (iblk m 0 7 t : S1x256x1024.Idx → EReal) (ix3 0 r k) = (given m).x (ix3 (batch t) (pos t r) k) := by
  refine congrArg (given m).x (funext fun a => Fin.ext ?_)
  refine (emb7 t _ a).trans ?_
  rw [at7]
  match a with
  | ⟨0, _⟩ => show t.val / 9 * 1 + 1 * 0 = t.val / 9; omega
  | ⟨1, _⟩ => show t.val % 9 * 256 + 1 * r.val = t.val % 9 * 256 + r.val; omega
  | ⟨2, _⟩ => show 0 * 1024 + 1 * k.val = k.val; omega

theorem read8 (t : Fin 72) (r : Fin 256) (s : Fin 8) (k : Fin 1024) :
    (iblk m 0 8 t : S1x1x8x1024.Idx → EReal) (ix4 0 0 s k) = (given m).mods (ix4 (batch t) (kind (pos t r)) s k) := by
  refine congrArg (given m).mods (funext fun a => Fin.ext ?_)
  refine (emb8 t _ a).trans ?_
  rw [at8]
  match a with
  | ⟨0, _⟩ => show t.val / 9 * 1 + 1 * 0 = t.val / 9; omega
  | ⟨1, _⟩ =>
    have hr := r.isLt
    show (if t.val % 9 < 1 then 0 else 1) * 1 + 1 * 0 = (if t.val % 9 * 256 + r.val < 256 then (0 : Fin 2) else 1).val
    by_cases h : t.val % 9 < 1
    · rw [if_pos h, if_pos (by omega)]; rfl
    · rw [if_neg h, if_neg (by omega)]; rfl
  | ⟨2, _⟩ => show 0 * 8 + 1 * s.val = s.val; omega
  | ⟨3, _⟩ => show 0 * 1024 + 1 * k.val = k.val; omega

theorem read9 (t : Fin 72) (n : Fin 1024) :
    (iblk m 0 9 t : S1x1024.Idx → EReal) (ix2 0 n) = (given m).ng (ix2 0 n) := by
  refine congrArg (given m).ng (funext fun a => Fin.ext ?_)
  refine (emb9 t _ a).trans ?_
  rw [at9]
  match a with
  | ⟨0, _⟩ => show 0 * 1 + 1 * 0 = 0; omega
  | ⟨1, _⟩ => show 0 * 1024 + 1 * n.val = n.val; omega

theorem read10 (t : Fin 72) (n : Fin 2048) :
    (iblk m 0 10 t : S1x2048.Idx → EReal) (ix2 0 n) = (given m).sg (ix2 0 n) := by
  refine congrArg (given m).sg (funext fun a => Fin.ext ?_)
  refine (emb10 t _ a).trans ?_
  rw [at10]
  match a with
  | ⟨0, _⟩ => show 0 * 1 + 1 * 0 = 0; omega
  | ⟨1, _⟩ => show 0 * 2048 + 1 * n.val = n.val; omega

theorem read11 (t : Fin 72) (k : Fin 1024) (n : Fin 1024) :
    (iblk m 0 11 t : S1024x1024.Idx → EReal) (ix2 k n) = (given m).wa (ix2 k n) := by
  refine congrArg (given m).wa (funext fun a => Fin.ext ?_)
  refine (emb11 t _ a).trans ?_
  rw [at11]
  match a with
  | ⟨0, _⟩ => show 0 * 1024 + 1 * k.val = k.val; omega
  | ⟨1, _⟩ => show 0 * 1024 + 1 * n.val = n.val; omega

theorem read12 (t : Fin 72) (k : Fin 1024) (n : Fin 1024) :
    (iblk m 0 12 t : S1024x1024.Idx → EReal) (ix2 k n) = (given m).wb (ix2 k n) := by
  refine congrArg (given m).wb (funext fun a => Fin.ext ?_)
  refine (emb12 t _ a).trans ?_
  rw [at12]
  match a with
  | ⟨0, _⟩ => show 0 * 1024 + 1 * k.val = k.val; omega
  | ⟨1, _⟩ => show 0 * 1024 + 1 * n.val = n.val; omega

theorem read13 (t : Fin 72) (k : Fin 2048) (n : Fin 1024) :
    (iblk m 0 13 t : S2048x1024.Idx → EReal) (ix2 k n) = (given m).wc (ix2 k n) := by
  refine congrArg (given m).wc (funext fun a => Fin.ext ?_)
  refine (emb13 t _ a).trans ?_
  rw [at13]
  match a with
  | ⟨0, _⟩ => show 0 * 2048 + 1 * k.val = k.val; omega
  | ⟨1, _⟩ => show 0 * 1024 + 1 * n.val = n.val; omega

theorem read14 (t : Fin 72) (k : Fin 1024) (n : Fin 1024) :
    (iblk m 0 14 t : S1024x1024.Idx → EReal) (ix2 k n) = (given m).wo (ix2 k n) := by
  refine congrArg (given m).wo (funext fun a => Fin.ext ?_)
  refine (emb14 t _ a).trans ?_
  rw [at14]
  match a with
  | ⟨0, _⟩ => show 0 * 1024 + 1 * k.val = k.val; omega
  | ⟨1, _⟩ => show 0 * 1024 + 1 * n.val = n.val; omega

/-- The second branch's row, from whichever of its two blocks the point takes. -/
theorem readFm (t : Fin 72) (r : Fin 256) (k : Fin 1024) :
    (if ((grid0.coords t) 1).val < 1 then (iblk m 0 1 t : S1x256x1024.Idx → EReal) (ix3 0 r k)
      else (iblk m 0 2 t : S1x256x1024.Idx → EReal) (ix3 0 r k)) = fmAt (given m) (batch t) (pos t r) k := by
  have hr := r.isLt
  unfold fmAt
  rw [step]
  by_cases h : t.val % 9 < 1
  · rw [if_pos h, if_pos (show (pos t r).val < 256 by show t.val % 9 * 256 + r.val < 256; omega), read1]
    refine congrArg (fun s => (given m).fmc (ix3 (batch t) s k)) (Fin.ext ?_)
    show r.val = (t.val % 9 * 256 + r.val) % 256
    omega
  · rw [if_neg h, if_neg (show ¬ (pos t r).val < 256 by show ¬ t.val % 9 * 256 + r.val < 256; omega), read2 m t h]

/-! ## The row -/

/-- What the first two results' arrays are shown to hold. -/
abbrev mergedAll : S8x2304x1024.Idx → EReal := merged (given m)
abbrev tiledAll : S147456x128.Idx → EReal := tiled (given m)

/-- The row of the blocks that point `t` reads. -/
theorem row_on (t : Fin 72) (r : Fin 256) (n : Fin 1024) :
    rowOn (grid0.coords t) (iblk m 0 0 t) (iblk m 0 1 t) (iblk m 0 2 t) (iblk m 0 3 t) (iblk m 0 4 t) (iblk m 0 5 t) (iblk m 0 6 t)
        (iblk m 0 7 t) (iblk m 0 8 t) (iblk m 0 10 t) (iblk m 0 11 t) (iblk m 0 12 t) (iblk m 0 13 t) (iblk m 0 14 t) r n
      = mergedAll m (ix3 (batch t) (pos t r) n) := by
  show rowAt _ _ _ _ n = rowAt (branches (given m) (batch t) (pos t r)) ((given m).x (ix3 (batch t) (pos t r) n))
    ((given m).mods (ix4 (batch t) (kind (pos t r)) 2 n)) (fun k n => (given m).wo (ix2 k n)) n
  refine congr (congr (congr (congr (congrArg rowAt ?_) (read7 m t r n)) (read8 m t r 2 n)) (funext fun k => funext fun n => read14 m t k n)) rfl
  exact Branches.ext (funext fun k => read0 m t r k) (funext fun k => readFm m t r k) (funext fun k => read3 m t r k)
    (funext fun k => read10 m t k) (funext fun k => read4 m t r k) (funext fun k => read5 m t r k) (funext fun k => read6 m t r k)
    (funext fun k => funext fun n => read11 m t k n) (funext fun k => funext fun n => read12 m t k n)
    (funext fun k => funext fun n => read13 m t k n)

theorem row_eq (t : Fin 72) (r : Fin 256) (n : Fin 1024) :
    (row m 0 t : S1x256x1024.Idx → EReal) (ix3 0 r n) = mergedAll m (ix3 (batch t) (pos t r) n) := by
  unfold row
  exact (rowOf_apply _ _ _ _ _ _ _ _ _ _ _ _ _ _ _ r n).trans (row_on m t r n)

theorem tile_eq (t : Fin 72) (y : S2048x128.Idx) (r : Fin 256) (n : Fin 1024)
    (hr : (y 0).val / 8 = r.val) (hn : (y 0).val % 8 * 128 + (y 1).val = n.val) :
    (tile m 0 t : S2048x128.Idx → EReal) y = modAt (given m) (batch t) (pos t r) n := by
  unfold tile
  refine (tilesOf_apply _ _ _ _ _ _ _ _ _ _ _ _ _ _ _ _ y r n hr hn).trans ?_
  unfold modAt
  exact congr (congr (congr (congr (congrArg modulated (funext fun k => row_on m t r k)) (funext fun k => read9 m t k))
    (funext fun k => read8 m t r 3 k)) (funext fun k => read8 m t r 4 k)) rfl

theorem index_one {R N : ℕ} (y : (⟨3, ![1, R, N]⟩ : Shape).Idx) : y = ix3 0 (y 1) (y 2) := by
  funext a
  match a with
  | ⟨0, _⟩ => exact Subsingleton.elim (α := Fin 1) _ _
  | ⟨1, _⟩ => rfl
  | ⟨2, _⟩ => rfl

theorem flushed17 (t : Fin 72) :
    (data m 0 0).flushed 17 t = ((cfg0.win 17).blk t).view.read (Elt Ideal) (mergedAll m) := by
  show (cfg0.win 17).cut (grid0.coords t) ((data m 0 0).after 17 t) = _
  refine (congrArg ((cfg0.win 17).cut (grid0.coords t)) (leaves17 m 0 t)).trans ?_
  refine funext fun (y : S1x256x1024.Idx) => ?_
  refine (congrArg (row m 0 t) (index_one y)).trans ((row_eq m t (y 1) (y 2)).trans ?_)
  refine congrArg (mergedAll m) (funext fun a => Fin.ext ?_)
  refine Eq.trans ?_ (emb17 t y a).symm
  rw [at17]
  have h0 : (y 0).val = 0 := Nat.lt_one_iff.mp (y 0).isLt
  match a with
  | ⟨0, _⟩ => show t.val / 9 = t.val / 9 * 1 + 1 * (y 0).val; omega
  | ⟨1, _⟩ => show t.val % 9 * 256 + (y 1).val = t.val % 9 * 256 + 1 * (y 1).val; omega
  | ⟨2, _⟩ => show (y 2).val = 0 * 1024 + 1 * (y 2).val; omega

theorem covered17 (i : S8x2304x1024.Idx) :
    ∃ t : Fin cfg0.N, (cfg0.win 17).flush t = true ∧ i ∈ ((cfg0.win 17).blk t).view.set := by
  have h0 : (i 0).val < 8 := (i 0).isLt
  have h1 : (i 1).val < 2304 := (i 1).isLt
  let t : Fin 72 := ⟨(i 0).val * 9 + (i 1).val / 256, by omega⟩
  let y : S1x256x1024.Idx := ix3 0 ⟨(i 1).val % 256, Nat.mod_lt _ (by decide)⟩ (i 2)
  refine ⟨t, flush0_17 t, ?_⟩
  have e : ((cfg0.win 17).blk t).view.emb y = i := by
    refine funext fun a => Fin.ext ?_
    refine (emb17 t y a).trans ?_
    rw [at17]
    match a with
    | ⟨0, _⟩ => show ((i 0).val * 9 + (i 1).val / 256) / 9 * 1 + 1 * 0 = (i 0).val; omega
    | ⟨1, _⟩ => show ((i 0).val * 9 + (i 1).val / 256) % 9 * 256 + 1 * ((i 1).val % 256) = (i 1).val; omega
    | ⟨2, _⟩ => show 0 * 1024 + 1 * (i 2).val = (i 2).val; omega
  exact e ▸ View.emb_mem_set _ y

theorem final17 : (data m 0 0).arrAt 17 cfg0.N = mergedAll m :=
  (data m 0 0).arrAt_eq_of_cover 17 (mergedAll m) (fun t _ => flushed17 m t) covered17

theorem flushed18 (t : Fin 72) :
    (data m 0 0).flushed 18 t = ((cfg0.win 18).blk t).view.read (Elt Ideal) (tiledAll m) := by
  show (cfg0.win 18).cut (grid0.coords t) ((data m 0 0).after 18 t) = _
  refine (congrArg ((cfg0.win 18).cut (grid0.coords t)) (leaves18 m 0 t)).trans ?_
  refine funext fun (y : S2048x128.Idx) => ?_
  have ht := t.isLt
  have h0 : (y 0).val < 2048 := (y 0).isLt
  have h1 : (y 1).val < 128 := (y 1).isLt
  refine (tile_eq m t y ⟨(y 0).val / 8, by omega⟩ ⟨(y 0).val % 8 * 128 + (y 1).val, by omega⟩ rfl rfl).trans ?_
  have e0 : (((cfg0.win 18).blk t).view.emb y 0 : ℕ) = t.val * 2048 + (y 0).val := by
    refine (emb18 t y 0).trans ?_
    rw [at18]
    show t.val * 2048 + 1 * (y 0).val = _
    omega
  have e1 : (((cfg0.win 18).blk t).view.emb y 1 : ℕ) = (y 1).val := by
    refine (emb18 t y 1).trans ?_
    rw [at18]
    show 0 * 128 + 1 * (y 1).val = _
    omega
  show _ = tiled (given m) (((cfg0.win 18).blk t).view.emb y)
  unfold tiled
  refine congr (congr (congrArg (modAt (given m)) (Fin.ext ?_)) (Fin.ext ?_)) (Fin.ext ?_)
  · show t.val / 9 = (((cfg0.win 18).blk t).view.emb y 0 : ℕ) / 18432
    rw [e0]; omega
  · show t.val % 9 * 256 + (y 0).val / 8 = (((cfg0.win 18).blk t).view.emb y 0 : ℕ) / 8 % 2304
    rw [e0]; omega
  · show (y 0).val % 8 * 128 + (y 1).val = (((cfg0.win 18).blk t).view.emb y 0 : ℕ) % 8 * 128 + (((cfg0.win 18).blk t).view.emb y 1 : ℕ)
    rw [e0, e1]; omega

theorem covered18 (i : S147456x128.Idx) :
    ∃ t : Fin cfg0.N, (cfg0.win 18).flush t = true ∧ i ∈ ((cfg0.win 18).blk t).view.set := by
  have h0 : (i 0).val < 147456 := (i 0).isLt
  let t : Fin 72 := ⟨(i 0).val / 2048, by omega⟩
  let y : S2048x128.Idx := ix2 ⟨(i 0).val % 2048, Nat.mod_lt _ (by decide)⟩ (i 1)
  refine ⟨t, flush0_18 t, ?_⟩
  have e : ((cfg0.win 18).blk t).view.emb y = i := by
    refine funext fun a => Fin.ext ?_
    refine (emb18 t y a).trans ?_
    rw [at18]
    match a with
    | ⟨0, _⟩ => show (i 0).val / 2048 * 2048 + 1 * ((i 0).val % 2048) = (i 0).val; omega
    | ⟨1, _⟩ => show 0 * 128 + 1 * (i 1).val = (i 1).val; omega
  exact e ▸ View.emb_mem_set _ y

theorem final18 : (data m 0 0).arrAt 18 cfg0.N = tiledAll m :=
  (data m 0 0).arrAt_eq_of_cover 18 (tiledAll m) (fun t _ => flushed18 m t) covered18

/-- The program's run: the first result holds the merged rows, the second the modulated ones, and the arguments are as
    they were. -/
theorem computes : θ_run defs (onTc (τ := τ) (main (F := Ideal))) ⟨m, fun _ => 0, ρ⟩ (fun r => ∀ c : Dev nD,
      r.2.mem ((c.tc : Thread nD τ).loc main_v0_0) = mergedAll m
      ∧ r.2.mem ((c.tc : Thread nD τ).loc main_v0_1) = tiledAll m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hr c => by
    obtain rfl : c = 0 := Subsingleton.elim _ _
    exact ⟨(((data m 0 0).toRForget_arrAt_iff rfl cfg0.N _).mp ((hr.1 0).1 17)).trans (final17 m),
      (((data m 0 0).toRForget_arrAt_iff rfl cfg0.N _).mp ((hr.1 0).1 18)).trans (final18 m),
      kept m hr.1 0 0 rfl, kept m hr.1 0 1 rfl, kept m hr.1 0 2 rfl, kept m hr.1 0 3 rfl, kept m hr.1 0 4 rfl, kept m hr.1 0 7 rfl, kept m hr.1 0 8 rfl, kept m hr.1 0 9 rfl, kept m hr.1 0 10 rfl, kept m hr.1 0 11 rfl, kept m hr.1 0 12 rfl, kept m hr.1 0 13 rfl, kept m hr.1 0 14 rfl, kept m hr.1 0 15 rfl, kept m hr.1 0 16 rfl⟩) (runs m ρ)

end Cert.Kernel3Ideal.Merge

end
-- ==== Proof.MergeRef.lean ====
/-
  The reference of the merge over the extended reals: its results are the merged rows of the arrays it is given, and
  those rows modulated.
-/
module

public import proofs.«01_k».proof.Proof.Gen.Reference3Ideal.Run
public import proofs.«01_k».proof.Proof.MergeMath
public import proofs.«01_k».proof.Proof.DotRead
public import Idealize.ShloMosaic.Lib.Pipeline.Value
public import Idealize.ShloMosaic.Lib.ValueLayout
public import Idealize.ShloMosaic.Lib.IdealHost

@[expose] public section

set_option maxRecDepth 8192

noncomputable section

namespace Cert.Reference3Ideal.Merge

open Cert.Reference3Ideal Cert.Reference3Ideal.Gen Idealize.ShloMosaic Idealize.ShloMosaic.TcCoe Idealize.ShloMosaic.ValueIdx
open Cert.MergeMath Cert.DotRead
open scoped BigOperators

/-! ## The gates -/

abbrev ones : FVec Ideal S8x2304x1024 .f32 := broadcastInDim S8x2304x1024 ![] bcast_S_S8x2304x1024 (constant S_ .f32 0x3F800000#32)

theorem gate_apply (c : ℕ) (hc : c + 1024 ≤ 12288) (y : FVec Ideal S8x2304x12288 .f32) (h) (b : Fin 8) (R : Fin 2304) (k : Fin 1024) :
    Host.divf ones (addf ones (Host.exp (Host.negf (extractStridedSlice S8x2304x1024 ![0, 0, c] y h)))) (ix3 b R k)
      = logistic (y (ix3 b R ⟨c + k.val, by have := k.isLt; omega⟩)) := by
  show Ideal.div one (one + Ideal.exp (- extractStridedSlice S8x2304x1024 ![0, 0, c] y h (ix3 b R k))) = _
  rw [extractStridedSlice_apply _ y h (ix3 b R k) (ix3 b R ⟨c + k.val, by have := k.isLt; omega⟩) fun a =>
    match a with | ⟨0, _⟩ => (Nat.zero_add _).symm | ⟨1, _⟩ => (Nat.zero_add _).symm | ⟨2, _⟩ => rfl]
  rfl

/-! ## The second branch's rows in order -/

/-- Every other block of 256 latent rows: those of the front, -/
abbrev front (y : FVec Ideal S8x2048x1024 .f32) : FVec Ideal S8x1024x1024 .f32 :=
  shapeCast _ (shapeCast _ (extractStridedSlice S8x4x1x256x1024 ![0, 0, 0, 0, 0] (shapeCast _ y shapeCasts_S8x2048x1024_S8x4x2x256x1024) slices_S8x4x2x256x1024_S8x4x1x256x1024_0_0_0_0_0) shapeCasts_S8x4x1x256x1024_S8x4x256x1024) shapeCasts_S8x4x256x1024_S8x1024x1024
/-- and those of the back, the last first. -/
abbrev back (y : FVec Ideal S8x2048x1024 .f32) : FVec Ideal S8x1024x1024 .f32 :=
  shapeCast _ (shapeCast _ (Host.reverse [1] (extractStridedSlice S8x4x1x256x1024 ![0, 0, 1, 0, 0] (shapeCast _ y shapeCasts_S8x2048x1024_S8x4x2x256x1024) slices_S8x4x2x256x1024_S8x4x1x256x1024_0_0_1_0_0)) shapeCasts_S8x4x1x256x1024_S8x4x256x1024) shapeCasts_S8x4x256x1024_S8x1024x1024

/-- Four blocks of 256 rows laid end to end. -/
theorem joined_apply (z : FVec Ideal S8x4x1x256x1024 .f32) (b : Fin 8) (s k : Fin 1024) :
    shapeCast S8x1024x1024 (shapeCast S8x4x256x1024 z shapeCasts_S8x4x1x256x1024_S8x4x256x1024) shapeCasts_S8x4x256x1024_S8x1024x1024 (ix3 b s k)
      = z (ix5 b ⟨s.val / 256, by have := s.isLt; omega⟩ 0 ⟨s.val % 256, Nat.mod_lt _ (by decide)⟩ k) := by
  refine (shapeCast_apply _ _ (ix3 b s k) (ix4 b ⟨s.val / 256, by have := s.isLt; omega⟩ ⟨s.val % 256, Nat.mod_lt _ (by decide)⟩ k) ?_).trans ?_
  · rw [Shape.rowMajor_val_four, Shape.rowMajor_val_three]
    show ((b.val * 4 + s.val / 256) * 256 + s.val % 256) * 1024 + k.val = (b.val * 1024 + s.val) * 1024 + k.val
    omega
  · refine shapeCast_apply z _ _ _ ?_
    rw [Shape.rowMajor_val_four, Shape.rowMajor_val_five]
    show (((b.val * 4 + s.val / 256) * 1 + 0) * 256 + s.val % 256) * 1024 + k.val = ((b.val * 4 + s.val / 256) * 256 + s.val % 256) * 1024 + k.val
    omega

/-- The latent rows cut in eight blocks, two by two. -/
theorem blocks_apply (y : FVec Ideal S8x2048x1024 .f32) (b : Fin 8) (q : Fin 4) (e : Fin 2) (r : Fin 256) (k : Fin 1024) :
    shapeCast S8x4x2x256x1024 y shapeCasts_S8x2048x1024_S8x4x2x256x1024 (ix5 b q e r k)
      = y (ix3 b ⟨(q.val * 2 + e.val) * 256 + r.val, by have := q.isLt; have := e.isLt; have := r.isLt; omega⟩ k) := by
  refine shapeCast_apply y _ _ _ ?_
  rw [Shape.rowMajor_val_five, Shape.rowMajor_val_three]
  show (b.val * 2048 + ((q.val * 2 + e.val) * 256 + r.val)) * 1024 + k.val = (((b.val * 4 + q.val) * 2 + e.val) * 256 + r.val) * 1024 + k.val
  omega

theorem front_apply (y : FVec Ideal S8x2048x1024 .f32) (b : Fin 8) (s k : Fin 1024) :
    front y (ix3 b s k) = y (ix3 b ⟨s.val / 256 * 512 + s.val % 256, by have := s.isLt; omega⟩ k) := by
  refine (joined_apply _ b s k).trans ?_
  refine (extractStridedSlice_apply _ _ _ _ (ix5 b ⟨s.val / 256, by have := s.isLt; omega⟩ 0 ⟨s.val % 256, Nat.mod_lt _ (by decide)⟩ k) fun a =>
    match a with | ⟨0, _⟩ => (Nat.zero_add _).symm | ⟨1, _⟩ => (Nat.zero_add _).symm | ⟨2, _⟩ => rfl | ⟨3, _⟩ => (Nat.zero_add _).symm | ⟨4, _⟩ => (Nat.zero_add _).symm).trans ?_
  refine (blocks_apply y b _ 0 _ k).trans (congrArg (fun r => y (ix3 b r k)) (Fin.ext ?_))
  show (s.val / 256 * 2 + 0) * 256 + s.val % 256 = s.val / 256 * 512 + s.val % 256
  omega

theorem reverse_apply (x : FVec Ideal S8x4x1x256x1024 .f32) (b : Fin 8) (q : Fin 4) (e : Fin 1) (r : Fin 256) (k : Fin 1024) :
    Host.reverse [1] x (ix5 b q e r k) = x (ix5 b q.rev e r k) :=
  congrArg x (funext fun a => match a with | ⟨0, _⟩ => rfl | ⟨1, _⟩ => rfl | ⟨2, _⟩ => rfl | ⟨3, _⟩ => rfl | ⟨4, _⟩ => rfl)

theorem back_apply (y : FVec Ideal S8x2048x1024 .f32) (b : Fin 8) (s k : Fin 1024) :
    back y (ix3 b s k) = y (ix3 b ⟨(3 - s.val / 256) * 512 + 256 + s.val % 256, by have := s.isLt; omega⟩ k) := by
  refine (joined_apply _ b s k).trans ?_
  refine (reverse_apply _ b _ 0 _ k).trans ?_
  have hq : (⟨s.val / 256, by have := s.isLt; omega⟩ : Fin 4).rev = ⟨3 - s.val / 256, by omega⟩ := by
    refine Fin.ext ?_
    rw [Fin.val_rev]
    show 4 - (s.val / 256 + 1) = 3 - s.val / 256
    omega
  rw [hq]
  refine (extractStridedSlice_apply _ _ _ _ (ix5 b ⟨3 - s.val / 256, by omega⟩ 1 ⟨s.val % 256, Nat.mod_lt _ (by decide)⟩ k) fun a =>
    match a with | ⟨0, _⟩ => (Nat.zero_add _).symm | ⟨1, _⟩ => (Nat.zero_add _).symm | ⟨2, _⟩ => rfl | ⟨3, _⟩ => (Nat.zero_add _).symm | ⟨4, _⟩ => (Nat.zero_add _).symm).trans ?_
  refine (blocks_apply y b _ 1 _ k).trans (congrArg (fun r => y (ix3 b r k)) (Fin.ext ?_))
  show ((3 - s.val / 256) * 2 + 1) * 256 + s.val % 256 = (3 - s.val / 256) * 512 + 256 + s.val % 256
  omega

/-- The second branch, its rows in order. -/
abbrev second (c : FVec Ideal S8x256x1024 .f32) (y : FVec Ideal S8x2048x1024 .f32) : FVec Ideal S8x2304x1024 .f32 :=
  concatenate S8x2304x1024 1 [⟨S8x256x1024, c⟩, ⟨S8x1024x1024, front y⟩, ⟨S8x1024x1024, back y⟩] concatenates_S8x256x1024_S8x1024x1024_S8x1024x1024_S8x2304x1024_d1

theorem second_apply (A : Arrays) (b : Fin 8) (R : Fin 2304) (k : Fin 1024) : second A.fmc A.fml (ix3 b R k) = fmAt A b R k := by
  have hR := R.isLt
  unfold fmAt
  by_cases h0 : R.val < 256
  · rw [if_pos h0]
    refine concatenate_apply_piece (t := S8x2304x1024) 1 _ _ (ix3 b R k) 0 (by simp) S8x256x1024 A.fmc rfl rfl 0 rfl
      (ix3 b ⟨R.val % 256, Nat.mod_lt _ (by decide)⟩ k) (fun a ha => ?_) (by show 0 + R.val % 256 = R.val; omega)
    match a with
    | ⟨0, _⟩ => rfl
    | ⟨1, _⟩ => exact absurd rfl ha
    | ⟨2, _⟩ => rfl
  rw [if_neg h0]
  by_cases h1 : R.val < 1280
  · refine (concatenate_apply_piece (t := S8x2304x1024) 1 _ _ (ix3 b R k) 1 (by simp) S8x1024x1024 (front A.fml) rfl rfl 256 rfl
      (ix3 b ⟨R.val - 256, by omega⟩ k) (fun a ha => ?_) (by show 256 + (R.val - 256) = R.val; omega)).trans ?_
    · match a with
      | ⟨0, _⟩ => rfl
      | ⟨1, _⟩ => exact absurd rfl ha
      | ⟨2, _⟩ => rfl
    refine (front_apply A.fml b _ k).trans (congrArg (fun r => A.fml (ix3 b r k)) (Fin.ext ?_))
    show (R.val - 256) / 256 * 512 + (R.val - 256) % 256 = if R.val < 1280 then _ else _
    rw [if_pos h1]
    omega
  · refine (concatenate_apply_piece (t := S8x2304x1024) 1 _ _ (ix3 b R k) 2 (by simp) S8x1024x1024 (back A.fml) rfl rfl 1280 rfl
      (ix3 b ⟨R.val - 1280, by omega⟩ k) (fun a ha => ?_) (by show 1280 + (R.val - 1280) = R.val; omega)).trans ?_
    · match a with
      | ⟨0, _⟩ => rfl
      | ⟨1, _⟩ => exact absurd rfl ha
      | ⟨2, _⟩ => rfl
    refine (back_apply A.fml b _ k).trans (congrArg (fun r => A.fml (ix3 b r k)) (Fin.ext ?_))
    show (3 - (R.val - 1280) / 256) * 512 + 256 + (R.val - 1280) % 256 = if R.val < 1280 then _ else _
    rw [if_neg h1]
    omega

/-! ## The third branch, normed -/

/-- The rows' mean squares, the small number added. -/
abbrev squares (y : FVec Ideal S8x2304x2048 .f32) : FVec Ideal S8x2304 .f32 :=
  Host.reduceAdd (mulf y y) (constant S_ .f32 0x00000000#32) reducesTo_S8x2304x2048_S8x2304_d2 h_S_
abbrev means (z : FVec Ideal S8x2304 .f32) : FVec Ideal S8x2304x1 .f32 :=
  addf (Host.divf (broadcastInDim S8x2304x1 ![0, 1] bcast_S8x2304_S8x2304x1_0_1 z) (broadcastInDim S8x2304x1 ![] bcast_S_S8x2304x1 (constant S_ .f32 0x45000000#32))) (broadcastInDim S8x2304x1 ![] bcast_S_S8x2304x1 (constant S_ .f32 0x358637BD#32))
abbrev spread (x : FVec Ideal S8x2304x1 .f32) : FVec Ideal S8x2304x2048 .f32 :=
  broadcastInDim S8x2304x2048 ![0, 1, 2] bcast_S8x2304x1_S8x2304x2048_0_1_2 x
abbrev scale (s : FVec Ideal S1x2048 .f32) : FVec Ideal S8x2304x2048 .f32 :=
  broadcastInDim S8x2304x2048 ![0, 1, 2] bcast_S1x1x2048_S8x2304x2048_0_1_2 (broadcastInDim S1x1x2048 ![1, 2] bcast_S1x2048_S1x1x2048_1_2 s)

abbrev third (y : FVec Ideal S8x2304x2048 .f32) (s : FVec Ideal S1x2048 .f32) : FVec Ideal S8x2304x2048 .f32 :=
  mulf (mulf y (spread (Host.rsqrt (means (squares y))))) (scale s)

theorem reduces : S8x2304x2048.Reduces [2] S8x2304 := by decide

theorem square_apply (y : FVec Ideal S8x2304x2048 .f32) (b : Fin 8) (R : Fin 2304) :
    squares y (ix2 b R) = ∑ k : Fin 2048, y (ix3 b R k) * y (ix3 b R k) := by
  show Ideal.hostReduceAdd _ _ (Ideal.ofBits .f32 0x00000000#32) (ix2 b R) = _
  rw [Ideal.hostReduceAdd_single _ reduces, Ideal.ofBits_zero_f32, zero_add]
  refine Finset.sum_congr rfl fun k _ => ?_
  rw [show Shape.Reduces.lift reduces (ix2 b R) k = (ix3 b R k : S8x2304x2048.Idx) from
    funext fun a => match a with | ⟨0, _⟩ => rfl | ⟨1, _⟩ => rfl | ⟨2, _⟩ => rfl]
  rfl

theorem means_apply (z : FVec Ideal S8x2304 .f32) (b : Fin 8) (R : Fin 2304) : means z (ix3 b R 0) = Ideal.div (z (ix2 b R)) len + eps := by
  have h : broadcastInDim S8x2304x1 ![0, 1] bcast_S8x2304_S8x2304x1_0_1 z (ix3 b R 0) = z (ix2 b R) :=
    broadcastInDim_apply _ _ z _ (ix2 b R) fun a => match a with | ⟨0, _⟩ => rfl | ⟨1, _⟩ => rfl
  exact congrArg (fun e : EReal => Ideal.div e len + eps) h

theorem spread_apply (x : FVec Ideal S8x2304x1 .f32) (b : Fin 8) (R : Fin 2304) (k : Fin 2048) : spread x (ix3 b R k) = x (ix3 b R 0) :=
  broadcastInDim_apply _ _ x _ (ix3 b R 0) fun a => match a with | ⟨0, _⟩ => rfl | ⟨1, _⟩ => rfl | ⟨2, _⟩ => rfl

theorem scale_apply (s : FVec Ideal S1x2048 .f32) (b : Fin 8) (R : Fin 2304) (k : Fin 2048) : scale s (ix3 b R k) = s (ix2 0 k) :=
  (broadcastInDim_apply (s := S1x1x2048) (t := S8x2304x2048) ![0, 1, 2] bcast_S1x1x2048_S8x2304x2048_0_1_2 _ (ix3 b R k) (ix3 0 0 k)
    fun a => match a with | ⟨0, _⟩ => rfl | ⟨1, _⟩ => rfl | ⟨2, _⟩ => rfl).trans
    (broadcastInDim_apply _ _ s _ (ix2 0 k) fun a => match a with | ⟨0, _⟩ => rfl | ⟨1, _⟩ => rfl)

theorem third_apply (y : FVec Ideal S8x2304x2048 .f32) (s : FVec Ideal S1x2048 .f32) (b : Fin 8) (R : Fin 2304) (k : Fin 2048) :
    third y s (ix3 b R k) = norm (fun j => y (ix3 b R j)) (fun j => s (ix2 0 j)) k := by
  have h : spread (Host.rsqrt (means (squares y))) (ix3 b R k) = Ideal.rsqrt (Ideal.div (∑ i : Fin 2048, y (ix3 b R i) * y (ix3 b R i)) len + eps) :=
    (spread_apply _ b R k).trans (congrArg Ideal.rsqrt ((means_apply _ b R).trans (congrArg (fun e : EReal => Ideal.div e len + eps) (square_apply y b R))))
  exact congrArg₂ (fun e f : EReal => y (ix3 b R k) * e * f) h (scale_apply s b R k)

/-! ## A row of the modulations, at every position -/

abbrev pick (e s : ℕ) (h : S8x2x8x1024.Slices ![0, e, s, 0] S8x1x1x1024) (x : FVec Ideal S8x2x8x1024 .f32) : FVec Ideal S8x1x1024 .f32 :=
  shapeCast _ (extractStridedSlice S8x1x1x1024 ![0, e, s, 0] x h) shapeCasts_S8x1x1x1024_S8x1x1024

theorem pick_apply (e : Fin 2) (s : Fin 8) (h) (x : FVec Ideal S8x2x8x1024 .f32) (b : Fin 8) (n : Fin 1024) : pick e.val s.val h x (ix3 b 0 n) = x (ix4 b e s n) := by
  refine (shapeCast_apply _ _ (ix3 b 0 n) (ix4 b 0 0 n) ?_).trans ?_
  · rw [Shape.rowMajor_val_four, Shape.rowMajor_val_three]
    show ((b.val * 1 + 0) * 1 + 0) * 1024 + n.val = (b.val * 1 + 0) * 1024 + n.val
    omega
  · exact extractStridedSlice_apply _ x h _ (ix4 b e s n) fun a =>
      match a with | ⟨0, _⟩ => (Nat.zero_add _).symm | ⟨1, _⟩ => rfl | ⟨2, _⟩ => rfl | ⟨3, _⟩ => (Nat.zero_add _).symm

abbrev gates (s : ℕ) (h0 : S8x2x8x1024.Slices ![0, 0, s, 0] S8x1x1x1024) (h1 : S8x2x8x1024.Slices ![0, 1, s, 0] S8x1x1x1024) (x : FVec Ideal S8x2x8x1024 .f32) : FVec Ideal S8x2304x1024 .f32 :=
  concatenate S8x2304x1024 1 [⟨S8x256x1024, (broadcastInDim S8x256x1024 ![0, 1, 2] bcast_S8x1x1024_S8x256x1024_0_1_2 (pick 0 s h0 x))⟩, ⟨S8x2048x1024, (broadcastInDim S8x2048x1024 ![0, 1, 2] bcast_S8x1x1024_S8x2048x1024_0_1_2 (pick 1 s h1 x))⟩] concatenates_S8x256x1024_S8x2048x1024_S8x2304x1024_d1

theorem gates_apply (s : Fin 8) (h0) (h1) (x : FVec Ideal S8x2x8x1024 .f32) (b : Fin 8) (R : Fin 2304) (n : Fin 1024) : gates s.val h0 h1 x (ix3 b R n) = x (ix4 b (kind R) s n) := by
  have hR := R.isLt
  unfold kind
  by_cases h : R.val < 256
  · rw [if_pos h]
    refine (concatenate_pair_apply_left (t := S8x2304x1024) (s₁ := S8x256x1024) (s₂ := S8x2048x1024) 1 _ _ _ (ix3 b R n) rfl
      (ix3 b ⟨R.val, h⟩ n) fun a => match a with | ⟨0, _⟩ => rfl | ⟨1, _⟩ => rfl | ⟨2, _⟩ => rfl).trans ?_
    refine (broadcastInDim_apply _ _ _ _ (ix3 b 0 n) fun a => match a with | ⟨0, _⟩ => rfl | ⟨1, _⟩ => rfl | ⟨2, _⟩ => rfl).trans ?_
    exact pick_apply 0 s _ x b n
  · rw [if_neg h]
    refine (concatenate_pair_apply_right (t := S8x2304x1024) (s₁ := S8x256x1024) (s₂ := S8x2048x1024) 1 _ _ _ (ix3 b R n) rfl rfl
      (ix3 b ⟨R.val - 256, by omega⟩ n) (fun a ha => ?_) (by show R.val - 256 + 256 = R.val; omega)).trans ?_
    · match a with
      | ⟨0, _⟩ => rfl
      | ⟨1, _⟩ => exact absurd rfl ha
      | ⟨2, _⟩ => rfl
    refine (broadcastInDim_apply _ _ _ _ (ix3 b 0 n) fun a => match a with | ⟨0, _⟩ => rfl | ⟨1, _⟩ => rfl | ⟨2, _⟩ => rfl).trans ?_
    exact pick_apply 1 s _ x b n

/-! ## The whole -/

abbrev sigAt (c : ℕ) (h : S8x2304x12288.Slices ![0, 0, c] S8x2304x1024) (p : FVec Ideal S8x2304x12288 .f32) : FVec Ideal S8x2304x1024 .f32 :=
  Host.divf ones (addf ones (Host.exp (Host.negf (extractStridedSlice S8x2304x1024 ![0, 0, c] p h))))

abbrev dot1 (A : FVec Ideal S8x2304x1024 .f32) (B : FVec Ideal S1024x1024 .f32) : FVec Ideal S8x2304x1024 .f32 :=
  Host.dotGeneral dot_S8x2304x1024_S1024x1024_S8x2304x1024_2_0_01_1_n_n none A B
abbrev dot2 (A : FVec Ideal S8x2304x2048 .f32) (B : FVec Ideal S2048x1024 .f32) : FVec Ideal S8x2304x1024 .f32 :=
  Host.dotGeneral dot_S8x2304x2048_S2048x1024_S8x2304x1024_2_0_01_1_n_n none A B

/-- The gated sum of the projected branches. -/
abbrev sum (A : Arrays) : FVec Ideal S8x2304x1024 .f32 :=
  addf (addf (mulf (sigAt 9216 slices_S8x2304x12288_S8x2304x1024_0_0_9216 A.p) (dot1 A.ga A.wa))
      (mulf (sigAt 10240 slices_S8x2304x12288_S8x2304x1024_0_0_10240 A.p) (dot1 (second A.fmc A.fml) A.wb)))
    (mulf (sigAt 11264 slices_S8x2304x12288_S8x2304x1024_0_0_11264 A.p) (dot2 (third A.yz A.sg) A.wc))

theorem sum_apply (A : Arrays) (b : Fin 8) (R : Fin 2304) (k : Fin 1024) : sum A (ix3 b R k) = mixed (branches A b R) k := by
  show sigAt 9216 _ A.p (ix3 b R k) * dot1 A.ga A.wa (ix3 b R k) + sigAt 10240 _ A.p (ix3 b R k) * dot1 (second A.fmc A.fml) A.wb (ix3 b R k)
    + sigAt 11264 _ A.p (ix3 b R k) * dot2 (third A.yz A.sg) A.wc (ix3 b R k) = _
  rw [show sigAt 9216 _ A.p (ix3 b R k) = _ from gate_apply 9216 (by decide) A.p _ b R k,
    show sigAt 10240 _ A.p (ix3 b R k) = _ from gate_apply 10240 (by decide) A.p _ b R k,
    show sigAt 11264 _ A.p (ix3 b R k) = _ from gate_apply 11264 (by decide) A.p _ b R k,
    show dot1 A.ga A.wa (ix3 b R k) = _ from dot_brk_kn _ none _ _ b R k,
    show dot1 (second A.fmc A.fml) A.wb (ix3 b R k) = _ from dot_brk_kn _ none _ _ b R k,
    show dot2 (third A.yz A.sg) A.wc (ix3 b R k) = _ from dot_brk_kn _ none _ _ b R k]
  simp only [second_apply, third_apply]
  rfl

/-- The reference's first result, from the arrays it is given. -/
abbrev whole (A : Arrays) : FVec Ideal S8x2304x1024 .f32 := addf (F := Ideal) (φ := .f32) A.x (mulf (gates 2 slices_S8x2x8x1024_S8x1x1x1024_0_0_2_0 slices_S8x2x8x1024_S8x1x1x1024_0_1_2_0 A.mods) (dot1 (sum A) A.wo))

theorem whole_apply (A : Arrays) (b : Fin 8) (R : Fin 2304) (n : Fin 1024) : whole A (ix3 b R n) = merged A (ix3 b R n) := by
  show A.x (ix3 b R n) + gates 2 slices_S8x2x8x1024_S8x1x1x1024_0_0_2_0 slices_S8x2x8x1024_S8x1x1x1024_0_1_2_0 A.mods (ix3 b R n) * dot1 (sum A) A.wo (ix3 b R n) = _
  rw [show gates 2 slices_S8x2x8x1024_S8x1x1x1024_0_0_2_0 slices_S8x2x8x1024_S8x1x1x1024_0_1_2_0 A.mods (ix3 b R n) = _ from gates_apply 2 _ _ A.mods b R n, show dot1 (sum A) A.wo (ix3 b R n) = _ from dot_brk_kn _ none _ _ b R n]
  simp only [sum_apply]
  rfl

theorem whole_eq (A : Arrays) : (whole A : S8x2304x1024.Idx → EReal) = merged A := by
  funext i
  have hi : i = ix3 (i 0) (i 1) (i 2) := funext fun a => match a with | ⟨0, _⟩ => rfl | ⟨1, _⟩ => rfl | ⟨2, _⟩ => rfl
  exact (congrArg (whole A) hi).trans ((whole_apply A (i 0) (i 1) (i 2)).trans (congrArg (merged A) hi.symm))

/-! ## The rows modulated -/

/-- The rows' sums of squares, and their means, the small number added. -/
abbrev squares2 (y : FVec Ideal S8x2304x1024 .f32) : FVec Ideal S8x2304 .f32 :=
  Host.reduceAdd (mulf y y) (constant S_ .f32 0x00000000#32) reducesTo_S8x2304x1024_S8x2304_d2 h_S_
abbrev means2 (z : FVec Ideal S8x2304 .f32) : FVec Ideal S8x2304x1 .f32 :=
  addf (Host.divf (broadcastInDim S8x2304x1 ![0, 1] bcast_S8x2304_S8x2304x1_0_1 z) (broadcastInDim S8x2304x1 ![] bcast_S_S8x2304x1 (constant S_ .f32 0x44800000#32))) (broadcastInDim S8x2304x1 ![] bcast_S_S8x2304x1 (constant S_ .f32 0x358637BD#32))
abbrev spread2 (x : FVec Ideal S8x2304x1 .f32) : FVec Ideal S8x2304x1024 .f32 :=
  broadcastInDim S8x2304x1024 ![0, 1, 2] bcast_S8x2304x1_S8x2304x1024_0_1_2 x
abbrev scale2 (s : FVec Ideal S1x1024 .f32) : FVec Ideal S8x2304x1024 .f32 :=
  broadcastInDim S8x2304x1024 ![0, 1, 2] bcast_S1x1x1024_S8x2304x1024_0_1_2 (broadcastInDim S1x1x1024 ![1, 2] bcast_S1x1024_S1x1x1024_1_2 s)

theorem reduces2 : S8x2304x1024.Reduces [2] S8x2304 := by decide

theorem square2_apply (y : FVec Ideal S8x2304x1024 .f32) (b : Fin 8) (R : Fin 2304) :
    squares2 y (ix2 b R) = ∑ k : Fin 1024, y (ix3 b R k) * y (ix3 b R k) := by
  show Ideal.hostReduceAdd _ _ (Ideal.ofBits .f32 0x00000000#32) (ix2 b R) = _
  rw [Ideal.hostReduceAdd_single _ reduces2, Ideal.ofBits_zero_f32, zero_add]
  refine Finset.sum_congr rfl fun k _ => ?_
  rw [show Shape.Reduces.lift reduces2 (ix2 b R) k = (ix3 b R k : S8x2304x1024.Idx) from
    funext fun a => match a with | ⟨0, _⟩ => rfl | ⟨1, _⟩ => rfl | ⟨2, _⟩ => rfl]
  rfl

theorem means2_apply (z : FVec Ideal S8x2304 .f32) (b : Fin 8) (R : Fin 2304) : means2 z (ix3 b R 0) = Ideal.div (z (ix2 b R)) width + eps := by
  have h : broadcastInDim S8x2304x1 ![0, 1] bcast_S8x2304_S8x2304x1_0_1 z (ix3 b R 0) = z (ix2 b R) :=
    broadcastInDim_apply _ _ z _ (ix2 b R) fun a => match a with | ⟨0, _⟩ => rfl | ⟨1, _⟩ => rfl
  exact congrArg (fun e : EReal => Ideal.div e width + eps) h

theorem spread2_apply (x : FVec Ideal S8x2304x1 .f32) (b : Fin 8) (R : Fin 2304) (k : Fin 1024) : spread2 x (ix3 b R k) = x (ix3 b R 0) :=
  broadcastInDim_apply _ _ x _ (ix3 b R 0) fun a => match a with | ⟨0, _⟩ => rfl | ⟨1, _⟩ => rfl | ⟨2, _⟩ => rfl

theorem scale2_apply (s : FVec Ideal S1x1024 .f32) (b : Fin 8) (R : Fin 2304) (k : Fin 1024) : scale2 s (ix3 b R k) = s (ix2 0 k) :=
  (broadcastInDim_apply (s := S1x1x1024) (t := S8x2304x1024) ![0, 1, 2] bcast_S1x1x1024_S8x2304x1024_0_1_2 _ (ix3 b R k) (ix3 0 0 k)
    fun a => match a with | ⟨0, _⟩ => rfl | ⟨1, _⟩ => rfl | ⟨2, _⟩ => rfl).trans
    (broadcastInDim_apply _ _ s _ (ix2 0 k) fun a => match a with | ⟨0, _⟩ => rfl | ⟨1, _⟩ => rfl)

/-- Rows normed, scaled by `g`, scaled once more by row `q` of the modulations and shifted by row `p`. -/
abbrev moved (p q : ℕ) (hp0 : S8x2x8x1024.Slices ![0, 0, p, 0] S8x1x1x1024) (hp1 : S8x2x8x1024.Slices ![0, 1, p, 0] S8x1x1x1024)
    (hq0 : S8x2x8x1024.Slices ![0, 0, q, 0] S8x1x1x1024) (hq1 : S8x2x8x1024.Slices ![0, 1, q, 0] S8x1x1x1024)
    (x : FVec Ideal S8x2304x1024 .f32) (g : FVec Ideal S1x1024 .f32) (mods : FVec Ideal S8x2x8x1024 .f32) : FVec Ideal S8x2304x1024 .f32 :=
  addf (mulf (mulf (mulf x (spread2 (Host.rsqrt (means2 (squares2 x))))) (scale2 g)) (addf ones (gates q hq0 hq1 mods))) (gates p hp0 hp1 mods)

theorem moved_apply (p q : Fin 8) (hp0) (hp1) (hq0) (hq1) (x : FVec Ideal S8x2304x1024 .f32) (g : FVec Ideal S1x1024 .f32)
    (mods : FVec Ideal S8x2x8x1024 .f32) (b : Fin 8) (R : Fin 2304) (n : Fin 1024) :
    moved p.val q.val hp0 hp1 hq0 hq1 x g mods (ix3 b R n)
      = modulated (fun k => x (ix3 b R k)) (fun k => g (ix2 0 k)) (fun k => mods (ix4 b (kind R) p k)) (fun k => mods (ix4 b (kind R) q k)) n := by
  have h : spread2 (Host.rsqrt (means2 (squares2 x))) (ix3 b R n) = Ideal.rsqrt (Ideal.div (∑ i : Fin 1024, x (ix3 b R i) * x (ix3 b R i)) width + eps) :=
    (spread2_apply _ b R n).trans (congrArg Ideal.rsqrt ((means2_apply _ b R).trans (congrArg (fun e : EReal => Ideal.div e width + eps) (square2_apply x b R))))
  have h3 : gates p.val hp0 hp1 mods (ix3 b R n) = mods (ix4 b (kind R) p n) := gates_apply p _ _ mods b R n
  have h4 : gates q.val hq0 hq1 mods (ix3 b R n) = mods (ix4 b (kind R) q n) := gates_apply q _ _ mods b R n
  show x (ix3 b R n) * spread2 (Host.rsqrt (means2 (squares2 x))) (ix3 b R n) * scale2 g (ix3 b R n)
    * (one + gates q.val hq0 hq1 mods (ix3 b R n)) + gates p.val hp0 hp1 mods (ix3 b R n) = _
  rw [h, h3, h4, scale2_apply]
  rfl

/-- The reference's second result. -/
abbrev whole2 (x : FVec Ideal S8x2304x1024 .f32) (A : Arrays) : FVec Ideal S147456x128 .f32 :=
  shapeCast S147456x128 (moved 3 4 slices_S8x2x8x1024_S8x1x1x1024_0_0_3_0 slices_S8x2x8x1024_S8x1x1x1024_0_1_3_0
    slices_S8x2x8x1024_S8x1x1x1024_0_0_4_0 slices_S8x2x8x1024_S8x1x1x1024_0_1_4_0 x A.ng A.mods) shapeCasts_S8x2304x1024_S147456x128

theorem whole2_eq (A : Arrays) : (whole2 (whole A) A : S147456x128.Idx → EReal) = tiled A := by
  funext i
  have h0 : (i 0).val < 147456 := (i 0).isLt
  have h1 : (i 1).val < 128 := (i 1).isLt
  have hi : i = ix2 (i 0) (i 1) := funext fun a => match a with | ⟨0, _⟩ => rfl | ⟨1, _⟩ => rfl
  refine (shapeCast_apply _ _ i (ix3 ⟨(i 0).val / 18432, by omega⟩ ⟨(i 0).val / 8 % 2304, Nat.mod_lt _ (by decide)⟩
    ⟨(i 0).val % 8 * 128 + (i 1).val, by omega⟩) ?_).trans ?_
  · rw [Shape.rowMajor_val_two, Shape.rowMajor_val_three]
    show ((i 0).val / 18432 * 2304 + (i 0).val / 8 % 2304) * 1024 + ((i 0).val % 8 * 128 + (i 1).val) = (i 0).val * 128 + (i 1).val
    omega
  refine (moved_apply 3 4 _ _ _ _ (whole A) A.ng A.mods _ _ _).trans ?_
  unfold tiled modAt
  simp only [whole_apply]

end Cert.Reference3Ideal.Merge

end
-- ==== Proof.MergeClaims.lean ====
/-
  The claims about the merge: the frames, and the kernel's first two results against the reference's.
-/
module

public import proofs.«01_k».proof.Defs
public import proofs.«01_k».proof.Proof.MergeBFrame
public import proofs.«01_k».proof.Proof.MergeIValue
public import proofs.«01_k».proof.Proof.MergeRef

@[expose] public section

set_option maxRecDepth 8192

noncomputable section

namespace Cert.MergeClaims

open Idealize.ShloMosaic Idealize.SL.Sem Cert.MergeMath

theorem kernel_frame : quiescent_Kernel3 (hKernel3 := Cert.Kernel3.Gen.facts) :=
  fun m g _ => Cert.Kernel3.Merge.frame m g

theorem ideal_frame : quiescent_Kernel3Ideal (hKernel3Ideal := Cert.Kernel3Ideal.Gen.facts) :=
  fun m g _ => Cert.Kernel3Ideal.Merge.frame m g

theorem reference_frame : quiescent_Reference3Ideal (hReference3Ideal := Cert.Reference3Ideal.Gen.facts) :=
  fun m g _ => (θ_run _ _ _).mono (fun r h => ⟨fun c => (h c).2.2, Idealize.ShloMosaic.sem_eq_zero_of_no_sems (by decide) r.2⟩) (Cert.Reference3Ideal.Value.run m g)

/-- The arrays that the reference is given. -/
abbrev given (m : (ℓ : Loc Cert.Reference3Ideal.nD Cert.Reference3Ideal.τ Cert.Reference3Ideal.sig) → Buf (Elt Ideal) ℓ) : Arrays where
  ga := m (((0 : Dev Cert.Reference3Ideal.nD).tc : Thread Cert.Reference3Ideal.nD Cert.Reference3Ideal.τ).loc Cert.Reference3Ideal.main_arg0)
  fmc := m (((0 : Dev Cert.Reference3Ideal.nD).tc : Thread Cert.Reference3Ideal.nD Cert.Reference3Ideal.τ).loc Cert.Reference3Ideal.main_arg1)
  fml := m (((0 : Dev Cert.Reference3Ideal.nD).tc : Thread Cert.Reference3Ideal.nD Cert.Reference3Ideal.τ).loc Cert.Reference3Ideal.main_arg2)
  yz := m (((0 : Dev Cert.Reference3Ideal.nD).tc : Thread Cert.Reference3Ideal.nD Cert.Reference3Ideal.τ).loc Cert.Reference3Ideal.main_arg3)
  p := m (((0 : Dev Cert.Reference3Ideal.nD).tc : Thread Cert.Reference3Ideal.nD Cert.Reference3Ideal.τ).loc Cert.Reference3Ideal.main_arg4)
  x := m (((0 : Dev Cert.Reference3Ideal.nD).tc : Thread Cert.Reference3Ideal.nD Cert.Reference3Ideal.τ).loc Cert.Reference3Ideal.main_arg5)
  mods := m (((0 : Dev Cert.Reference3Ideal.nD).tc : Thread Cert.Reference3Ideal.nD Cert.Reference3Ideal.τ).loc Cert.Reference3Ideal.main_arg6)
  ng := m (((0 : Dev Cert.Reference3Ideal.nD).tc : Thread Cert.Reference3Ideal.nD Cert.Reference3Ideal.τ).loc Cert.Reference3Ideal.main_arg7)
  sg := m (((0 : Dev Cert.Reference3Ideal.nD).tc : Thread Cert.Reference3Ideal.nD Cert.Reference3Ideal.τ).loc Cert.Reference3Ideal.main_arg8)
  wa := m (((0 : Dev Cert.Reference3Ideal.nD).tc : Thread Cert.Reference3Ideal.nD Cert.Reference3Ideal.τ).loc Cert.Reference3Ideal.main_arg9)
  wb := m (((0 : Dev Cert.Reference3Ideal.nD).tc : Thread Cert.Reference3Ideal.nD Cert.Reference3Ideal.τ).loc Cert.Reference3Ideal.main_arg10)
  wc := m (((0 : Dev Cert.Reference3Ideal.nD).tc : Thread Cert.Reference3Ideal.nD Cert.Reference3Ideal.τ).loc Cert.Reference3Ideal.main_arg11)
  wo := m (((0 : Dev Cert.Reference3Ideal.nD).tc : Thread Cert.Reference3Ideal.nD Cert.Reference3Ideal.τ).loc Cert.Reference3Ideal.main_arg12)

theorem reference_value (m : (ℓ : Loc Cert.Reference3Ideal.nD Cert.Reference3Ideal.τ Cert.Reference3Ideal.sig) → Buf (Elt Ideal) ℓ) :
    (Cert.Reference3Ideal.Value.res_out0 m 0 : Cert.Reference3Ideal.S8x2304x1024.Idx → EReal) = merged (given m) := by
  refine Eq.trans ?_ (Cert.Reference3Ideal.Merge.whole_eq (given m))
  unfold Cert.Reference3Ideal.Value.res_out0 Cert.Reference3Ideal.Value.res_main_v83
  rfl

theorem reference_second (m : (ℓ : Loc Cert.Reference3Ideal.nD Cert.Reference3Ideal.τ Cert.Reference3Ideal.sig) → Buf (Elt Ideal) ℓ) :
    (Cert.Reference3Ideal.Value.res_out1 m 0 : Cert.Reference3Ideal.S147456x128.Idx → EReal) = tiled (given m) := by
  refine Eq.trans ?_ (Cert.Reference3Ideal.Merge.whole2_eq (given m))
  unfold Cert.Reference3Ideal.Value.res_out1 Cert.Reference3Ideal.Value.res_main_v101
  rfl

/-- The kernel's first two results are the reference's. -/
theorem same : algebraic_Kernel3Ideal_Reference3Ideal (hKernel3Ideal := Cert.Kernel3Ideal.Gen.facts)
    (hReference3Ideal := Cert.Reference3Ideal.Gen.facts) := by
  intro m g m' g' _ ha
  refine ⟨fun _ => Cert.Kernel3Ideal.Merge.mergedAll m, fun _ => Cert.Kernel3Ideal.Merge.tiledAll m, Cert.Kernel3Ideal.Merge.computes m g,
    (θ_run _ _ _).mono (fun _ h c => ⟨(h c).1.trans ?_, (h c).2.1.trans ?_, (h c).2.2⟩) (Cert.Reference3Ideal.Value.run m' g')⟩
  all_goals
    obtain rfl : c = 0 := Subsingleton.elim _ _
    obtain ⟨h0, h1, h2, h3, h4, h5, h6, h7, h8, h9, h10, h11, h12, h13, h14⟩ := ha 0
  · refine (reference_value m').trans (congrArg merged ?_)
    unfold given
    rw [h0, h1, h2, h3, h4, h5, h6, h7, h8, h9, h10, h11, h12]
  · refine (reference_second m').trans (congrArg tiled ?_)
    unfold given
    rw [h0, h1, h2, h3, h4, h5, h6, h7, h8, h9, h10, h11, h12]

end Cert.MergeClaims

end
-- ==== Proof.NormIValue.lean ====
/-
  The norm ahead of the mixers over the extended reals: the array that the call leaves is every row over the root of its
  mean square, scaled and shifted by the row's own modulations.
-/
module

public import proofs.«01_k».proof.Proof.Gen.Kernel5Ideal.Value
public import proofs.«01_k».proof.Proof.MergeIPay

@[expose] public section

set_option maxRecDepth 16384

noncomputable section

namespace Cert.Kernel5Ideal.Norm

open Idealize.ShloMosaic Idealize.ShloMosaic.TcCoe Idealize.ShloMosaic.Tactic Idealize.ShloMosaic.ValueIdx
open Idealize.ShloMosaic.Pipeline
open Cert.Kernel5Ideal.Gen Cert.MergeMath
open Cert.Kernel3Ideal.Merge (flat_apply mods_apply line_apply over_apply across_apply squares squares_apply)
open scoped BigOperators

variable (m : (ℓ : Loc nD τ sig) → Buf (Elt Ideal) ℓ) (ρ : Dev nD → PrngReg)

/-! ## What the body stores, read at an index -/

theorem pay_apply (v : Vec Ideal S1x1x8x1024 .f32) (x : Vec Ideal S1x256x1024 .f32) (g : Vec Ideal S1x1024 .f32) (r : Fin 256) (n : Fin 1024) :
    k0_pay1 v x g (ix3 0 r n)
      = modulated (fun k => x (ix3 0 r k)) (fun k => g (ix2 0 k)) (fun k => v (ix4 0 0 0 k)) (fun k => v (ix4 0 0 1 k)) n := by
  have hx : ∀ k : Fin 1024, shapeCast S256x1024 x shapeCasts_S1x256x1024_S256x1024 (ix2 r k) = x (ix3 0 r k) := fun k => flat_apply x _ r k
  unfold modulated
  simp only [← hx]
  unfold k0_pay1
  refine (shapeCast_apply _ _ (ix3 0 r n) (ix2 r n) ?_).trans ?_
  · rw [Shape.rowMajor_val_two, Shape.rowMajor_val_three]
    show _ = _
    simp
  generalize shapeCast S256x1024 x shapeCasts_S1x256x1024_S256x1024 = y
  show y (ix2 r n) * broadcastTo S256x1024 _ _ (ix2 r n) * broadcastTo S256x1024 g _ (ix2 r n) * broadcastTo S256x1024 _ _ (ix2 r n)
    + broadcastTo S256x1024 _ _ (ix2 r n) = _
  rw [across_apply, over_apply, over_apply, over_apply]
  show y (ix2 r n) * Ideal.rsqrt (Ideal.div (squares y (ix2 r 0)) width + eps) * g (ix2 0 n)
    * (one + extractStridedSlice S1x1024 ![(1 : Fin 8).val, 0] (Cert.Kernel3Ideal.Gen.k0_pay4 v) _ (ix2 0 n))
    + extractStridedSlice S1x1024 ![(0 : Fin 8).val, 0] (Cert.Kernel3Ideal.Gen.k0_pay4 v) _ (ix2 0 n) = _
  rw [squares_apply, line_apply, line_apply]

theorem none2 : (![0, 0] : Fin 2 → ℕ) = fun _ => 0 := funext fun a => match a with | ⟨0, _⟩ => rfl | ⟨1, _⟩ => rfl
theorem none3 : (![0, 0, 0] : Fin 3 → ℕ) = fun _ => 0 := funext fun a => match a with | ⟨0, _⟩ => rfl | ⟨1, _⟩ => rfl | ⟨2, _⟩ => rfl
theorem none4 : (![0, 0, 0, 0] : Fin 4 → ℕ) = fun _ => 0 :=
  funext fun a => match a with | ⟨0, _⟩ => rfl | ⟨1, _⟩ => rfl | ⟨2, _⟩ => rfl | ⟨3, _⟩ => rfl

theorem out_eq (x : Vec Ideal S1x256x1024 .f32) (g : Vec Ideal S1x1024 .f32) (v : Vec Ideal S1x1x8x1024 .f32) :
    out0_3 x g v = k0_pay1 v x g := by
  unfold out0_3
  refine (View.canon_unit_zero none3 _ _).trans ?_
  exact congr (congrArg₂ k0_pay1 (View.ld_unit_zero none4 _ v) (View.ld_unit_zero none3 _ x)) (View.ld_unit_zero none2 _ g)

/-! ## The blocks in their arrays -/

theorem at0 (t : Fin 72) (b : Fin 3) : cc0_transform_0 (grid0.coords t) b = (![t.val / 9, t.val % 9, 0] : Fin 3 → ℕ) b :=
  (by decide +kernel : ∀ (t : Fin grid0.N) (b : Fin 3), cc0_transform_0 (grid0.coords t) b = (![t.val / 9, t.val % 9, 0] : Fin 3 → ℕ) b) t b
theorem at1 (t : Fin 72) (b : Fin 2) : cc0_transform_1 (grid0.coords t) b = (![0, 0] : Fin 2 → ℕ) b :=
  (by decide +kernel : ∀ (t : Fin grid0.N) (b : Fin 2), cc0_transform_1 (grid0.coords t) b = (![0, 0] : Fin 2 → ℕ) b) t b
theorem at2 (t : Fin 72) (b : Fin 4) : cc0_transform_2 (grid0.coords t) b = (![t.val / 9, if t.val % 9 < 1 then 0 else 1, 0, 0] : Fin 4 → ℕ) b :=
  (by decide +kernel : ∀ (t : Fin grid0.N) (b : Fin 4), cc0_transform_2 (grid0.coords t) b = (![t.val / 9, if t.val % 9 < 1 then 0 else 1, 0, 0] : Fin 4 → ℕ) b) t b
theorem at3 (t : Fin 72) (b : Fin 3) : cc0_transform_3 (grid0.coords t) b = (![t.val / 9, t.val % 9, 0] : Fin 3 → ℕ) b :=
  (by decide +kernel : ∀ (t : Fin grid0.N) (b : Fin 3), cc0_transform_3 (grid0.coords t) b = (![t.val / 9, t.val % 9, 0] : Fin 3 → ℕ) b) t b

theorem emb0 (t : Fin grid0.N) (y : S1x256x1024.Idx) (b : Fin 3) :
    (((cfg0.win 0).blk t).view.emb y b : ℕ) = cc0_transform_0 (grid0.coords t) b * S1x256x1024.size b + 1 * (y b : ℕ) := rfl
theorem emb1 (t : Fin grid0.N) (y : S1x1024.Idx) (b : Fin 2) :
    (((cfg0.win 1).blk t).view.emb y b : ℕ) = cc0_transform_1 (grid0.coords t) b * S1x1024.size b + 1 * (y b : ℕ) := rfl
theorem emb2 (t : Fin grid0.N) (y : S1x1x8x1024.Idx) (b : Fin 4) :
    (((cfg0.win 2).blk t).view.emb y b : ℕ) = cc0_transform_2 (grid0.coords t) b * S1x1x8x1024.size b + 1 * (y b : ℕ) := rfl
theorem emb3 (t : Fin grid0.N) (y : S1x256x1024.Idx) (b : Fin 3) :
    (((cfg0.win 3).blk t).view.emb y b : ℕ) = cc0_transform_3 (grid0.coords t) b * S1x256x1024.size b + 1 * (y b : ℕ) := rfl

abbrev argX : S8x2304x1024.Idx → EReal := m (((0 : Dev nD) : Thread nD τ).loc main_arg0)
abbrev argG : S1x1024.Idx → EReal := m (((0 : Dev nD) : Thread nD τ).loc main_arg1)
abbrev argM : S8x2x8x1024.Idx → EReal := m (((0 : Dev nD) : Thread nD τ).loc main_arg2)

/-- The row of the batch, and the position, at point `t`. -/
abbrev batch (t : Fin 72) : Fin 8 := ⟨t.val / 9, by have := t.isLt; omega⟩
abbrev pos (t : Fin 72) (r : Fin 256) : Fin 2304 := ⟨t.val % 9 * 256 + r.val, by have := r.isLt; omega⟩

theorem read0 (t : Fin 72) (r : Fin 256) (k : Fin 1024) :
    (iblk m 0 0 t : S1x256x1024.Idx → EReal) (ix3 0 r k) = argX m (ix3 (batch t) (pos t r) k) := by
  refine congrArg (argX m) (funext fun a => Fin.ext ?_)
  refine (emb0 t _ a).trans ?_
  rw [at0]
  match a with
  | ⟨0, _⟩ => show t.val / 9 * 1 + 1 * 0 = t.val / 9; omega
  | ⟨1, _⟩ => show t.val % 9 * 256 + 1 * r.val = t.val % 9 * 256 + r.val; omega
  | ⟨2, _⟩ => show 0 * 1024 + 1 * k.val = k.val; omega

theorem read1 (t : Fin 72) (k : Fin 1024) :
    (iblk m 0 1 t : S1x1024.Idx → EReal) (ix2 0 k) = argG m (ix2 0 k) := by
  refine congrArg (argG m) (funext fun a => Fin.ext ?_)
  refine (emb1 t _ a).trans ?_
  rw [at1]
  match a with
  | ⟨0, _⟩ => show 0 * 1 + 1 * 0 = 0; omega
  | ⟨1, _⟩ => show 0 * 1024 + 1 * k.val = k.val; omega

theorem read2 (t : Fin 72) (r : Fin 256) (s : Fin 8) (k : Fin 1024) :
    (iblk m 0 2 t : S1x1x8x1024.Idx → EReal) (ix4 0 0 s k) = argM m (ix4 (batch t) (kind (pos t r)) s k) := by
  refine congrArg (argM m) (funext fun a => Fin.ext ?_)
  refine (emb2 t _ a).trans ?_
  rw [at2]
  match a with
  | ⟨0, _⟩ => show t.val / 9 * 1 + 1 * 0 = t.val / 9; omega
  | ⟨1, _⟩ =>
    have hr := r.isLt
    show (if t.val % 9 < 1 then 0 else 1) * 1 + 1 * 0 = (if t.val % 9 * 256 + r.val < 256 then (0 : Fin 2) else 1).val
    by_cases h : t.val % 9 < 1
    · rw [if_pos h, if_pos (by omega)]; rfl
    · rw [if_neg h, if_neg (by omega)]; rfl
  | ⟨2, _⟩ => show 0 * 8 + 1 * s.val = s.val; omega
  | ⟨3, _⟩ => show 0 * 1024 + 1 * k.val = k.val; omega

/-! ## The result -/

/-- What the result's array is shown to hold. -/
abbrev all : S8x2304x1024.Idx → EReal := normed (argX m) (argG m) (argM m)

theorem all_eq (t : Fin 72) (r : Fin 256) (n : Fin 1024) :
    (out0_3 (iblk m 0 0 t) (iblk m 0 1 t) (iblk m 0 2 t) : S1x256x1024.Idx → EReal) (ix3 0 r n) = all m (ix3 (batch t) (pos t r) n) := by
  rw [out_eq]
  refine (pay_apply _ _ _ r n).trans ?_
  show _ = modulated (fun k => argX m (ix3 (batch t) (pos t r) k)) (fun k => argG m (ix2 0 k))
    (fun k => argM m (ix4 (batch t) (kind (pos t r)) 0 k)) (fun k => argM m (ix4 (batch t) (kind (pos t r)) 1 k)) n
  rw [show (fun k => argX m (ix3 (batch t) (pos t r) k)) = _ from funext fun k => (read0 m t r k).symm,
    show (fun k => argG m (ix2 0 k)) = _ from funext fun k => (read1 m t k).symm,
    show (fun k => argM m (ix4 (batch t) (kind (pos t r)) 0 k)) = _ from funext fun k => (read2 m t r 0 k).symm,
    show (fun k => argM m (ix4 (batch t) (kind (pos t r)) 1 k)) = _ from funext fun k => (read2 m t r 1 k).symm]

theorem flushed (t : Fin 72) :
    (dats m 0 0).flushed 3 t = ((cfg0.win 3).blk t).view.read (Elt Ideal) (all m) := by
  refine (Value.flushed3 m 0 t).trans ?_
  refine funext fun (y : S1x256x1024.Idx) => ?_
  have hy : y = ix3 0 (y 1) (y 2) := funext fun a => match a with
    | ⟨0, _⟩ => Subsingleton.elim (α := Fin 1) _ _ | ⟨1, _⟩ => rfl | ⟨2, _⟩ => rfl
  refine (congrArg (out0_3 (iblk m 0 0 t) (iblk m 0 1 t) (iblk m 0 2 t)) hy).trans ((all_eq m t (y 1) (y 2)).trans ?_)
  refine congrArg (all m) (funext fun a => Fin.ext ?_)
  refine Eq.trans ?_ (emb3 t y a).symm
  rw [at3]
  have h0 : (y 0).val = 0 := Nat.lt_one_iff.mp (y 0).isLt
  match a with
  | ⟨0, _⟩ => show t.val / 9 = t.val / 9 * 1 + 1 * (y 0).val; omega
  | ⟨1, _⟩ => show t.val % 9 * 256 + (y 1).val = t.val % 9 * 256 + 1 * (y 1).val; omega
  | ⟨2, _⟩ => show (y 2).val = 0 * 1024 + 1 * (y 2).val; omega

theorem covered (i : S8x2304x1024.Idx) :
    ∃ t : Fin cfg0.N, (cfg0.win 3).flush t = true ∧ i ∈ ((cfg0.win 3).blk t).view.set := by
  have h0 : (i 0).val < 8 := (i 0).isLt
  have h1 : (i 1).val < 2304 := (i 1).isLt
  let t : Fin 72 := ⟨(i 0).val * 9 + (i 1).val / 256, by omega⟩
  let y : S1x256x1024.Idx := ix3 0 ⟨(i 1).val % 256, Nat.mod_lt _ (by decide)⟩ (i 2)
  refine ⟨t, flush0_3 t, ?_⟩
  have e : ((cfg0.win 3).blk t).view.emb y = i := by
    refine funext fun a => Fin.ext ?_
    refine (emb3 t y a).trans ?_
    rw [at3]
    match a with
    | ⟨0, _⟩ => show ((i 0).val * 9 + (i 1).val / 256) / 9 * 1 + 1 * 0 = (i 0).val; omega
    | ⟨1, _⟩ => show ((i 0).val * 9 + (i 1).val / 256) % 9 * 256 + 1 * ((i 1).val % 256) = (i 1).val; omega
    | ⟨2, _⟩ => show 0 * 1024 + 1 * (i 2).val = (i 2).val; omega
  exact e ▸ View.emb_mem_set _ y

theorem final : (dats m 0 0).arrAt 3 cfg0.N = all m :=
  (dats m 0 0).arrAt_eq_of_cover 3 (all m) (fun t _ => flushed m t) covered

/-- The program's run: the result is the rows normed and modulated, and the arguments are as they were. -/
theorem run : θ_run defs (onTc (τ := τ) (main (F := Ideal))) ⟨m, fun _ => 0, ρ⟩ (fun r => ∀ c : Dev nD,
      r.2.mem ((c.tc : Thread nD τ).loc main_v0) = all m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => by
    obtain rfl : c = 0 := Subsingleton.elim _ _
    exact ⟨(hr 0).1.trans (final m), (hr 0).2⟩) (Value.run_blocks m ρ)

end Cert.Kernel5Ideal.Norm

end
-- ==== Proof.NormClaims.lean ====
/-
  The claims about the norm ahead of the mixers: the frames, and the kernel's result against the reference's.
-/
module

public import proofs.«01_k».proof.Defs
public import proofs.«01_k».proof.Proof.Gen.Kernel5.Frame
public import proofs.«01_k».proof.Proof.NormIValue
public import proofs.«01_k».proof.Proof.MergeRef
public import proofs.«01_k».proof.Proof.Gen.Reference5Ideal.Run

@[expose] public section

set_option maxRecDepth 8192

noncomputable section

namespace Cert.NormClaims

open Idealize.ShloMosaic Idealize.SL.Sem Idealize.ShloMosaic.ValueIdx
open Cert.Reference5Ideal Cert.Reference5Ideal.Gen

theorem kernel_frame : quiescent_Kernel5 (hKernel5 := Cert.Kernel5.Gen.facts) :=
  fun m g _ => Cert.Kernel5.Gen.frame m g

theorem ideal_frame : quiescent_Kernel5Ideal (hKernel5Ideal := Cert.Kernel5Ideal.Gen.facts) :=
  fun m g _ => Cert.Kernel5Ideal.Gen.frame m g

theorem reference_frame : quiescent_Reference5Ideal (hReference5Ideal := Cert.Reference5Ideal.Gen.facts) :=
  fun m g _ => (θ_run _ _ _).mono (fun r h => ⟨fun c => (h c).2, Idealize.ShloMosaic.sem_eq_zero_of_no_sems (by decide) r.2⟩) (Cert.Reference5Ideal.Value.run m g)

/-- The reference's result, from the arrays it is given. -/
abbrev result (x : FVec Ideal S8x2304x1024 .f32) (g : FVec Ideal S1x1024 .f32) (mods : FVec Ideal S8x2x8x1024 .f32) : S8x2304x1024.Idx → EReal :=
  Cert.Reference3Ideal.Merge.moved 0 1 slices_S8x2x8x1024_S8x1x1x1024_0_0_0_0 slices_S8x2x8x1024_S8x1x1x1024_0_1_0_0
    slices_S8x2x8x1024_S8x1x1x1024_0_0_1_0 slices_S8x2x8x1024_S8x1x1x1024_0_1_1_0 x g mods

theorem reference_eq (x : FVec Ideal S8x2304x1024 .f32) (g : FVec Ideal S1x1024 .f32) (mods : FVec Ideal S8x2x8x1024 .f32) :
    result x g mods = Cert.MergeMath.normed x g mods := by
  funext i
  have hi : i = ix3 (i 0) (i 1) (i 2) := funext fun a => match a with | ⟨0, _⟩ => rfl | ⟨1, _⟩ => rfl | ⟨2, _⟩ => rfl
  exact (congrArg (result x g mods) hi).trans
    (Cert.Reference3Ideal.Merge.moved_apply 0 1 _ _ _ _ x g mods (i 0) (i 1) (i 2))

/-- The kernel's result is the reference's. -/
theorem same : algebraic_Kernel5Ideal_Reference5Ideal (hKernel5Ideal := Cert.Kernel5Ideal.Gen.facts)
    (hReference5Ideal := Cert.Reference5Ideal.Gen.facts) := by
  intro m g m' g' _ ha
  refine ⟨fun _ => Cert.Kernel5Ideal.Norm.all m, Cert.Kernel5Ideal.Norm.run m g,
    (θ_run _ _ _).mono (fun _ h c => ⟨(h c).1.trans ?_, (h c).2⟩) (Cert.Reference5Ideal.Value.run m' g')⟩
  obtain rfl : c = 0 := Subsingleton.elim _ _
  obtain ⟨h0, h1, h2⟩ := ha 0
  rw [h0, h1, h2]
  exact reference_eq _ _ _

end Cert.NormClaims

end
-- ==== Proof.AdaIValue.lean ====
/-
  The modulations over the extended reals: the array that the call leaves is, for every layer, the conditioning through
  the gated linear unit times the layer's weights, the layer's bias added.
-/
module

public import proofs.«01_k».proof.Proof.Gen.Kernel4Ideal.Value
public import proofs.«01_k».proof.Proof.MergeMath
public import Idealize.ShloMosaic.Lib.MatmulPlain
public import Idealize.ShloMosaic.Lib.Pipeline.Value

@[expose] public section

set_option maxRecDepth 16384

noncomputable section

namespace Cert.Kernel4Ideal.Ada

open Idealize.ShloMosaic Idealize.ShloMosaic.TcCoe Idealize.ShloMosaic.Tactic Idealize.ShloMosaic.ValueIdx
open Idealize.ShloMosaic.Pipeline
open Cert.Kernel4Ideal.Gen Cert.MergeMath
open scoped BigOperators

variable (m : (ℓ : Loc nD τ sig) → Buf (Elt Ideal) ℓ) (ρ : Dev nD → PrngReg)

/-- The whole result: at layer `l`, row `r` and column `n`, the row times its logistic, times the weights, plus the bias. -/
def modulations (c : S16x1024.Idx → EReal) (w : S4x1024x6144.Idx → EReal) (b : S4x1x6144.Idx → EReal) (i : S4x16x6144.Idx) : EReal :=
  (∑ k : Fin 1024, c (ix2 (i 1) k) * logistic (c (ix2 (i 1) k)) * w (ix3 (i 0) k (i 2))) + b (ix3 (i 0) 0 (i 2))

/-! ## What the body stores, read at an index -/

/-- The conditioning times its logistic, as the body writes it. -/
abbrev gated (x : Vec Ideal S16x1024 .f32) : FVec Ideal S16x1024 .f32 :=
  mulf x (divf (broadcast S16x1024 (Scalar.ofBits .f32 0x3F800000#32)) (addf (broadcast S16x1024 (Scalar.ofBits .f32 0x3F800000#32))
    (exp (subf (broadcast S16x1024 (Scalar.ofBits .f32 0x00000000#32)) x))))

theorem gated_apply (x : Vec Ideal S16x1024 .f32) (r : Fin 16) (k : Fin 1024) :
    gated x (ix2 r k) = x (ix2 r k) * logistic (x (ix2 r k)) := by
  show x (ix2 r k) * Ideal.div one (one + Ideal.exp (Ideal.ofBits .f32 0x00000000#32 - x (ix2 r k))) = _
  rw [Ideal.ofBits_zero_f32, zero_sub]
  rfl

/-- A row spread over the block's rows. -/
theorem over_apply (x : FVec Ideal S1x1024 .f32) (h) (r : Fin 16) (n : Fin 1024) : broadcastTo S16x1024 x h (ix2 r n) = x (ix2 0 n) :=
  broadcastTo_apply x h (ix2 r n) (ix2 0 n) fun a => match a with | ⟨0, _⟩ => rfl | ⟨1, _⟩ => rfl

theorem pay_apply (x : Vec Ideal S16x1024 .f32) (w : Vec Ideal S1x1024x1024 .f32) (b : Vec Ideal S1x1x1024 .f32) (r : Fin 16) (n : Fin 1024) :
    k0_pay1 x w b (ix3 0 r n) = (∑ k : Fin 1024, x (ix2 r k) * logistic (x (ix2 r k)) * w (ix3 0 k n)) + b (ix3 0 0 n) := by
  unfold k0_pay1
  refine (shapeCast_apply _ _ (ix3 0 r n) (ix2 r n) ?_).trans ?_
  · rw [Shape.rowMajor_val_two, Shape.rowMajor_val_three]
    show _ = _
    simp
  show FloatOps.matmul (DotDims.plain 16 1024 1024) none (φ₁ := .f32) (φ₂ := .f32) (gated x) (shapeCast S1024x1024 w _) _ (ix2 r n)
    + broadcastTo S16x1024 (shapeCast S1x1024 b _) _ (ix2 r n) = _
  have hw : ∀ (h) (k : Fin 1024), shapeCast S1024x1024 w h (ix2 k n) = w (ix3 0 k n) := fun h k => by
    refine shapeCast_apply w h (ix2 k n) (ix3 0 k n) ?_
    rw [Shape.rowMajor_val_two, Shape.rowMajor_val_three]
    show _ = _
    simp
  have hb : ∀ h, shapeCast S1x1024 b h (ix2 0 n) = b (ix3 0 0 n) := fun h => by
    refine shapeCast_apply b h (ix2 0 n) (ix3 0 0 n) ?_
    rw [Shape.rowMajor_val_two, Shape.rowMajor_val_three]
    show _ = _
    simp
  rw [over_apply, hb, Ideal.matmul_plain_apply]
  show Ideal.ofBits .f32 0x00000000#32 + _ + _ = _
  rw [Ideal.ofBits_zero_f32, zero_add]
  refine congrArg (· + b (ix3 0 0 n)) (Finset.sum_congr rfl fun k _ => ?_)
  exact congrArg₂ (fun x y : EReal => x * y) (gated_apply x r k) (hw _ k)

theorem none2 : (![0, 0] : Fin 2 → ℕ) = fun _ => 0 := funext fun a => match a with | ⟨0, _⟩ => rfl | ⟨1, _⟩ => rfl
theorem none3 : (![0, 0, 0] : Fin 3 → ℕ) = fun _ => 0 := funext fun a => match a with | ⟨0, _⟩ => rfl | ⟨1, _⟩ => rfl | ⟨2, _⟩ => rfl

theorem out_eq (x : Vec Ideal S16x1024 .f32) (w : Vec Ideal S1x1024x1024 .f32) (b : Vec Ideal S1x1x1024 .f32) :
    out0_3 x w b = k0_pay1 x w b := by
  unfold out0_3
  refine (View.canon_unit_zero none3 _ _).trans ?_
  exact congr (congrArg₂ k0_pay1 (View.ld_unit_zero none2 _ x) (View.ld_unit_zero none3 _ w)) (View.ld_unit_zero none3 _ b)

/-! ## The blocks in their arrays -/

theorem at0 (t : Fin 24) (b : Fin 2) : cc0_transform_0 (grid0.coords t) b = (![0, 0] : Fin 2 → ℕ) b :=
  (by decide +kernel : ∀ (t : Fin grid0.N) (b : Fin 2), cc0_transform_0 (grid0.coords t) b = (![0, 0] : Fin 2 → ℕ) b) t b
theorem at1 (t : Fin 24) (b : Fin 3) : cc0_transform_1 (grid0.coords t) b = (![t.val / 6, 0, t.val % 6] : Fin 3 → ℕ) b :=
  (by decide +kernel : ∀ (t : Fin grid0.N) (b : Fin 3), cc0_transform_1 (grid0.coords t) b = (![t.val / 6, 0, t.val % 6] : Fin 3 → ℕ) b) t b
theorem at2 (t : Fin 24) (b : Fin 3) : cc0_transform_2 (grid0.coords t) b = (![t.val / 6, 0, t.val % 6] : Fin 3 → ℕ) b :=
  (by decide +kernel : ∀ (t : Fin grid0.N) (b : Fin 3), cc0_transform_2 (grid0.coords t) b = (![t.val / 6, 0, t.val % 6] : Fin 3 → ℕ) b) t b
theorem at3 (t : Fin 24) (b : Fin 3) : cc0_transform_3 (grid0.coords t) b = (![t.val / 6, 0, t.val % 6] : Fin 3 → ℕ) b :=
  (by decide +kernel : ∀ (t : Fin grid0.N) (b : Fin 3), cc0_transform_3 (grid0.coords t) b = (![t.val / 6, 0, t.val % 6] : Fin 3 → ℕ) b) t b

theorem emb0 (t : Fin grid0.N) (y : S16x1024.Idx) (b : Fin 2) :
    (((cfg0.win 0).blk t).view.emb y b : ℕ) = cc0_transform_0 (grid0.coords t) b * S16x1024.size b + 1 * (y b : ℕ) := rfl
theorem emb1 (t : Fin grid0.N) (y : S1x1024x1024.Idx) (b : Fin 3) :
    (((cfg0.win 1).blk t).view.emb y b : ℕ) = cc0_transform_1 (grid0.coords t) b * S1x1024x1024.size b + 1 * (y b : ℕ) := rfl
theorem emb2 (t : Fin grid0.N) (y : S1x1x1024.Idx) (b : Fin 3) :
    (((cfg0.win 2).blk t).view.emb y b : ℕ) = cc0_transform_2 (grid0.coords t) b * S1x1x1024.size b + 1 * (y b : ℕ) := rfl
theorem emb3 (t : Fin grid0.N) (y : S1x16x1024.Idx) (b : Fin 3) :
    (((cfg0.win 3).blk t).view.emb y b : ℕ) = cc0_transform_3 (grid0.coords t) b * S1x16x1024.size b + 1 * (y b : ℕ) := rfl

abbrev argC : S16x1024.Idx → EReal := m (((0 : Dev nD) : Thread nD τ).loc main_arg0)
abbrev argW : S4x1024x6144.Idx → EReal := m (((0 : Dev nD) : Thread nD τ).loc main_arg1)
abbrev argB : S4x1x6144.Idx → EReal := m (((0 : Dev nD) : Thread nD τ).loc main_arg2)

/-- The layer, and the column, at point `t`. -/
abbrev layer (t : Fin 24) : Fin 4 := ⟨t.val / 6, by have := t.isLt; omega⟩
abbrev column (t : Fin 24) (n : Fin 1024) : Fin 6144 := ⟨t.val % 6 * 1024 + n.val, by have := n.isLt; omega⟩

theorem read0 (t : Fin 24) (r : Fin 16) (k : Fin 1024) :
    (iblk m 0 0 t : S16x1024.Idx → EReal) (ix2 r k) = argC m (ix2 r k) := by
  refine congrArg (argC m) (funext fun a => Fin.ext ?_)
  refine (emb0 t _ a).trans ?_
  rw [at0]
  match a with
  | ⟨0, _⟩ => show 0 * 16 + 1 * r.val = r.val; omega
  | ⟨1, _⟩ => show 0 * 1024 + 1 * k.val = k.val; omega

theorem read1 (t : Fin 24) (k n : Fin 1024) :
    (iblk m 0 1 t : S1x1024x1024.Idx → EReal) (ix3 0 k n) = argW m (ix3 (layer t) k (column t n)) := by
  refine congrArg (argW m) (funext fun a => Fin.ext ?_)
  refine (emb1 t _ a).trans ?_
  rw [at1]
  match a with
  | ⟨0, _⟩ => show t.val / 6 * 1 + 1 * 0 = t.val / 6; omega
  | ⟨1, _⟩ => show 0 * 1024 + 1 * k.val = k.val; omega
  | ⟨2, _⟩ => show t.val % 6 * 1024 + 1 * n.val = t.val % 6 * 1024 + n.val; omega

theorem read2 (t : Fin 24) (n : Fin 1024) :
    (iblk m 0 2 t : S1x1x1024.Idx → EReal) (ix3 0 0 n) = argB m (ix3 (layer t) 0 (column t n)) := by
  refine congrArg (argB m) (funext fun a => Fin.ext ?_)
  refine (emb2 t _ a).trans ?_
  rw [at2]
  match a with
  | ⟨0, _⟩ => show t.val / 6 * 1 + 1 * 0 = t.val / 6; omega
  | ⟨1, _⟩ => show 0 * 1 + 1 * 0 = 0; omega
  | ⟨2, _⟩ => show t.val % 6 * 1024 + 1 * n.val = t.val % 6 * 1024 + n.val; omega

/-! ## The result -/

/-- What the result's array is shown to hold. -/
abbrev all : S4x16x6144.Idx → EReal := modulations (argC m) (argW m) (argB m)

theorem all_eq (t : Fin 24) (r : Fin 16) (n : Fin 1024) :
    (out0_3 (iblk m 0 0 t) (iblk m 0 1 t) (iblk m 0 2 t) : S1x16x1024.Idx → EReal) (ix3 0 r n) = all m (ix3 (layer t) r (column t n)) := by
  rw [out_eq]
  refine (pay_apply _ _ _ r n).trans ?_
  refine congrArg₂ (fun x y : EReal => x + y) (Finset.sum_congr rfl fun k _ => ?_) (read2 m t n)
  exact congrArg₂ (fun x y : EReal => x * logistic x * y) (read0 m t r k) (read1 m t k n)

theorem flushed (t : Fin 24) :
    (dats m 0 0).flushed 3 t = ((cfg0.win 3).blk t).view.read (Elt Ideal) (all m) := by
  refine (Value.flushed3 m 0 t).trans ?_
  refine funext fun (y : S1x16x1024.Idx) => ?_
  have hy : y = ix3 0 (y 1) (y 2) := funext fun a => match a with
    | ⟨0, _⟩ => Subsingleton.elim (α := Fin 1) _ _ | ⟨1, _⟩ => rfl | ⟨2, _⟩ => rfl
  refine (congrArg (out0_3 (iblk m 0 0 t) (iblk m 0 1 t) (iblk m 0 2 t)) hy).trans ((all_eq m t (y 1) (y 2)).trans ?_)
  refine congrArg (all m) (funext fun a => Fin.ext ?_)
  refine Eq.trans ?_ (emb3 t y a).symm
  rw [at3]
  have h0 : (y 0).val = 0 := Nat.lt_one_iff.mp (y 0).isLt
  match a with
  | ⟨0, _⟩ => show t.val / 6 = t.val / 6 * 1 + 1 * (y 0).val; omega
  | ⟨1, _⟩ => show (y 1).val = 0 * 16 + 1 * (y 1).val; omega
  | ⟨2, _⟩ => show t.val % 6 * 1024 + (y 2).val = t.val % 6 * 1024 + 1 * (y 2).val; omega

theorem covered (i : S4x16x6144.Idx) :
    ∃ t : Fin cfg0.N, (cfg0.win 3).flush t = true ∧ i ∈ ((cfg0.win 3).blk t).view.set := by
  have h0 : (i 0).val < 4 := (i 0).isLt
  have h2 : (i 2).val < 6144 := (i 2).isLt
  let t : Fin 24 := ⟨(i 0).val * 6 + (i 2).val / 1024, by omega⟩
  let y : S1x16x1024.Idx := ix3 0 (i 1) ⟨(i 2).val % 1024, Nat.mod_lt _ (by decide)⟩
  refine ⟨t, flush0_3 t, ?_⟩
  have e : ((cfg0.win 3).blk t).view.emb y = i := by
    refine funext fun a => Fin.ext ?_
    refine (emb3 t y a).trans ?_
    rw [at3]
    match a with
    | ⟨0, _⟩ => show ((i 0).val * 6 + (i 2).val / 1024) / 6 * 1 + 1 * 0 = (i 0).val; omega
    | ⟨1, _⟩ => show 0 * 16 + 1 * (i 1).val = (i 1).val; omega
    | ⟨2, _⟩ => show ((i 0).val * 6 + (i 2).val / 1024) % 6 * 1024 + 1 * ((i 2).val % 1024) = (i 2).val; omega
  exact e ▸ View.emb_mem_set _ y

theorem final : (dats m 0 0).arrAt 3 cfg0.N = all m :=
  (dats m 0 0).arrAt_eq_of_cover 3 (all m) (fun t _ => flushed m t) covered

/-- The program's run: the result is the modulations, and the arguments are as they were. -/
theorem run : θ_run defs (onTc (τ := τ) (main (F := Ideal))) ⟨m, fun _ => 0, ρ⟩ (fun r => ∀ c : Dev nD,
      r.2.mem ((c.tc : Thread nD τ).loc main_v0) = all m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => by
    obtain rfl : c = 0 := Subsingleton.elim _ _
    exact ⟨(hr 0).1.trans (final m), (hr 0).2⟩) (Value.run_blocks m ρ)

end Cert.Kernel4Ideal.Ada

end
-- ==== Proof.AdaClaims.lean ====
/-
  The claims about the modulations: the frames, and the kernel's result against the reference's.
-/
module

public import proofs.«01_k».proof.Defs
public import proofs.«01_k».proof.Proof.Gen.Kernel4.Frame
public import proofs.«01_k».proof.Proof.AdaIValue
public import proofs.«01_k».proof.Proof.DotRead
public import proofs.«01_k».proof.Proof.Gen.Reference4Ideal.Run
public import Idealize.ShloMosaic.Lib.ValueLayout
public import Idealize.ShloMosaic.Lib.IdealHost

@[expose] public section

set_option maxRecDepth 8192

noncomputable section

namespace Cert.AdaClaims

open Idealize.ShloMosaic Idealize.SL.Sem Idealize.ShloMosaic.ValueIdx
open Cert.Reference4Ideal Cert.Reference4Ideal.Gen

theorem kernel_frame : quiescent_Kernel4 (hKernel4 := Cert.Kernel4.Gen.facts) :=
  fun m g _ => Cert.Kernel4.Gen.frame m g

theorem ideal_frame : quiescent_Kernel4Ideal (hKernel4Ideal := Cert.Kernel4Ideal.Gen.facts) :=
  fun m g _ => Cert.Kernel4Ideal.Gen.frame m g

theorem reference_frame : quiescent_Reference4Ideal (hReference4Ideal := Cert.Reference4Ideal.Gen.facts) :=
  fun m g _ => (θ_run _ _ _).mono (fun r h => ⟨fun c => (h c).2, Idealize.ShloMosaic.sem_eq_zero_of_no_sems (by decide) r.2⟩) (Cert.Reference4Ideal.Value.run m g)

/-- The reference's gated linear unit, -/
abbrev silu (c : FVec Ideal S16x1024 .f32) : FVec Ideal S16x1024 .f32 :=
  mulf c (Host.divf (broadcastInDim S16x1024 ![] bcast_S_S16x1024 (constant S_ .f32 0x3F800000#32))
    (addf (broadcastInDim S16x1024 ![] bcast_S_S16x1024 (constant S_ .f32 0x3F800000#32)) (Host.exp (Host.negf c))))

/-- its product with the weights, -/
abbrev product (c : FVec Ideal S16x1024 .f32) (w : FVec Ideal S4x1024x6144 .f32) : FVec Ideal S4x16x6144 .f32 :=
  transpose S4x16x6144 [0, 2, 1] (Host.dotGeneral dot_S4x1024x6144_S16x1024_S4x6144x16_1_1_02_0_n_n none w (silu c)) transposes_S4x6144x16_S4x16x6144_0_2_1

/-- and its bias over the rows. -/
abbrev bias (b : FVec Ideal S4x1x6144 .f32) : FVec Ideal S4x16x6144 .f32 :=
  broadcastInDim S4x16x6144 ![0, 1, 2] bcast_S4x1x6144_S4x16x6144_0_1_2 b

theorem product_apply (c : FVec Ideal S16x1024 .f32) (w : FVec Ideal S4x1024x6144 .f32) (l : Fin 4) (r : Fin 16) (n : Fin 6144) :
    product c w (ix3 l r n) = ∑ k : Fin 1024, c (ix2 r k) * Cert.MergeMath.logistic (c (ix2 r k)) * w (ix3 l k n) := by
  refine (transpose_ix3_021_apply _ _ l r n).trans ?_
  refine (Cert.DotRead.dot_ekf_rk _ none _ _ l n r).trans ?_
  exact Finset.sum_congr rfl fun k _ => mul_comm _ _

theorem bias_apply (b : FVec Ideal S4x1x6144 .f32) (l : Fin 4) (r : Fin 16) (n : Fin 6144) : bias b (ix3 l r n) = b (ix3 l 0 n) :=
  broadcastInDim_apply _ _ b _ (ix3 l 0 n) fun a => match a with | ⟨0, _⟩ => rfl | ⟨1, _⟩ => rfl | ⟨2, _⟩ => rfl

theorem reference_eq (c : FVec Ideal S16x1024 .f32) (w : FVec Ideal S4x1024x6144 .f32) (b : FVec Ideal S4x1x6144 .f32) :
    (addf (product c w) (bias b) : S4x16x6144.Idx → EReal) = Cert.Kernel4Ideal.Ada.modulations c w b := by
  funext i
  have hi : i = ix3 (i 0) (i 1) (i 2) := funext fun a => match a with | ⟨0, _⟩ => rfl | ⟨1, _⟩ => rfl | ⟨2, _⟩ => rfl
  refine (congrArg (fun j => product c w j + bias b j) hi).trans ?_
  exact congrArg₂ (fun x y : EReal => x + y) (product_apply c w (i 0) (i 1) (i 2)) (bias_apply b (i 0) (i 1) (i 2))

/-- The kernel's result is the reference's. -/
theorem same : algebraic_Kernel4Ideal_Reference4Ideal (hKernel4Ideal := Cert.Kernel4Ideal.Gen.facts)
    (hReference4Ideal := Cert.Reference4Ideal.Gen.facts) := by
  intro m g m' g' _ ha
  refine ⟨fun _ => Cert.Kernel4Ideal.Ada.all m, Cert.Kernel4Ideal.Ada.run m g,
    (θ_run _ _ _).mono (fun _ h c => ⟨(h c).1.trans ?_, (h c).2⟩) (Cert.Reference4Ideal.Value.run m' g')⟩
  obtain rfl : c = 0 := Subsingleton.elim _ _
  obtain ⟨h0, h1, h2⟩ := ha 0
  rw [h0, h1, h2]
  exact reference_eq _ _ _

end Cert.AdaClaims

end
-- ==== Proof.lean ====
/-
  The certificate: each claim, from the module that proves it.
-/
module

public import proofs.«01_k».proof.Defs
public import proofs.«01_k».proof.Proof.MoeClaims
public import proofs.«01_k».proof.Proof.ProjClaims
public import proofs.«01_k».proof.Proof.MergeClaims
public import proofs.«01_k».proof.Proof.NormClaims
public import proofs.«01_k».proof.Proof.AdaClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_routed.Gen.facts,
    MoeClaims.kernel_frame, MoeClaims.ideal_frame, MoeClaims.reference_frame, MoeClaims.reference_frame_routed,
    ProjClaims.kernel_frame, ProjClaims.ideal_frame, ProjClaims.reference_frame,
    MergeClaims.kernel_frame, MergeClaims.ideal_frame, MergeClaims.reference_frame,
    AdaClaims.kernel_frame, AdaClaims.ideal_frame, AdaClaims.reference_frame,
    NormClaims.kernel_frame, NormClaims.ideal_frame, NormClaims.reference_frame,
    trivial, MoeClaims.same, trivial, ProjClaims.same, trivial, MergeClaims.same,
    trivial, AdaClaims.same, trivial, NormClaims.same⟩

end Cert.Proof

end
